-- ==== Defs.lean ====
def Pre_Kernel (m : (ℓ : Loc Cert.Kernel.nD Cert.Kernel.τ Cert.Kernel.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal [hPre_finite : Cert.Pre_finite.Facts] (m : (ℓ : Loc Cert.MoeIdeal.nD Cert.MoeIdeal.τ Cert.MoeIdeal.sig) → Buf (Elt Ideal) ℓ) : Prop :=
  ∀ c : Dev Cert.MoeIdeal.nD,
    (Cert.Pre_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeIdeal_none (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_finite [hPre_finite : Cert.Pre_finite.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_finite.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] [hPre_finite : Cert.Pre_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_none [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_none m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8))
      ∧ r.2.sem = fun _ => 0)

def quiescent_MoeReferenceIdeal_pre_finite [hMoeReferenceIdeal : Cert.MoeReferenceIdeal.Facts] [hPre_finite : Cert.Pre_finite.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_finite m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8))
      ∧ r.2.sem = fun _ => 0)

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v67) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)) (v5 : (c : Dev Cert.MixIdeal.nD) → Buf (Elt Ideal) ((c.tc : Thread Cert.MixIdeal.nD Cert.MixIdeal.τ).loc Cert.MixIdeal.main_v0_7)) (v6 : (c : Dev Cert.MixIdeal.nD) → Buf (Elt Ideal) ((c.tc : Thread Cert.MixIdeal.nD Cert.MixIdeal.τ).loc Cert.MixIdeal.main_v0_10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_v0_4) = v4 c
          ∧ r.2.mem ((c.tc : Thread Cert.MixIdeal.nD Cert.MixIdeal.τ).loc Cert.MixIdeal.main_v0_7) = v5 c
          ∧ r.2.mem ((c.tc : Thread Cert.MixIdeal.nD Cert.MixIdeal.τ).loc Cert.MixIdeal.main_v0_10) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v54) = v0 c
          ∧ r.2.mem ((c.tc : Thread Cert.MixReferenceIdeal.nD Cert.MixReferenceIdeal.τ).loc Cert.MixReferenceIdeal.main_v29) = v1 c
          ∧ r.2.mem ((c.tc : Thread Cert.MixReferenceIdeal.nD Cert.MixReferenceIdeal.τ).loc Cert.MixReferenceIdeal.main_v30) = v2 c
          ∧ r.2.mem ((c.tc : Thread Cert.MixReferenceIdeal.nD Cert.MixReferenceIdeal.τ).loc Cert.MixReferenceIdeal.main_v31) = v3 c
          ∧ r.2.mem ((c.tc : Thread Cert.MixReferenceIdeal.nD Cert.MixReferenceIdeal.τ).loc Cert.MixReferenceIdeal.main_v45) = v4 c
          ∧ r.2.mem ((c.tc : Thread Cert.MixReferenceIdeal.nD Cert.MixReferenceIdeal.τ).loc Cert.MixReferenceIdeal.main_v55) = v5 c
          ∧ r.2.mem ((c.tc : Thread Cert.MixReferenceIdeal.nD Cert.MixReferenceIdeal.τ).loc Cert.MixReferenceIdeal.main_v52) = v6 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12))

def preserves_Moe_MoeIdeal : Prop :=
  True

def algebraic_MoeIdeal_MoeReferenceIdeal [hMoeIdeal : Cert.MoeIdeal.Facts] [hMoeReferenceIdeal : Cert.MoeReferenceIdeal.Facts] [hPre_finite : Cert.Pre_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)
      ∧ m' ((c.tc : Thread Cert.MoeReferenceIdeal.nD Cert.MoeReferenceIdeal.τ).loc Cert.MoeReferenceIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v143) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8))

def Claim : Prop :=
  ∃ (hKernel : Cert.Kernel.Facts) (hMerge : Cert.Merge.Facts) (hMergeIdeal : Cert.MergeIdeal.Facts) (hMergeReferenceIdeal : Cert.MergeReferenceIdeal.Facts) (hMix : Cert.Mix.Facts) (hMixIdeal : Cert.MixIdeal.Facts) (hMixReferenceIdeal : Cert.MixReferenceIdeal.Facts) (hMoe : Cert.Moe.Facts) (hMoeIdeal : Cert.MoeIdeal.Facts) (hMoeReferenceIdeal : Cert.MoeReferenceIdeal.Facts) (hPre_finite : Cert.Pre_finite.Facts),
    quiescent_Kernel (hKernel := hKernel)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mix (hMix := hMix)
    ∧ quiescent_MixIdeal (hMixIdeal := hMixIdeal)
    ∧ quiescent_MixReferenceIdeal (hMixReferenceIdeal := hMixReferenceIdeal)
    ∧ quiescent_Moe (hMoe := hMoe)
    ∧ quiescent_MoeIdeal (hMoeIdeal := hMoeIdeal) (hPre_finite := hPre_finite)
    ∧ quiescent_MoeIdeal_pre_none (hMoeIdeal := hMoeIdeal)
    ∧ quiescent_MoeReferenceIdeal (hMoeReferenceIdeal := hMoeReferenceIdeal)
    ∧ quiescent_MoeReferenceIdeal_pre_finite (hMoeReferenceIdeal := hMoeReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Mix_MixIdeal
    ∧ algebraic_MixIdeal_MixReferenceIdeal (hMixIdeal := hMixIdeal) (hMixReferenceIdeal := hMixReferenceIdeal)
    ∧ preserves_Moe_MoeIdeal
    ∧ algebraic_MoeIdeal_MoeReferenceIdeal (hMoeIdeal := hMoeIdeal) (hMoeReferenceIdeal := hMoeReferenceIdeal) (hPre_finite := hPre_finite)
-- ==== Pre_finite.lean ====
abbrev S16384x1024 : Shape := ⟨2, ![16384, 1024]⟩
abbrev S6x1024 : Shape := ⟨2, ![6, 1024]⟩
abbrev S1x1024 : Shape := ⟨2, ![1, 1024]⟩
abbrev S1024x128 : Shape := ⟨2, ![1024, 128]⟩
abbrev S1x128 : Shape := ⟨2, ![1, 128]⟩
abbrev S1024x8192 : Shape := ⟨2, ![1024, 8192]⟩
abbrev S8192x1024 : Shape := ⟨2, ![8192, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg5 : FVec F S1x128 .f32) (main_v4 : IVec S_ 1) (main_v8 : IVec S_ 1) (main_v12 : IVec S_ 1) (main_v15 : IVec S1024x128 1) (main_c_5 : IVec S_ 1) : IVec S_ 1 :=
  let main_v16 : IVec S_ 1 := (fun x v => Host.reduce IntOp.andi x v reducesTo_S1024x128_S_d0_1 h_S_) main_v15 main_c_5
  let main_v17 : FVec F S1x128 .f32 := Host.absf main_arg5
  let main_cst_6 : FVec F S_ .f32 := constant S_ .f32 0x7F800000#32
  let main_v18 : FVec F S1x128 .f32 := broadcastInDim S1x128 ![] bcast_S_S1x128 main_cst_6
  let main_v19 : IVec S1x128 1 := cmpf .olt main_v17 main_v18
  let main_c_7 : IVec S_ 1 := constantI S_ 1 1#1
  let main_v20 : IVec S_ 1 := (fun x v => Host.reduce IntOp.andi x v reducesTo_S1x128_S_d0_1 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S16384x1024 .f32) (main_arg1 : FVec F S6x1024 .f32) (main_arg2 : FVec F S1x1024 .f32) (main_arg3 : FVec F S1x1024 .f32) (main_arg4 : FVec F S1024x128 .bf16) (main_arg5 : FVec F S1x128 .f32) (main_arg6 : FVec F S1024x8192 .bf16) (main_arg7 : FVec F S1024x8192 .bf16) (main_arg8 : FVec F S8192x1024 .bf16) : IVec S_ 1 :=
  let main_v0 : FVec F S1024x128 .f32 := (extf .f32 · bitsLt_bf16_f32) main_arg4
  let main_v1 : FVec F S16384x1024 .f32 := Host.absf main_arg0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S6x1024 .f32 := Host.absf main_arg1
  let main_cst_0 : FVec F S_ .f32 := constant S_ .f32 0x7F800000#32
  let main_v6 : FVec F S6x1024 .f32 := broadcastInDim S6x1024 ![] bcast_S_S6x1024 main_cst_0
  let main_v7 : IVec S6x1024 1 := cmpf .olt main_v5 main_v6
  let main_c_1 : IVec S_ 1 := constantI S_ 1 1#1
  let main_v8 : IVec S_ 1 := (fun x v => Host.reduce IntOp.andi x v reducesTo_S6x1024_S_d0_1 h_S_) main_v7 main_c_1
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : FVec F S1024x128 .f32 := Host.absf main_v0
  let main_cst_4 : FVec F S_ .f32 := constant S_ .f32 0x7F800000#32
  let main_v14 : FVec F S1024x128 .f32 := broadcastInDim S1024x128 ![] bcast_S_S1024x128 main_cst_4
  let main_v15 : IVec S1024x128 1 := cmpf .olt main_v13 main_v14
  let main_c_5 : IVec S_ 1 := constantI S_ 1 1#1
  fn_part1 (F := F) main_arg5 main_v4 main_v8 main_v12 main_v15 main_c_5
-- ==== Kernel.lean ====
abbrev S64x2048x64 : Shape := ⟨3, ![64, 2048, 64]⟩
abbrev S64x16384 : Shape := ⟨2, ![64, 16384]⟩
abbrev S16384x128 : Shape := ⟨2, ![16384, 128]⟩
abbrev S16384x512 : Shape := ⟨2, ![16384, 512]⟩
abbrev S512x16384 : Shape := ⟨2, ![512, 16384]⟩
abbrev S1x2048x64 : Shape := ⟨3, ![1, 2048, 64]⟩
abbrev S256x128 : Shape := ⟨2, ![256, 128]⟩
abbrev S256x512 : Shape := ⟨2, ![256, 512]⟩
abbrev S16x256x1024 : Shape := ⟨3, ![16, 256, 1024]⟩
abbrev S4x256x128 : Shape := ⟨3, ![4, 256, 128]⟩
abbrev S8x256x128 : Shape := ⟨3, ![8, 256, 128]⟩
abbrev S4x512x128 : Shape := ⟨3, ![4, 512, 128]⟩
abbrev S4x512x512 : Shape := ⟨3, ![4, 512, 512]⟩
abbrev S8 : Shape := ⟨1, ![8]⟩
abbrev S2x512x512 : Shape := ⟨3, ![2, 512, 512]⟩
abbrev S2x2 : Shape := ⟨2, ![2, 2]⟩
abbrev S256x1 : Shape := ⟨2, ![256, 1]⟩
abbrev S1x512 : Shape := ⟨2, ![1, 512]⟩
abbrev S1x1 : Shape := ⟨2, ![1, 1]⟩
abbrev S_ : Shape := ⟨0, ![]⟩
abbrev S1x512x512 : Shape := ⟨3, ![1, 512, 512]⟩
abbrev S512x512 : Shape := ⟨2, ![512, 512]⟩
abbrev S1x64x512 : Shape := ⟨3, ![1, 64, 512]⟩
abbrev S64x512 : Shape := ⟨2, ![64, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S1x256x128 : Shape := ⟨3, ![1, 256, 128]⟩
abbrev S2048x64 : Shape := ⟨2, ![2048, 64]⟩
abbrev S64x1024 : Shape := ⟨2, ![64, 1024]⟩
abbrev S2048x1024 : Shape := ⟨2, ![2048, 1024]⟩
abbrev S256x1024 : Shape := ⟨2, ![256, 1024]⟩
abbrev S1x256x1024 : Shape := ⟨3, ![1, 256, 1024]⟩
abbrev S1x8x128 : Shape := ⟨3, ![1, 8, 128]⟩
abbrev S8x128 : Shape := ⟨2, ![8, 128]⟩
abbrev S256 : Shape := ⟨1, ![256]⟩
abbrev S1x256x1 : Shape := ⟨3, ![1, 256, 1]⟩
abbrev S1x512x128 : Shape := ⟨3, ![1, 512, 128]⟩
abbrev S512x128 : Shape := ⟨2, ![512, 128]⟩
abbrev S512x1 : Shape := ⟨2, ![512, 1]⟩
abbrev S1x4x512x128 : Shape := ⟨4, ![1, 4, 512, 128]⟩
abbrev S1x1x1x1 : Shape := ⟨4, ![1, 1, 1, 1]⟩
abbrev S1x128x512 : Shape := ⟨3, ![1, 128, 512]⟩
abbrev S128x512 : Shape := ⟨2, ![128, 512]⟩
abbrev S1x32x512 : Shape := ⟨3, ![1, 32, 512]⟩
abbrev S32x512 : Shape := ⟨2, ![32, 512]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩

abbrev nBuf : Space → Nat
  | .hbm => 7
  | .vmem => 24
  | .smem => 1
  | _ => 0

abbrev bufTy : (tb : Table) → Fin (tcTables nBuf tb) → BufTy
  | .hbm, ⟨0, _⟩ => ⟨S64x2048x64, .bf16⟩
  | .hbm, ⟨1, _⟩ => ⟨S64x16384, .bf16⟩
  | .hbm, ⟨2, _⟩ => ⟨S16384x128, .f32⟩
  | .hbm, ⟨3, _⟩ => ⟨S16384x512, .bf16⟩
  | .hbm, ⟨4, _⟩ => ⟨S512x16384, .bf16⟩
  | .hbm, ⟨5, _⟩ => ⟨S16384x512, .bf16⟩
  | .hbm, ⟨6, _⟩ => ⟨S16384x512, .f32⟩
  | .local _ .vmem, ⟨0, _⟩ => ⟨S1x2048x64, .bf16⟩
  | .local _ .vmem, ⟨1, _⟩ => ⟨S1x2048x64, .bf16⟩
  | .local _ .vmem, ⟨2, _⟩ => ⟨S64x16384, .bf16⟩
  | .local _ .vmem, ⟨3, _⟩ => ⟨S256x128, .f32⟩
  | .local _ .vmem, ⟨4, _⟩ => ⟨S256x128, .f32⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | .local _ .vmem, ⟨9, _⟩ => ⟨S16x256x1024, .i32⟩
  | .local _ .vmem, ⟨10, _⟩ => ⟨S4x256x128, .i32⟩
  | .local _ .vmem, ⟨11, _⟩ => ⟨S4x256x128, .i32⟩
  | .local _ .vmem, ⟨12, _⟩ => ⟨S8x256x128, .f32⟩
  | .local _ .vmem, ⟨13, _⟩ => ⟨S4x512x128, .bf16⟩
  | .local _ .vmem, ⟨14, _⟩ => ⟨S4x512x512, .f32⟩
  | .local _ .vmem, ⟨15, _⟩ => ⟨S4x512x512, .bf16⟩
  | .local _ .vmem, ⟨16, _⟩ => ⟨S256x512, .f32⟩
  | .local _ .vmem, ⟨17, _⟩ => ⟨S4x512x128, .f32⟩
  | .local _ .vmem, ⟨18, _⟩ => ⟨S4x512x128, .f32⟩
  | .local _ .vmem, ⟨19, _⟩ => ⟨S4x512x128, .f32⟩
  | .local _ .vmem, ⟨20, _⟩ => ⟨S4x512x128, .f32⟩
  | .local _ .vmem, ⟨21, _⟩ => ⟨S4x512x128, .f32⟩
  | .local _ .vmem, ⟨22, _⟩ => ⟨S2x512x512, .bf16⟩
  | .local _ .vmem, ⟨23, _⟩ => ⟨S2x512x512, .bf16⟩
  | .local _ .smem, ⟨0, _⟩ => ⟨S8, .f32⟩
  | _, _ => ⟨S64x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch13 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![64], ![false]⟩

def k0_cond1 (i : grid0.Coords) : BitVec 1 :=
  let arg0 : BitVec 32 := BitVec.ofNat 32 (i 0).val
  let c0_i32_18 : BitVec 32 := 0#32
  let v47 : BitVec 1 := Scalar.cmpi .eq arg0 c0_i32_18
  let v48 : BitVec 32 := Scalar.extui v47
  let c0_i32_19 : BitVec 32 := 0#32
  let v49 : BitVec 1 := Scalar.cmpi .ne v48 c0_i32_19
  v49

@[reducible] def k0_t1_loop : Scf.Loop 32 :=
  let c0_i32_413 : BitVec 32 := 0#32
  let c32_i32_414 : BitVec 32 := 32#32
  let v758 : BitVec 32 := Scalar.addi c0_i32_413 c32_i32_414
  let c1_i32_415 : BitVec 32 := 1#32
  ⟨c0_i32_413, v758, c1_i32_415⟩
def k0_mult1 (k0_t1 : Fin k0_t1_loop.trips) : BitVec 32 :=
  let c0_i32_413 : BitVec 32 := 0#32
  let c1_i32_415 : BitVec 32 := 1#32
  let arg25 : BitVec 32 := Scf.iv c0_i32_413 c1_i32_415 k0_t1
  let c512_i32_433 : BitVec 32 := 512#32
  let v808 : BitVec 32 := Scalar.muli arg25 c512_i32_433
  v808
def k0_off1 (k0_t1 : Fin k0_t1_loop.trips) : Fin 2 → Nat :=
  let c0_i32_439 : BitVec 32 := 0#32
  let c0_i32_413 : BitVec 32 := 0#32
  let c1_i32_415 : BitVec 32 := 1#32
  let arg25 : BitVec 32 := Scf.iv c0_i32_413 c1_i32_415 k0_t1
  let c512_i32_433 : BitVec 32 := 512#32
  let v808 : BitVec 32 := Scalar.muli arg25 c512_i32_433
  let v809 : BitVec 32 := v808
  ![0, v809.toNat]
@[reducible] def k0_t2_loop (i : grid0.Coords) : Scf.Loop 32 :=
  let c0_i32_39 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let v99 : BitVec 32 := Scalar.subi v41 c0_i32_39
  let c1_i32_40 : BitVec 32 := 1#32
  let v101 : BitVec 32 := Scalar.divsi v99 c1_i32_40
  let v102 : BitVec 32 := Scalar.muli v101 c1_i32_40
  let v103 : BitVec 32 := Scalar.addi c0_i32_39 v102
  let c1_i32_41 : BitVec 32 := 1#32
  ⟨c0_i32_39, v103, c1_i32_41⟩
def k0_mult2 (i : grid0.Coords) (k0_t2 : Fin (k0_t2_loop i).trips) : BitVec 32 :=
  let c0_i32_39 : BitVec 32 := 0#32
  let c1_i32_41 : BitVec 32 := 1#32
  let arg25 : BitVec 32 := Scf.iv c0_i32_39 c1_i32_41 k0_t2
  let c1024_i32_404 : BitVec 32 := 1024#32
  let v748 : BitVec 32 := Scalar.muli arg25 c1024_i32_404
  v748
def k0_off2 (i : grid0.Coords) (k0_t2 : Fin (k0_t2_loop i).trips) : Fin 2 → Nat :=
  let c0_405 : Index := 0#32
  let c0_i32_39 : BitVec 32 := 0#32
  let c1_i32_41 : BitVec 32 := 1#32
  let arg25 : BitVec 32 := Scf.iv c0_i32_39 c1_i32_41 k0_t2
  let c1024_i32_404 : BitVec 32 := 1024#32
  let v748 : BitVec 32 := Scalar.muli arg25 c1024_i32_404
  let v749 : BitVec 32 := v748
  let v750 : Index := Scalar.indexCast v749
  ![0, v750.toNat]
def k0_off3 (i : grid0.Coords) (k0_t2 : Fin (k0_t2_loop i).trips) : Fin 3 → Nat :=
  let c0_i32_39 : BitVec 32 := 0#32
  let c1_i32_41 : BitVec 32 := 1#32
  let arg25 : BitVec 32 := Scf.iv c0_i32_39 c1_i32_41 k0_t2
  let v828 : Index := Scalar.indexCast arg25
  let c0_442 : Index := 0#32
  let c0_443 : Index := 0#32
  ![v828.toNat, 0, 0]
@[reducible] def k0_t3_loop (i : grid0.Coords) : Scf.Loop 32 :=
  let c0_i32_39 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let v99 : BitVec 32 := Scalar.subi v41 c0_i32_39
  let c1_i32_40 : BitVec 32 := 1#32
  let v101 : BitVec 32 := Scalar.divsi v99 c1_i32_40
  let v102 : BitVec 32 := Scalar.muli v101 c1_i32_40
  let v103 : BitVec 32 := Scalar.addi c0_i32_39 v102
  let v100 : BitVec 32 := Scalar.addi c0_i32_39 v99
  let c1_i32_42 : BitVec 32 := 1#32
  ⟨v103, v100, c1_i32_42⟩
def k0_mult3 (i : grid0.Coords) (k0_t3 : Fin (k0_t3_loop i).trips) : BitVec 32 :=
  let c0_i32_39 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let v99 : BitVec 32 := Scalar.subi v41 c0_i32_39
  let c1_i32_40 : BitVec 32 := 1#32
  let v101 : BitVec 32 := Scalar.divsi v99 c1_i32_40
  let v102 : BitVec 32 := Scalar.muli v101 c1_i32_40
  let v103 : BitVec 32 := Scalar.addi c0_i32_39 v102
  let c1_i32_42 : BitVec 32 := 1#32
  let arg25 : BitVec 32 := Scf.iv v103 c1_i32_42 k0_t3
  let c1024_i32_404 : BitVec 32 := 1024#32
  let v748 : BitVec 32 := Scalar.muli arg25 c1024_i32_404
  v748
def k0_off4 (i : grid0.Coords) (k0_t3 : Fin (k0_t3_loop i).trips) : Fin 2 → Nat :=
  let c0_405 : Index := 0#32
  let c0_i32_39 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let v99 : BitVec 32 := Scalar.subi v41 c0_i32_39
  let c1_i32_40 : BitVec 32 := 1#32
  let v101 : BitVec 32 := Scalar.divsi v99 c1_i32_40
  let v102 : BitVec 32 := Scalar.muli v101 c1_i32_40
  let v103 : BitVec 32 := Scalar.addi c0_i32_39 v102
  let c1_i32_42 : BitVec 32 := 1#32
  let arg25 : BitVec 32 := Scf.iv v103 c1_i32_42 k0_t3
  let c1024_i32_404 : BitVec 32 := 1024#32
  let v748 : BitVec 32 := Scalar.muli arg25 c1024_i32_404
  let v749 : BitVec 32 := v748
  let v750 : Index := Scalar.indexCast v749
  ![0, v750.toNat]
def k0_off5 (i : grid0.Coords) (k0_t3 : Fin (k0_t3_loop i).trips) : Fin 3 → Nat :=
  let c0_i32_39 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let v99 : BitVec 32 := Scalar.subi v41 c0_i32_39
  let c1_i32_40 : BitVec 32 := 1#32
  let v101 : BitVec 32 := Scalar.divsi v99 c1_i32_40
  let v102 : BitVec 32 := Scalar.muli v101 c1_i32_40
  let v103 : BitVec 32 := Scalar.addi c0_i32_39 v102
  let c1_i32_42 : BitVec 32 := 1#32
  let arg25 : BitVec 32 := Scf.iv v103 c1_i32_42 k0_t3
  let v828 : Index := Scalar.indexCast arg25
  let c0_442 : Index := 0#32
  let c0_443 : Index := 0#32
  ![v828.toNat, 0, 0]
@[reducible] def k0_t4_loop (i : grid0.Coords) : Scf.Loop 32 :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_54 : BitVec 32 := 1#32
  ⟨c0_i32_52, v128, c1_i32_54⟩
def k0_mult4 (i : grid0.Coords) (k0_t4 : Fin (k0_t4_loop i).trips) : BitVec 32 :=
  let c0_i32_52 : BitVec 32 := 0#32
  let c1_i32_54 : BitVec 32 := 1#32
  let arg25 : BitVec 32 := Scf.iv c0_i32_52 c1_i32_54 k0_t4
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  v773
def k0_off6 (i : grid0.Coords) (k0_t4 : Fin (k0_t4_loop i).trips) (c3_i32_415 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_414 : BitVec 32 := 4#32
  let v775 : BitVec 32 := Scalar.muli v762 c4_i32_414
  let v776 : BitVec 32 := Scalar.addi v775 c3_i32_415
  let v777 : Index := Scalar.indexCast v776
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v778 : Index := Scalar.indexCast v774
  let c896 : Index := 896#32
  ![v777.toNat, v778.toNat, 896]
def k0_off7 (i : grid0.Coords) (k0_t4 : Fin (k0_t4_loop i).trips) (c3_i32_417 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_416 : BitVec 32 := 4#32
  let v781 : BitVec 32 := Scalar.muli v762 c4_i32_416
  let v782 : BitVec 32 := Scalar.addi v781 c3_i32_417
  let v783 : Index := Scalar.indexCast v782
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v784 : Index := Scalar.indexCast v774
  let c768 : Index := 768#32
  ![v783.toNat, v784.toNat, 768]
def k0_off8 (i : grid0.Coords) (k0_t4 : Fin (k0_t4_loop i).trips) (c3_i32_419 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_418 : BitVec 32 := 4#32
  let v787 : BitVec 32 := Scalar.muli v762 c4_i32_418
  let v788 : BitVec 32 := Scalar.addi v787 c3_i32_419
  let v789 : Index := Scalar.indexCast v788
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v790 : Index := Scalar.indexCast v774
  let c640 : Index := 640#32
  ![v789.toNat, v790.toNat, 640]
def k0_off9 (i : grid0.Coords) (k0_t4 : Fin (k0_t4_loop i).trips) (c3_i32_421 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_420 : BitVec 32 := 4#32
  let v793 : BitVec 32 := Scalar.muli v762 c4_i32_420
  let v794 : BitVec 32 := Scalar.addi v793 c3_i32_421
  let v795 : Index := Scalar.indexCast v794
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v796 : Index := Scalar.indexCast v774
  let c512 : Index := 512#32
  ![v795.toNat, v796.toNat, 512]
def k0_off10 (i : grid0.Coords) (k0_t4 : Fin (k0_t4_loop i).trips) (c3_i32_423 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_422 : BitVec 32 := 4#32
  let v799 : BitVec 32 := Scalar.muli v762 c4_i32_422
  let v800 : BitVec 32 := Scalar.addi v799 c3_i32_423
  let v801 : Index := Scalar.indexCast v800
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v802 : Index := Scalar.indexCast v774
  let c384 : Index := 384#32
  ![v801.toNat, v802.toNat, 384]
def k0_off11 (i : grid0.Coords) (k0_t4 : Fin (k0_t4_loop i).trips) (c3_i32_425 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_424 : BitVec 32 := 4#32
  let v805 : BitVec 32 := Scalar.muli v762 c4_i32_424
  let v806 : BitVec 32 := Scalar.addi v805 c3_i32_425
  let v807 : Index := Scalar.indexCast v806
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v808 : Index := Scalar.indexCast v774
  let c256_426 : Index := 256#32
  ![v807.toNat, v808.toNat, 256]
def k0_off12 (i : grid0.Coords) (k0_t4 : Fin (k0_t4_loop i).trips) (c3_i32_428 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_427 : BitVec 32 := 4#32
  let v811 : BitVec 32 := Scalar.muli v762 c4_i32_427
  let v812 : BitVec 32 := Scalar.addi v811 c3_i32_428
  let v813 : Index := Scalar.indexCast v812
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v814 : Index := Scalar.indexCast v774
  let c128 : Index := 128#32
  ![v813.toNat, v814.toNat, 128]
def k0_off13 (i : grid0.Coords) (k0_t4 : Fin (k0_t4_loop i).trips) (c3_i32_430 : BitVec 32) : Fin 3 → Nat :=
  let c0_i32_52 : BitVec 32 := 0#32
  let c1_i32_54 : BitVec 32 := 1#32
  let arg25 : BitVec 32 := Scf.iv c0_i32_52 c1_i32_54 k0_t4
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_429 : BitVec 32 := 4#32
  let v817 : BitVec 32 := Scalar.muli v762 c4_i32_429
  let v818 : BitVec 32 := Scalar.addi v817 c3_i32_430
  let v819 : Index := Scalar.indexCast v818
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v820 : Index := Scalar.indexCast v774
  let c0_431 : Index := 0#32
  ![v819.toNat, v820.toNat, 0]
@[reducible] def k0_t5_loop (i : grid0.Coords) : Scf.Loop 32 :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let v125 : BitVec 32 := Scalar.addi c0_i32_52 v124
  let c1_i32_55 : BitVec 32 := 1#32
  ⟨v128, v125, c1_i32_55⟩
def k0_mult5 (i : grid0.Coords) (k0_t5 : Fin (k0_t5_loop i).trips) : BitVec 32 :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  v773
def k0_off14 (i : grid0.Coords) (k0_t5 : Fin (k0_t5_loop i).trips) (c3_i32_415 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_414 : BitVec 32 := 4#32
  let v775 : BitVec 32 := Scalar.muli v762 c4_i32_414
  let v776 : BitVec 32 := Scalar.addi v775 c3_i32_415
  let v777 : Index := Scalar.indexCast v776
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v778 : Index := Scalar.indexCast v774
  let c896 : Index := 896#32
  ![v777.toNat, v778.toNat, 896]
def k0_off15 (i : grid0.Coords) (k0_t5 : Fin (k0_t5_loop i).trips) (c3_i32_417 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_416 : BitVec 32 := 4#32
  let v781 : BitVec 32 := Scalar.muli v762 c4_i32_416
  let v782 : BitVec 32 := Scalar.addi v781 c3_i32_417
  let v783 : Index := Scalar.indexCast v782
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v784 : Index := Scalar.indexCast v774
  let c768 : Index := 768#32
  ![v783.toNat, v784.toNat, 768]
def k0_off16 (i : grid0.Coords) (k0_t5 : Fin (k0_t5_loop i).trips) (c3_i32_419 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_418 : BitVec 32 := 4#32
  let v787 : BitVec 32 := Scalar.muli v762 c4_i32_418
  let v788 : BitVec 32 := Scalar.addi v787 c3_i32_419
  let v789 : Index := Scalar.indexCast v788
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v790 : Index := Scalar.indexCast v774
  let c640 : Index := 640#32
  ![v789.toNat, v790.toNat, 640]
def k0_off17 (i : grid0.Coords) (k0_t5 : Fin (k0_t5_loop i).trips) (c3_i32_421 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_420 : BitVec 32 := 4#32
  let v793 : BitVec 32 := Scalar.muli v762 c4_i32_420
  let v794 : BitVec 32 := Scalar.addi v793 c3_i32_421
  let v795 : Index := Scalar.indexCast v794
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v796 : Index := Scalar.indexCast v774
  let c512 : Index := 512#32
  ![v795.toNat, v796.toNat, 512]
def k0_off18 (i : grid0.Coords) (k0_t5 : Fin (k0_t5_loop i).trips) (c3_i32_423 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_422 : BitVec 32 := 4#32
  let v799 : BitVec 32 := Scalar.muli v762 c4_i32_422
  let v800 : BitVec 32 := Scalar.addi v799 c3_i32_423
  let v801 : Index := Scalar.indexCast v800
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v802 : Index := Scalar.indexCast v774
  let c384 : Index := 384#32
  ![v801.toNat, v802.toNat, 384]
def k0_off19 (i : grid0.Coords) (k0_t5 : Fin (k0_t5_loop i).trips) (c3_i32_425 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_424 : BitVec 32 := 4#32
  let v805 : BitVec 32 := Scalar.muli v762 c4_i32_424
  let v806 : BitVec 32 := Scalar.addi v805 c3_i32_425
  let v807 : Index := Scalar.indexCast v806
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v808 : Index := Scalar.indexCast v774
  let c256_426 : Index := 256#32
  ![v807.toNat, v808.toNat, 256]
def k0_off20 (i : grid0.Coords) (k0_t5 : Fin (k0_t5_loop i).trips) (c3_i32_428 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_427 : BitVec 32 := 4#32
  let v811 : BitVec 32 := Scalar.muli v762 c4_i32_427
  let v812 : BitVec 32 := Scalar.addi v811 c3_i32_428
  let v813 : Index := Scalar.indexCast v812
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v814 : Index := Scalar.indexCast v774
  let c128 : Index := 128#32
  ![v813.toNat, v814.toNat, 128]
def k0_off21 (i : grid0.Coords) (k0_t5 : Fin (k0_t5_loop i).trips) (c3_i32_430 : BitVec 32) : Fin 3 → Nat :=
  let c0_i32_52 : BitVec 32 := 0#32
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c32_i32 : BitVec 32 := 32#32
  let v123 : BitVec 32 := Scalar.muli v122 c32_i32
  let v124 : BitVec 32 := Scalar.subi v123 c0_i32_52
  let c1_i32_53 : BitVec 32 := 1#32
  let v126 : BitVec 32 := Scalar.divsi v124 c1_i32_53
  let v127 : BitVec 32 := Scalar.muli v126 c1_i32_53
  let v128 : BitVec 32 := Scalar.addi c0_i32_52 v127
  let c1_i32_55 : BitVec 32 := 1#32
  let arg25 : BitVec 32 := Scf.iv v128 c1_i32_55 k0_t5
  let c0_i32_402 : BitVec 32 := 0#32
  let v747 : BitVec 1 := Scalar.cmpi .sgt arg25 c0_i32_402
  let v748 : BitVec 32 := Scalar.extui v747
  let c0_i32_403 : BitVec 32 := 0#32
  let v749 : BitVec 1 := Scalar.cmpi .slt arg25 c0_i32_403
  let v750 : BitVec 32 := Scalar.extui v749
  let v751 : BitVec 32 := Scalar.subi v748 v750
  let c32_i32_401 : BitVec 32 := 32#32
  let c0_i32_404 : BitVec 32 := 0#32
  let v752 : BitVec 1 := Scalar.cmpi .sgt c32_i32_401 c0_i32_404
  let v753 : BitVec 32 := Scalar.extui v752
  let c0_i32_405 : BitVec 32 := 0#32
  let v754 : BitVec 1 := Scalar.cmpi .slt c32_i32_401 c0_i32_405
  let v755 : BitVec 32 := Scalar.extui v754
  let v756 : BitVec 32 := Scalar.subi v753 v755
  let v757 : BitVec 1 := Scalar.cmpi .ne v751 v756
  let v758 : BitVec 32 := Scalar.remsi arg25 c32_i32_401
  let c0_i32_406 : BitVec 32 := 0#32
  let v759 : BitVec 1 := Scalar.cmpi .ne v758 c0_i32_406
  let v760 : BitVec 1 := Scalar.andi v757 v759
  let v746 : BitVec 32 := Scalar.divsi arg25 c32_i32_401
  let c1_i32_407 : BitVec 32 := 1#32
  let v761 : BitVec 32 := Scalar.subi v746 c1_i32_407
  let v762 : BitVec 32 := Scalar.select v760 v761 v746
  let c4_i32_429 : BitVec 32 := 4#32
  let v817 : BitVec 32 := Scalar.muli v762 c4_i32_429
  let v818 : BitVec 32 := Scalar.addi v817 c3_i32_430
  let v819 : Index := Scalar.indexCast v818
  let c32_i32_408 : BitVec 32 := 32#32
  let c0_i32_409 : BitVec 32 := 0#32
  let v763 : BitVec 1 := Scalar.cmpi .eq c32_i32_408 c0_i32_409
  let c1_i32_410 : BitVec 32 := 1#32
  let v764 : BitVec 32 := Scalar.select v763 c1_i32_410 c32_i32_408
  let v765 : BitVec 32 := Scalar.remsi arg25 v764
  let c0_i32_412 : BitVec 32 := 0#32
  let v767 : BitVec 1 := Scalar.cmpi .slt v765 c0_i32_412
  let c0_i32_413 : BitVec 32 := 0#32
  let v768 : BitVec 1 := Scalar.cmpi .slt v764 c0_i32_413
  let v769 : BitVec 1 := Scalar.xori v767 v768
  let c0_i32_411 : BitVec 32 := 0#32
  let v766 : BitVec 1 := Scalar.cmpi .ne v765 c0_i32_411
  let v770 : BitVec 1 := Scalar.andi v769 v766
  let v771 : BitVec 32 := Scalar.addi v765 v764
  let v772 : BitVec 32 := Scalar.select v770 v771 v765
  let c8_i32 : BitVec 32 := 8#32
  let v773 : BitVec 32 := Scalar.muli v772 c8_i32
  let v774 : BitVec 32 := v773
  let v820 : Index := Scalar.indexCast v774
  let c0_431 : Index := 0#32
  ![v819.toNat, v820.toNat, 0]
def k0_cond2 (i : grid0.Coords) : BitVec 1 :=
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c1_i32_121 : BitVec 32 := 1#32
  let v253 : BitVec 32 := Scalar.subi v122 c1_i32_121
  let c0_i32_122 : BitVec 32 := 0#32
  let v254 : BitVec 32 := Scalar.maxsi v253 c0_i32_122
  let c3_i32 : BitVec 32 := 3#32
  let v255 : BitVec 32 := Scalar.minsi v254 c3_i32
  let c0_i32_123 : BitVec 32 := 0#32
  let v256 : BitVec 1 := Scalar.cmpi .ne v255 c0_i32_123
  v256

def k0_cond3 (i : grid0.Coords) : BitVec 1 :=
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c1_i32_121 : BitVec 32 := 1#32
  let v253 : BitVec 32 := Scalar.subi v122 c1_i32_121
  let c0_i32_122 : BitVec 32 := 0#32
  let v254 : BitVec 32 := Scalar.maxsi v253 c0_i32_122
  let c3_i32 : BitVec 32 := 3#32
  let v255 : BitVec 32 := Scalar.minsi v254 c3_i32
  let c1_i32_401 : BitVec 32 := 1#32
  let v746 : BitVec 32 := Scalar.subi v255 c1_i32_401
  let c0_i32_402 : BitVec 32 := 0#32
  let v747 : BitVec 1 := Scalar.cmpi .ne v746 c0_i32_402
  v747

def k0_cond4 (i : grid0.Coords) : BitVec 1 :=
  let arg0 : BitVec 32 := BitVec.ofNat 32 (i 0).val
  let c1_i32_7 : BitVec 32 := 1#32
  let v21 : BitVec 32 := Scalar.addi arg0 c1_i32_7
  let c256_i32_8 : BitVec 32 := 256#32
  let v22 : BitVec 32 := Scalar.muli v21 c256_i32_8
  let c1024_i32 : BitVec 32 := 1024#32
  let v23 : BitVec 32 := Scalar.addi v22 c1024_i32
  let c1_i32_9 : BitVec 32 := 1#32
  let v24 : BitVec 32 := Scalar.subi v23 c1_i32_9
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c1024_i32_10 : BitVec 32 := 1024#32
  let c0_i32_13 : BitVec 32 := 0#32
  let v31 : BitVec 1 := Scalar.cmpi .sgt c1024_i32_10 c0_i32_13
  let v32 : BitVec 32 := Scalar.extui v31
  let c0_i32_14 : BitVec 32 := 0#32
  let v33 : BitVec 1 := Scalar.cmpi .slt c1024_i32_10 c0_i32_14
  let v34 : BitVec 32 := Scalar.extui v33
  let v35 : BitVec 32 := Scalar.subi v32 v34
  let v36 : BitVec 1 := Scalar.cmpi .ne v30 v35
  let v37 : BitVec 32 := Scalar.remsi v24 c1024_i32_10
  let c0_i32_15 : BitVec 32 := 0#32
  let v38 : BitVec 1 := Scalar.cmpi .ne v37 c0_i32_15
  let v39 : BitVec 1 := Scalar.andi v36 v38
  let v25 : BitVec 32 := Scalar.divsi v24 c1024_i32_10
  let c1_i32_16 : BitVec 32 := 1#32
  let v40 : BitVec 32 := Scalar.subi v25 c1_i32_16
  let v41 : BitVec 32 := Scalar.select v39 v40 v25
  let c4_i32 : BitVec 32 := 4#32
  let v104 : BitVec 32 := Scalar.addi v41 c4_i32
  let c1_i32_43 : BitVec 32 := 1#32
  let v105 : BitVec 32 := Scalar.subi v104 c1_i32_43
  let c0_i32_45 : BitVec 32 := 0#32
  let v107 : BitVec 1 := Scalar.cmpi .sgt v105 c0_i32_45
  let v108 : BitVec 32 := Scalar.extui v107
  let c0_i32_46 : BitVec 32 := 0#32
  let v109 : BitVec 1 := Scalar.cmpi .slt v105 c0_i32_46
  let v110 : BitVec 32 := Scalar.extui v109
  let v111 : BitVec 32 := Scalar.subi v108 v110
  let c4_i32_44 : BitVec 32 := 4#32
  let c0_i32_47 : BitVec 32 := 0#32
  let v112 : BitVec 1 := Scalar.cmpi .sgt c4_i32_44 c0_i32_47
  let v113 : BitVec 32 := Scalar.extui v112
  let c0_i32_48 : BitVec 32 := 0#32
  let v114 : BitVec 1 := Scalar.cmpi .slt c4_i32_44 c0_i32_48
  let v115 : BitVec 32 := Scalar.extui v114
  let v116 : BitVec 32 := Scalar.subi v113 v115
  let v117 : BitVec 1 := Scalar.cmpi .ne v111 v116
  let v118 : BitVec 32 := Scalar.remsi v105 c4_i32_44
  let c0_i32_49 : BitVec 32 := 0#32
  let v119 : BitVec 1 := Scalar.cmpi .ne v118 c0_i32_49
  let v120 : BitVec 1 := Scalar.andi v117 v119
  let v106 : BitVec 32 := Scalar.divsi v105 c4_i32_44
  let c1_i32_50 : BitVec 32 := 1#32
  let v121 : BitVec 32 := Scalar.subi v106 c1_i32_50
  let v122 : BitVec 32 := Scalar.select v120 v121 v106
  let c1_i32_121 : BitVec 32 := 1#32
  let v253 : BitVec 32 := Scalar.subi v122 c1_i32_121
  let c0_i32_122 : BitVec 32 := 0#32
  let v254 : BitVec 32 := Scalar.maxsi v253 c0_i32_122
  let c3_i32 : BitVec 32 := 3#32
  let v255 : BitVec 32 := Scalar.minsi v254 c3_i32
  let c1_i32_401 : BitVec 32 := 1#32
  let v746 : BitVec 32 := Scalar.subi v255 c1_i32_401
  let c1_i32_403 : BitVec 32 := 1#32
  let v749 : BitVec 32 := Scalar.subi v746 c1_i32_403
  let c0_i32_404 : BitVec 32 := 0#32
  let v750 : BitVec 1 := Scalar.cmpi .ne v749 c0_i32_404
  v750

@[reducible] def k0_t6_loop : Scf.Loop 32 :=
  let c0_i32_406 : BitVec 32 := 0#32
  let c32_i32_407 : BitVec 32 := 32#32
  let v753 : BitVec 32 := Scalar.addi c0_i32_406 c32_i32_407
  let c1_i32_408 : BitVec 32 := 1#32
  ⟨c0_i32_406, v753, c1_i32_408⟩
def k0_mult6 (k0_t6 : Fin k0_t6_loop.trips) : BitVec 32 :=
  let c0_i32_406 : BitVec 32 := 0#32
  let c1_i32_408 : BitVec 32 := 1#32
  let arg25 : BitVec 32 := Scf.iv c0_i32_406 c1_i32_408 k0_t6
  let c8_i32_416 : BitVec 32 := 8#32
  let c0_i32_417 : BitVec 32 := 0#32
  let v772 : BitVec 1 := Scalar.cmpi .eq c8_i32_416 c0_i32_417
  let c1_i32_418 : BitVec 32 := 1#32
  let v773 : BitVec 32 := Scalar.select v772 c1_i32_418 c8_i32_416
  let v774 : BitVec 32 := Scalar.remsi arg25 v773
  let c0_i32_420 : BitVec 32 := 0#32
  let v776 : BitVec 1 := Scalar.cmpi .slt v774 c0_i32_420
  let c0_i32_421 : BitVec 32 := 0#32
  let v777 : BitVec 1 := Scalar.cmpi .slt v773 c0_i32_421
  let v778 : BitVec 1 := Scalar.xori v776 v777
  let c0_i32_419 : BitVec 32 := 0#32
  let v775 : BitVec 1 := Scalar.cmpi .ne v774 c0_i32_419
  let v779 : BitVec 1 := Scalar.andi v778 v775
  let v780 : BitVec 32 := Scalar.addi v774 v773
  let v781 : BitVec 32 := Scalar.select v779 v780 v774
  let c128_i32 : BitVec 32 := 128#32
  let v782 : BitVec 32 := Scalar.muli v781 c128_i32
  v782
def k0_off22 (k0_t6 : Fin k0_t6_loop.trips) (c0_i32_426 : BitVec 32) : Fin 3 → Nat :=
  let c0_i32_406 : BitVec 32 := 0#32
  let c1_i32_408 : BitVec 32 := 1#32
  let arg25 : BitVec 32 := Scf.iv c0_i32_406 c1_i32_408 k0_t6
  let c0_i32_410 : BitVec 32 := 0#32
  let v756 : BitVec 1 := Scalar.cmpi .sgt arg25 c0_i32_410
  let v757 : BitVec 32 := Scalar.extui v756
  let c0_i32_411 : BitVec 32 := 0#32
  let v758 : BitVec 1 := Scalar.cmpi .slt arg25 c0_i32_411
  let v759 : BitVec 32 := Scalar.extui v758
  let v760 : BitVec 32 := Scalar.subi v757 v759
  let c8_i32 : BitVec 32 := 8#32
  let c0_i32_412 : BitVec 32 := 0#32
  let v761 : BitVec 1 := Scalar.cmpi .sgt c8_i32 c0_i32_412
  let v762 : BitVec 32 := Scalar.extui v761
  let c0_i32_413 : BitVec 32 := 0#32
  let v763 : BitVec 1 := Scalar.cmpi .slt c8_i32 c0_i32_413
  let v764 : BitVec 32 := Scalar.extui v763
  let v765 : BitVec 32 := Scalar.subi v762 v764
  let v766 : BitVec 1 := Scalar.cmpi .ne v760 v765
  let v767 : BitVec 32 := Scalar.remsi arg25 c8_i32
  let c0_i32_414 : BitVec 32 := 0#32
  let v768 : BitVec 1 := Scalar.cmpi .ne v767 c0_i32_414
  let v769 : BitVec 1 := Scalar.andi v766 v768
  let v755 : BitVec 32 := Scalar.divsi arg25 c8_i32
  let c1_i32_415 : BitVec 32 := 1#32
  let v770 : BitVec 32 := Scalar.subi v755 c1_i32_415
  let v771 : BitVec 32 := Scalar.select v769 v770 v755
  let v787 : BitVec 32 := Scalar.addi c0_i32_426 v771
  let v788 : Index := Scalar.indexCast v787
  let c0_427 : Index := 0#32
  let c8_i32_416 : BitVec 32 := 8#32
  let c0_i32_417 : BitVec 32 := 0#32
  let v772 : BitVec 1 := Scalar.cmpi .eq c8_i32_416 c0_i32_417
  let c1_i32_418 : BitVec 32 := 1#32
  let v773 : BitVec 32 := Scalar.select v772 c1_i32_418 c8_i32_416
  let v774 : BitVec 32 := Scalar.remsi arg25 v773
  let c0_i32_420 : BitVec 32 := 0#32
  let v776 : BitVec 1 := Scalar.cmpi .slt v774 c0_i32_420
  let c0_i32_421 : BitVec 32 := 0#32
  let v777 : BitVec 1 := Scalar.cmpi .slt v773 c0_i32_421
  let v778 : BitVec 1 := Scalar.xori v776 v777
  let c0_i32_419 : BitVec 32 := 0#32
  let v775 : BitVec 1 := Scalar.cmpi .ne v774 c0_i32_419
  let v779 : BitVec 1 := Scalar.andi v778 v775
  let v780 : BitVec 32 := Scalar.addi v774 v773
  let v781 : BitVec 32 := Scalar.select v779 v780 v774
  let c128_i32 : BitVec 32 := 128#32
  let v782 : BitVec 32 := Scalar.muli v781 c128_i32
  let v783 : BitVec 32 := v782
  let v789 : Index := Scalar.indexCast v783
  ![v788.toNat, 0, v789.toNat]
@[reducible] def k0_t7_loop : Scf.Loop 32 :=
  let c0_i32_406 : BitVec 32 := 0#32
  let c32_i32_407 : BitVec 32 := 32#32
  let v753 : BitVec 32 := Scalar.addi c0_i32_406 c32_i32_407
  let c1_i32_408 : BitVec 32 := 1#32
  ⟨c0_i32_406, v753, c1_i32_408⟩
def k0_mult7 (k0_t7 : Fin k0_t7_loop.trips) : BitVec 32 :=
  let c0_i32_406 : BitVec 32 := 0#32
  let c1_i32_408 : BitVec 32 := 1#32
  let arg25 : BitVec 32 := Scf.iv c0_i32_406 c1_i32_408 k0_t7
  let c8_i32_416 : BitVec 32 := 8#32
  let c0_i32_417 : BitVec 32 := 0#32
  let v772 : BitVec 1 := Scalar.cmpi .eq c8_i32_416 c0_i32_417
  let c1_i32_418 : BitVec 32 := 1#32
  let v773 : BitVec 32 := Scalar.select v772 c1_i32_418 c8_i32_416
  let v774 : BitVec 32 := Scalar.remsi arg25 v773
  let c0_i32_420 : BitVec 32 := 0#32
  let v776 : BitVec 1 := Scalar.cmpi .slt v774 c0_i32_420
  let c0_i32_421 : BitVec 32 := 0#32
  let v777 : BitVec 1 := Scalar.cmpi .slt v773 c0_i32_421
  let v778 : BitVec 1 := Scalar.xori v776 v777
  let c0_i32_419 : BitVec 32 := 0#32
  let v775 : BitVec 1 := Scalar.cmpi .ne v774 c0_i32_419
  let v779 : BitVec 1 := Scalar.andi v778 v775
  let v780 : BitVec 32 := Scalar.addi v774 v773
  let v781 : BitVec 32 := Scalar.select v779 v780 v774
  let c128_i32 : BitVec 32 := 128#32
  let v782 : BitVec 32 := Scalar.muli v781 c128_i32
  v782
def k0_off23 (k0_t7 : Fin k0_t7_loop.trips) (c0_i32_426 : BitVec 32) : Fin 3 → Nat :=
  let c0_i32_406 : BitVec 32 := 0#32
  let c1_i32_408 : BitVec 32 := 1#32
  let arg25 : BitVec 32 := Scf.iv c0_i32_406 c1_i32_408 k0_t7
  let c0_i32_410 : BitVec 32 := 0#32
  let v756 : BitVec 1 := Scalar.cmpi .sgt arg25 c0_i32_410
  let v757 : BitVec 32 := Scalar.extui v756
  let c0_i32_411 : BitVec 32 := 0#32
  let v758 : BitVec 1 := Scalar.cmpi .slt arg25 c0_i32_411
  let v759 : BitVec 32 := Scalar.extui v758
  let v760 : BitVec 32 := Scalar.subi v757 v759
  let c8_i32 : BitVec 32 := 8#32
  let c0_i32_412 : BitVec 32 := 0#32
  let v761 : BitVec 1 := Scalar.cmpi .sgt c8_i32 c0_i32_412
  let v762 : BitVec 32 := Scalar.extui v761
  let c0_i32_413 : BitVec 32 := 0#32
  let v763 : BitVec 1 := Scalar.cmpi .slt c8_i32 c0_i32_413
  let v764 : BitVec 32 := Scalar.extui v763
  let v765 : BitVec 32 := Scalar.subi v762 v764
  let v766 : BitVec 1 := Scalar.cmpi .ne v760 v765
  let v767 : BitVec 32 := Scalar.remsi arg25 c8_i32
  let c0_i32_414 : BitVec 32 := 0#32
  let v768 : BitVec 1 := Scalar.cmpi .ne v767 c0_i32_414
  let v769 : BitVec 1 := Scalar.andi v766 v768
  let v755 : BitVec 32 := Scalar.divsi arg25 c8_i32
  let c1_i32_415 : BitVec 32 := 1#32
  let v770 : BitVec 32 := Scalar.subi v755 c1_i32_415
  let v771 : BitVec 32 := Scalar.select v769 v770 v755
  let v787 : BitVec 32 := Scalar.addi c0_i32_426 v771
  let v788 : Index := Scalar.indexCast v787
  let c0_427 : Index := 0#32
  let c8_i32_416 : BitVec 32 := 8#32
  let c0_i32_417 : BitVec 32 := 0#32
  let v772 : BitVec 1 := Scalar.cmpi .eq c8_i32_416 c0_i32_417
  let c1_i32_418 : BitVec 32 := 1#32
  let v773 : BitVec 32 := Scalar.select v772 c1_i32_418 c8_i32_416
  let v774 : BitVec 32 := Scalar.remsi arg25 v773
  let c0_i32_420 : BitVec 32 := 0#32
  let v776 : BitVec 1 := Scalar.cmpi .slt v774 c0_i32_420
  let c0_i32_421 : BitVec 32 := 0#32
  let v777 : BitVec 1 := Scalar.cmpi .slt v773 c0_i32_421
  let v778 : BitVec 1 := Scalar.xori v776 v777
  let c0_i32_419 : BitVec 32 := 0#32
  let v775 : BitVec 1 := Scalar.cmpi .ne v774 c0_i32_419
  let v779 : BitVec 1 := Scalar.andi v778 v775
  let v780 : BitVec 32 := Scalar.addi v774 v773
  let v781 : BitVec 32 := Scalar.select v779 v780 v774
  let c128_i32 : BitVec 32 := 128#32
  let v782 : BitVec 32 := Scalar.muli v781 c128_i32
  let v783 : BitVec 32 := v782
  let v789 : Index := Scalar.indexCast v783
  ![v788.toNat, 0, v789.toNat]
@[reducible] def k0_t8_loop : Scf.Loop 32 :=
  let c0_i32_404 : BitVec 32 := 0#32
  let c32_i32_405 : BitVec 32 := 32#32
  let v750 : BitVec 32 := Scalar.addi c0_i32_404 c32_i32_405
  let c1_i32_406 : BitVec 32 := 1#32
  ⟨c0_i32_404, v750, c1_i32_406⟩
def k0_mult8 (k0_t8 : Fin k0_t8_loop.trips) : BitVec 32 :=
  let c0_i32_404 : BitVec 32 := 0#32
  let c1_i32_406 : BitVec 32 := 1#32
  let arg25 : BitVec 32 := Scf.iv c0_i32_404 c1_i32_406 k0_t8
  let c8_i32_414 : BitVec 32 := 8#32
  let c0_i32_415 : BitVec 32 := 0#32
  let v769 : BitVec 1 := Scalar.cmpi .eq c8_i32_414 c0_i32_415
  let c1_i32_416 : BitVec 32 := 1#32
  let v770 : BitVec 32 := Scalar.select v769 c1_i32_416 c8_i32_414
  let v771 : BitVec 32 := Scalar.remsi arg25 v770
  let c0_i32_418 : BitVec 32 := 0#32
  let v773 : BitVec 1 := Scalar.cmpi .slt v771 c0_i32_418
  let c0_i32_419 : BitVec 32 := 0#32
  let v774 : BitVec 1 := Scalar.cmpi .slt v770 c0_i32_419
  let v775 : BitVec 1 := Scalar.xori v773 v774
  let c0_i32_417 : BitVec 32 := 0#32
  let v772 : BitVec 1 := Scalar.cmpi .ne v771 c0_i32_417
  let v776 : BitVec 1 := Scalar.andi v775 v772
  let v777 : BitVec 32 := Scalar.addi v771 v770
  let v778 : BitVec 32 := Scalar.select v776 v777 v771
  let c128_i32 : BitVec 32 := 128#32
  let v779 : BitVec 32 := Scalar.muli v778 c128_i32
  v779
def k0_off24 (k0_t8 : Fin k0_t8_loop.trips) (c0_i32_424 : BitVec 32) : Fin 3 → Nat :=
  let c0_i32_404 : BitVec 32 := 0#32
  let c1_i32_406 : BitVec 32 := 1#32
  let arg25 : BitVec 32 := Scf.iv c0_i32_404 c1_i32_406 k0_t8
  let c0_i32_408 : BitVec 32 := 0#32
  let v753 : BitVec 1 := Scalar.cmpi .sgt arg25 c0_i32_408
  let v754 : BitVec 32 := Scalar.extui v753
  let c0_i32_409 : BitVec 32 := 0#32
  let v755 : BitVec 1 := Scalar.cmpi .slt arg25 c0_i32_409
  let v756 : BitVec 32 := Scalar.extui v755
  let v757 : BitVec 32 := Scalar.subi v754 v756
  let c8_i32 : BitVec 32 := 8#32
  let c0_i32_410 : BitVec 32 := 0#32
  let v758 : BitVec 1 := Scalar.cmpi .sgt c8_i32 c0_i32_410
  let v759 : BitVec 32 := Scalar.extui v758
  let c0_i32_411 : BitVec 32 := 0#32
  let v760 : BitVec 1 := Scalar.cmpi .slt c8_i32 c0_i32_411
  let v761 : BitVec 32 := Scalar.extui v760
  let v762 : BitVec 32 := Scalar.subi v759 v761
  let v763 : BitVec 1 := Scalar.cmpi .ne v757 v762
  let v764 : BitVec 32 := Scalar.remsi arg25 c8_i32
  let c0_i32_412 : BitVec 32 := 0#32
  let v765 : BitVec 1 := Scalar.cmpi .ne v764 c0_i32_412
  let v766 : BitVec 1 := Scalar.andi v763 v765
  let v752 : BitVec 32 := Scalar.divsi arg25 c8_i32
  let c1_i32_413 : BitVec 32 := 1#32
  let v767 : BitVec 32 := Scalar.subi v752 c1_i32_413
  let v768 : BitVec 32 := Scalar.select v766 v767 v752
  let v784 : BitVec 32 := Scalar.addi c0_i32_424 v768
  let v785 : Index := Scalar.indexCast v784
  let c0_425 : Index := 0#32
  let c8_i32_414 : BitVec 32 := 8#32
  let c0_i32_415 : BitVec 32 := 0#32
  let v769 : BitVec 1 := Scalar.cmpi .eq c8_i32_414 c0_i32_415
  let c1_i32_416 : BitVec 32 := 1#32
  let v770 : BitVec 32 := Scalar.select v769 c1_i32_416 c8_i32_414
  let v771 : BitVec 32 := Scalar.remsi arg25 v770
  let c0_i32_418 : BitVec 32 := 0#32
  let v773 : BitVec 1 := Scalar.cmpi .slt v771 c0_i32_418
  let c0_i32_419 : BitVec 32 := 0#32
  let v774 : BitVec 1 := Scalar.cmpi .slt v770 c0_i32_419
  let v775 : BitVec 1 := Scalar.xori v773 v774
  let c0_i32_417 : BitVec 32 := 0#32
  let v772 : BitVec 1 := Scalar.cmpi .ne v771 c0_i32_417
  let v776 : BitVec 1 := Scalar.andi v775 v772
  let v777 : BitVec 32 := Scalar.addi v771 v770
  let v778 : BitVec 32 := Scalar.select v776 v777 v771
  let c128_i32 : BitVec 32 := 128#32
  let v779 : BitVec 32 := Scalar.muli v778 c128_i32
  let v780 : BitVec 32 := v779
  let v786 : Index := Scalar.indexCast v780
  ![v785.toNat, 0, v786.toNat]
@[reducible] def k0_t9_loop : Scf.Loop 32 :=
  let c0_i32_402 : BitVec 32 := 0#32
  let c32_i32_403 : BitVec 32 := 32#32
  let v747 : BitVec 32 := Scalar.addi c0_i32_402 c32_i32_403
  let c1_i32_404 : BitVec 32 := 1#32
  ⟨c0_i32_402, v747, c1_i32_404⟩
def k0_mult9 (k0_t9 : Fin k0_t9_loop.trips) : BitVec 32 :=
  let c0_i32_402 : BitVec 32 := 0#32
  let c1_i32_404 : BitVec 32 := 1#32
  let arg25 : BitVec 32 := Scf.iv c0_i32_402 c1_i32_404 k0_t9
  let c8_i32_412 : BitVec 32 := 8#32
  let c0_i32_413 : BitVec 32 := 0#32
  let v766 : BitVec 1 := Scalar.cmpi .eq c8_i32_412 c0_i32_413
  let c1_i32_414 : BitVec 32 := 1#32
  let v767 : BitVec 32 := Scalar.select v766 c1_i32_414 c8_i32_412
  let v768 : BitVec 32 := Scalar.remsi arg25 v767
  let c0_i32_416 : BitVec 32 := 0#32
  let v770 : BitVec 1 := Scalar.cmpi .slt v768 c0_i32_416
  let c0_i32_417 : BitVec 32 := 0#32
  let v771 : BitVec 1 := Scalar.cmpi .slt v767 c0_i32_417
  let v772 : BitVec 1 := Scalar.xori v770 v771
  let c0_i32_415 : BitVec 32 := 0#32
  let v769 : BitVec 1 := Scalar.cmpi .ne v768 c0_i32_415
  let v773 : BitVec 1 := Scalar.andi v772 v769
  let v774 : BitVec 32 := Scalar.addi v768 v767
  let v775 : BitVec 32 := Scalar.select v773 v774 v768
  let c128_i32 : BitVec 32 := 128#32
  let v776 : BitVec 32 := Scalar.muli v775 c128_i32
  v776
def k0_off25 (k0_t9 : Fin k0_t9_loop.trips) : Fin 3 → Nat :=
  let c0_i32_422 : BitVec 32 := 0#32
  let c0_i32_402 : BitVec 32 := 0#32
  let c1_i32_404 : BitVec 32 := 1#32
  let arg25 : BitVec 32 := Scf.iv c0_i32_402 c1_i32_404 k0_t9
  let c0_i32_406 : BitVec 32 := 0#32
  let v750 : BitVec 1 := Scalar.cmpi .sgt arg25 c0_i32_406
  let v751 : BitVec 32 := Scalar.extui v750
  let c0_i32_407 : BitVec 32 := 0#32
  let v752 : BitVec 1 := Scalar.cmpi .slt arg25 c0_i32_407
  let v753 : BitVec 32 := Scalar.extui v752
  let v754 : BitVec 32 := Scalar.subi v751 v753
  let c8_i32 : BitVec 32 := 8#32
  let c0_i32_408 : BitVec 32 := 0#32
  let v755 : BitVec 1 := Scalar.cmpi .sgt c8_i32 c0_i32_408
  let v756 : BitVec 32 := Scalar.extui v755
  let c0_i32_409 : BitVec 32 := 0#32
  let v757 : BitVec 1 := Scalar.cmpi .slt c8_i32 c0_i32_409
  let v758 : BitVec 32 := Scalar.extui v757
  let v759 : BitVec 32 := Scalar.subi v756 v758
  let v760 : BitVec 1 := Scalar.cmpi .ne v754 v759
  let v761 : BitVec 32 := Scalar.remsi arg25 c8_i32
  let c0_i32_410 : BitVec 32 := 0#32
  let v762 : BitVec 1 := Scalar.cmpi .ne v761 c0_i32_410
  let v763 : BitVec 1 := Scalar.andi v760 v762
  let v749 : BitVec 32 := Scalar.divsi arg25 c8_i32
  let c1_i32_411 : BitVec 32 := 1#32
  let v764 : BitVec 32 := Scalar.subi v749 c1_i32_411
  let v765 : BitVec 32 := Scalar.select v763 v764 v749
  let v781 : BitVec 32 := Scalar.addi c0_i32_422 v765
  let v782 : Index := Scalar.indexCast v781
  let c0_423 : Index := 0#32
  let c8_i32_412 : BitVec 32 := 8#32
  let c0_i32_413 : BitVec 32 := 0#32
  let v766 : BitVec 1 := Scalar.cmpi .eq c8_i32_412 c0_i32_413
  let c1_i32_414 : BitVec 32 := 1#32
  let v767 : BitVec 32 := Scalar.select v766 c1_i32_414 c8_i32_412
  let v768 : BitVec 32 := Scalar.remsi arg25 v767
  let c0_i32_416 : BitVec 32 := 0#32
  let v770 : BitVec 1 := Scalar.cmpi .slt v768 c0_i32_416
  let c0_i32_417 : BitVec 32 := 0#32
  let v771 : BitVec 1 := Scalar.cmpi .slt v767 c0_i32_417
  let v772 : BitVec 1 := Scalar.xori v770 v771
  let c0_i32_415 : BitVec 32 := 0#32
  let v769 : BitVec 1 := Scalar.cmpi .ne v768 c0_i32_415
  let v773 : BitVec 1 := Scalar.andi v772 v769
  let v774 : BitVec 32 := Scalar.addi v768 v767
  let v775 : BitVec 32 := Scalar.select v773 v774 v768
  let c128_i32 : BitVec 32 := 128#32
  let v776 : BitVec 32 := Scalar.muli v775 c128_i32
  let v777 : BitVec 32 := v776
  let v783 : Index := Scalar.indexCast v777
  ![v782.toNat, 0, v783.toNat]
@[reducible] def k0_t10_loop : Scf.Loop 32 :=
  let c0_i32_402 : BitVec 32 := 0#32
  let c14_i32 : BitVec 32 := 14#32
  let v747 : BitVec 32 := Scalar.addi c0_i32_402 c14_i32
  let c1_i32_403 : BitVec 32 := 1#32
  ⟨c0_i32_402, v747, c1_i32_403⟩
def k0_mult10 : BitVec 32 :=
  let c0_i32_401 : BitVec 32 := 0#32
  c0_i32_401
def k0_mult11 : BitVec 32 :=
  let c0_i32_402 : BitVec 32 := 0#32
  c0_i32_402
@[reducible] def k0_t11_loop (i : grid0.Coords) : Scf.Loop 32 :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_418 : BitVec 32 := 1#32
  ⟨c0_i32_416, v762, c1_i32_418⟩
def k0_mult12 (i : grid0.Coords) (k0_t11 : Fin (k0_t11_loop i).trips) : BitVec 32 :=
  let c0_i32_416 : BitVec 32 := 0#32
  let c1_i32_418 : BitVec 32 := 1#32
  let arg25 : BitVec 32 := Scf.iv c0_i32_416 c1_i32_418 k0_t11
  let c512_i32_421 : BitVec 32 := 512#32
  let v764 : BitVec 32 := Scalar.muli arg25 c512_i32_421
  v764
def k0_mult13 (i : grid0.Coords) (k0_t11 : Fin (k0_t11_loop i).trips) : BitVec 32 :=
  let c0_i32_416 : BitVec 32 := 0#32
  let c1_i32_418 : BitVec 32 := 1#32
  let arg25 : BitVec 32 := Scf.iv c0_i32_416 c1_i32_418 k0_t11
  let c512_i32_422 : BitVec 32 := 512#32
  let v766 : BitVec 32 := Scalar.muli arg25 c512_i32_422
  v766
def k0_off26 (i : grid0.Coords) (k0_t11 : Fin (k0_t11_loop i).trips) : Fin 2 → Nat :=
  let c0_i32_423 : BitVec 32 := 0#32
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  ![0, v763.toNat]
def k0_off27 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let c0_i32_424 : BitVec 32 := 0#32
  let c0_i32_425 : BitVec 32 := 0#32
  ![v763.toNat, 0, 0]
def k0_off28 (i : grid0.Coords) (k0_t11 : Fin (k0_t11_loop i).trips) : Fin 2 → Nat :=
  let c0_i32_426 : BitVec 32 := 0#32
  let c0_i32_416 : BitVec 32 := 0#32
  let c1_i32_418 : BitVec 32 := 1#32
  let arg25 : BitVec 32 := Scf.iv c0_i32_416 c1_i32_418 k0_t11
  let c512_i32_421 : BitVec 32 := 512#32
  let v764 : BitVec 32 := Scalar.muli arg25 c512_i32_421
  let v765 : BitVec 32 := v764
  ![0, v765.toNat]
def k0_off29 (i : grid0.Coords) (k0_t11 : Fin (k0_t11_loop i).trips) : Fin 2 → Nat :=
  let c1_i32_427 : BitVec 32 := 1#32
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  ![1, v763.toNat]
def k0_off30 (i : grid0.Coords) (k0_t11 : Fin (k0_t11_loop i).trips) : Fin 2 → Nat :=
  let c0_i32_416 : BitVec 32 := 0#32
  let c1_i32_418 : BitVec 32 := 1#32
  let arg25 : BitVec 32 := Scf.iv c0_i32_416 c1_i32_418 k0_t11
  let c512_i32_422 : BitVec 32 := 512#32
  let v766 : BitVec 32 := Scalar.muli arg25 c512_i32_422
  let v767 : BitVec 32 := v766
  let c0_i32_430 : BitVec 32 := 0#32
  ![v767.toNat, 0]
def k0_cond7 (i : grid0.Coords) (k0_t11 : Fin (k0_t11_loop i).trips) : BitVec 1 :=
  let c0_i32_416 : BitVec 32 := 0#32
  let c1_i32_418 : BitVec 32 := 1#32
  let arg25 : BitVec 32 := Scf.iv c0_i32_416 c1_i32_418 k0_t11
  let c1_i32_431 : BitVec 32 := 1#32
  let v778 : BitVec 32 := Scalar.addi arg25 c1_i32_431
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v779 : BitVec 1 := Scalar.cmpi .slt v778 v20
  let v780 : BitVec 32 := Scalar.extui v779
  let c0_i32_432 : BitVec 32 := 0#32
  let v781 : BitVec 1 := Scalar.cmpi .ne v780 c0_i32_432
  v781

def k0_mult14 (i : grid0.Coords) (k0_t11 : Fin (k0_t11_loop i).trips) : BitVec 32 :=
  let c0_i32_416 : BitVec 32 := 0#32
  let c1_i32_418 : BitVec 32 := 1#32
  let arg25 : BitVec 32 := Scf.iv c0_i32_416 c1_i32_418 k0_t11
  let c1_i32_1718 : BitVec 32 := 1#32
  let v2390 : BitVec 32 := Scalar.addi arg25 c1_i32_1718
  let c512_i32_1720 : BitVec 32 := 512#32
  let v2392 : BitVec 32 := Scalar.muli v2390 c512_i32_1720
  v2392
def k0_mult15 (i : grid0.Coords) (k0_t11 : Fin (k0_t11_loop i).trips) : BitVec 32 :=
  let c0_i32_416 : BitVec 32 := 0#32
  let c1_i32_418 : BitVec 32 := 1#32
  let arg25 : BitVec 32 := Scf.iv c0_i32_416 c1_i32_418 k0_t11
  let c1_i32_1718 : BitVec 32 := 1#32
  let v2390 : BitVec 32 := Scalar.addi arg25 c1_i32_1718
  let c512_i32_1721 : BitVec 32 := 512#32
  let v2394 : BitVec 32 := Scalar.muli v2390 c512_i32_1721
  v2394
def k0_off31 (i : grid0.Coords) (k0_t11 : Fin (k0_t11_loop i).trips) : Fin 2 → Nat :=
  let c0_i32_1722 : BitVec 32 := 0#32
  let c1_i32_1719 : BitVec 32 := 1#32
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v2391 : BitVec 32 := Scalar.subi c1_i32_1719 v763
  ![0, v2391.toNat]
def k0_off32 (i : grid0.Coords) (k0_t11 : Fin (k0_t11_loop i).trips) : Fin 3 → Nat :=
  let c1_i32_1719 : BitVec 32 := 1#32
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v2391 : BitVec 32 := Scalar.subi c1_i32_1719 v763
  let c0_i32_1723 : BitVec 32 := 0#32
  let c0_i32_1724 : BitVec 32 := 0#32
  ![v2391.toNat, 0, 0]
def k0_off33 (i : grid0.Coords) (k0_t11 : Fin (k0_t11_loop i).trips) : Fin 2 → Nat :=
  let c0_i32_1725 : BitVec 32 := 0#32
  let c0_i32_416 : BitVec 32 := 0#32
  let c1_i32_418 : BitVec 32 := 1#32
  let arg25 : BitVec 32 := Scf.iv c0_i32_416 c1_i32_418 k0_t11
  let c1_i32_1718 : BitVec 32 := 1#32
  let v2390 : BitVec 32 := Scalar.addi arg25 c1_i32_1718
  let c512_i32_1720 : BitVec 32 := 512#32
  let v2392 : BitVec 32 := Scalar.muli v2390 c512_i32_1720
  let v2393 : BitVec 32 := v2392
  ![0, v2393.toNat]
def k0_off34 (i : grid0.Coords) (k0_t11 : Fin (k0_t11_loop i).trips) : Fin 2 → Nat :=
  let c1_i32_1726 : BitVec 32 := 1#32
  let c1_i32_1719 : BitVec 32 := 1#32
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v2391 : BitVec 32 := Scalar.subi c1_i32_1719 v763
  ![1, v2391.toNat]
def k0_off35 (i : grid0.Coords) (k0_t11 : Fin (k0_t11_loop i).trips) : Fin 2 → Nat :=
  let c0_i32_416 : BitVec 32 := 0#32
  let c1_i32_418 : BitVec 32 := 1#32
  let arg25 : BitVec 32 := Scf.iv c0_i32_416 c1_i32_418 k0_t11
  let c1_i32_1718 : BitVec 32 := 1#32
  let v2390 : BitVec 32 := Scalar.addi arg25 c1_i32_1718
  let c512_i32_1721 : BitVec 32 := 512#32
  let v2394 : BitVec 32 := Scalar.muli v2390 c512_i32_1721
  let v2395 : BitVec 32 := v2394
  let c0_i32_1729 : BitVec 32 := 0#32
  ![v2395.toNat, 0]
def k0_off36 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c0_i32_433 : BitVec 32 := 0#32
  let v783 : BitVec 1 := Scalar.cmpi .sgt arg25 c0_i32_433
  let v784 : BitVec 32 := Scalar.extui v783
  let c0_i32_434 : BitVec 32 := 0#32
  let v785 : BitVec 1 := Scalar.cmpi .slt arg25 c0_i32_434
  let v786 : BitVec 32 := Scalar.extui v785
  let v787 : BitVec 32 := Scalar.subi v784 v786
  let c8_i32 : BitVec 32 := 8#32
  let c0_i32_435 : BitVec 32 := 0#32
  let v788 : BitVec 1 := Scalar.cmpi .sgt c8_i32 c0_i32_435
  let v789 : BitVec 32 := Scalar.extui v788
  let c0_i32_436 : BitVec 32 := 0#32
  let v790 : BitVec 1 := Scalar.cmpi .slt c8_i32 c0_i32_436
  let v791 : BitVec 32 := Scalar.extui v790
  let v792 : BitVec 32 := Scalar.subi v789 v791
  let v793 : BitVec 1 := Scalar.cmpi .ne v787 v792
  let v794 : BitVec 32 := Scalar.remsi arg25 c8_i32
  let c0_i32_437 : BitVec 32 := 0#32
  let v795 : BitVec 1 := Scalar.cmpi .ne v794 c0_i32_437
  let v796 : BitVec 1 := Scalar.andi v793 v795
  let v782 : BitVec 32 := Scalar.divsi arg25 c8_i32
  let c1_i32_438 : BitVec 32 := 1#32
  let v797 : BitVec 32 := Scalar.subi v782 c1_i32_438
  let v798 : BitVec 32 := Scalar.select v796 v797 v782
  let v799 : Index := Scalar.indexCast v798
  let c0_439 : Index := 0#32
  let c0_440 : Index := 0#32
  ![v799.toNat, 0, 0]
def k0_off37 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v900 : Index := Scalar.indexCast v763
  let c0_497 : Index := 0#32
  let c0_498 : Index := 0#32
  ![v900.toNat, 0, 0]
def k0_off38 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v909 : Index := Scalar.indexCast v763
  let c128_506 : Index := 128#32
  let c0_507 : Index := 0#32
  ![v909.toNat, 128, 0]
def k0_off39 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v918 : Index := Scalar.indexCast v763
  let c256_515 : Index := 256#32
  let c0_516 : Index := 0#32
  ![v918.toNat, 256, 0]
def k0_off40 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v927 : Index := Scalar.indexCast v763
  let c384_524 : Index := 384#32
  let c0_525 : Index := 0#32
  ![v927.toNat, 384, 0]
def k0_off41 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v1290 : Index := Scalar.indexCast v763
  let c0_812 : Index := 0#32
  let c0_813 : Index := 0#32
  ![v1290.toNat, 0, 0]
def k0_off42 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v1654 : Index := Scalar.indexCast v763
  let c0_1112 : Index := 0#32
  let c128_1113 : Index := 128#32
  ![v1654.toNat, 0, 128]
def k0_off43 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v2018 : Index := Scalar.indexCast v763
  let c0_1412 : Index := 0#32
  let c256_1413 : Index := 256#32
  ![v2018.toNat, 0, 256]
def k0_off44 (i : grid0.Coords) (k0_t11 : Fin (k0_t11_loop i).trips) : Fin 3 → Nat :=
  let c0_i32_416 : BitVec 32 := 0#32
  let c1_i32_418 : BitVec 32 := 1#32
  let arg25 : BitVec 32 := Scf.iv c0_i32_416 c1_i32_418 k0_t11
  let c1_i32_420 : BitVec 32 := 1#32
  let v763 : BitVec 32 := Scalar.andi arg25 c1_i32_420
  let v2382 : Index := Scalar.indexCast v763
  let c0_1712 : Index := 0#32
  let c384_1713 : Index := 384#32
  ![v2382.toNat, 0, 384]
@[reducible] def k0_t12_loop (i : grid0.Coords) : Scf.Loop 32 :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let v759 : BitVec 32 := Scalar.addi c0_i32_416 v758
  let c1_i32_419 : BitVec 32 := 1#32
  ⟨v762, v759, c1_i32_419⟩
def k0_mult16 (i : grid0.Coords) (k0_t12 : Fin (k0_t12_loop i).trips) : BitVec 32 :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c512_i32_421 : BitVec 32 := 512#32
  let v764 : BitVec 32 := Scalar.muli arg25 c512_i32_421
  v764
def k0_mult17 (i : grid0.Coords) (k0_t12 : Fin (k0_t12_loop i).trips) : BitVec 32 :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c512_i32_422 : BitVec 32 := 512#32
  let v766 : BitVec 32 := Scalar.muli arg25 c512_i32_422
  v766
def k0_off45 (i : grid0.Coords) (k0_t12 : Fin (k0_t12_loop i).trips) : Fin 2 → Nat :=
  let c0_i32_423 : BitVec 32 := 0#32
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  ![0, v763.toNat]
def k0_off46 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let c0_i32_424 : BitVec 32 := 0#32
  let c0_i32_425 : BitVec 32 := 0#32
  ![v763.toNat, 0, 0]
def k0_off47 (i : grid0.Coords) (k0_t12 : Fin (k0_t12_loop i).trips) : Fin 2 → Nat :=
  let c0_i32_426 : BitVec 32 := 0#32
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c512_i32_421 : BitVec 32 := 512#32
  let v764 : BitVec 32 := Scalar.muli arg25 c512_i32_421
  let v765 : BitVec 32 := v764
  ![0, v765.toNat]
def k0_off48 (i : grid0.Coords) (k0_t12 : Fin (k0_t12_loop i).trips) : Fin 2 → Nat :=
  let c1_i32_427 : BitVec 32 := 1#32
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  ![1, v763.toNat]
def k0_off49 (i : grid0.Coords) (k0_t12 : Fin (k0_t12_loop i).trips) : Fin 2 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c512_i32_422 : BitVec 32 := 512#32
  let v766 : BitVec 32 := Scalar.muli arg25 c512_i32_422
  let v767 : BitVec 32 := v766
  let c0_i32_430 : BitVec 32 := 0#32
  ![v767.toNat, 0]
def k0_cond8 (i : grid0.Coords) (k0_t12 : Fin (k0_t12_loop i).trips) : BitVec 1 :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_431 : BitVec 32 := 1#32
  let v778 : BitVec 32 := Scalar.addi arg25 c1_i32_431
  let v779 : BitVec 1 := Scalar.cmpi .slt v778 v20
  let v780 : BitVec 32 := Scalar.extui v779
  let c0_i32_432 : BitVec 32 := 0#32
  let v781 : BitVec 1 := Scalar.cmpi .ne v780 c0_i32_432
  v781

def k0_mult18 (i : grid0.Coords) (k0_t12 : Fin (k0_t12_loop i).trips) : BitVec 32 :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_1718 : BitVec 32 := 1#32
  let v2390 : BitVec 32 := Scalar.addi arg25 c1_i32_1718
  let c512_i32_1720 : BitVec 32 := 512#32
  let v2392 : BitVec 32 := Scalar.muli v2390 c512_i32_1720
  v2392
def k0_mult19 (i : grid0.Coords) (k0_t12 : Fin (k0_t12_loop i).trips) : BitVec 32 :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_1718 : BitVec 32 := 1#32
  let v2390 : BitVec 32 := Scalar.addi arg25 c1_i32_1718
  let c512_i32_1721 : BitVec 32 := 512#32
  let v2394 : BitVec 32 := Scalar.muli v2390 c512_i32_1721
  v2394
def k0_off50 (i : grid0.Coords) (k0_t12 : Fin (k0_t12_loop i).trips) : Fin 2 → Nat :=
  let c0_i32_1722 : BitVec 32 := 0#32
  let c1_i32_1719 : BitVec 32 := 1#32
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v2391 : BitVec 32 := Scalar.subi c1_i32_1719 v763
  ![0, v2391.toNat]
def k0_off51 (i : grid0.Coords) (k0_t12 : Fin (k0_t12_loop i).trips) : Fin 3 → Nat :=
  let c1_i32_1719 : BitVec 32 := 1#32
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v2391 : BitVec 32 := Scalar.subi c1_i32_1719 v763
  let c0_i32_1723 : BitVec 32 := 0#32
  let c0_i32_1724 : BitVec 32 := 0#32
  ![v2391.toNat, 0, 0]
def k0_off52 (i : grid0.Coords) (k0_t12 : Fin (k0_t12_loop i).trips) : Fin 2 → Nat :=
  let c0_i32_1725 : BitVec 32 := 0#32
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_1718 : BitVec 32 := 1#32
  let v2390 : BitVec 32 := Scalar.addi arg25 c1_i32_1718
  let c512_i32_1720 : BitVec 32 := 512#32
  let v2392 : BitVec 32 := Scalar.muli v2390 c512_i32_1720
  let v2393 : BitVec 32 := v2392
  ![0, v2393.toNat]
def k0_off53 (i : grid0.Coords) (k0_t12 : Fin (k0_t12_loop i).trips) : Fin 2 → Nat :=
  let c1_i32_1726 : BitVec 32 := 1#32
  let c1_i32_1719 : BitVec 32 := 1#32
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v2391 : BitVec 32 := Scalar.subi c1_i32_1719 v763
  ![1, v2391.toNat]
def k0_off54 (i : grid0.Coords) (k0_t12 : Fin (k0_t12_loop i).trips) : Fin 2 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_1718 : BitVec 32 := 1#32
  let v2390 : BitVec 32 := Scalar.addi arg25 c1_i32_1718
  let c512_i32_1721 : BitVec 32 := 512#32
  let v2394 : BitVec 32 := Scalar.muli v2390 c512_i32_1721
  let v2395 : BitVec 32 := v2394
  let c0_i32_1729 : BitVec 32 := 0#32
  ![v2395.toNat, 0]
def k0_off55 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c0_i32_433 : BitVec 32 := 0#32
  let v783 : BitVec 1 := Scalar.cmpi .sgt arg25 c0_i32_433
  let v784 : BitVec 32 := Scalar.extui v783
  let c0_i32_434 : BitVec 32 := 0#32
  let v785 : BitVec 1 := Scalar.cmpi .slt arg25 c0_i32_434
  let v786 : BitVec 32 := Scalar.extui v785
  let v787 : BitVec 32 := Scalar.subi v784 v786
  let c8_i32 : BitVec 32 := 8#32
  let c0_i32_435 : BitVec 32 := 0#32
  let v788 : BitVec 1 := Scalar.cmpi .sgt c8_i32 c0_i32_435
  let v789 : BitVec 32 := Scalar.extui v788
  let c0_i32_436 : BitVec 32 := 0#32
  let v790 : BitVec 1 := Scalar.cmpi .slt c8_i32 c0_i32_436
  let v791 : BitVec 32 := Scalar.extui v790
  let v792 : BitVec 32 := Scalar.subi v789 v791
  let v793 : BitVec 1 := Scalar.cmpi .ne v787 v792
  let v794 : BitVec 32 := Scalar.remsi arg25 c8_i32
  let c0_i32_437 : BitVec 32 := 0#32
  let v795 : BitVec 1 := Scalar.cmpi .ne v794 c0_i32_437
  let v796 : BitVec 1 := Scalar.andi v793 v795
  let v782 : BitVec 32 := Scalar.divsi arg25 c8_i32
  let c1_i32_438 : BitVec 32 := 1#32
  let v797 : BitVec 32 := Scalar.subi v782 c1_i32_438
  let v798 : BitVec 32 := Scalar.select v796 v797 v782
  let v799 : Index := Scalar.indexCast v798
  let c0_439 : Index := 0#32
  let c0_440 : Index := 0#32
  ![v799.toNat, 0, 0]
def k0_off56 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v900 : Index := Scalar.indexCast v763
  let c0_497 : Index := 0#32
  let c0_498 : Index := 0#32
  ![v900.toNat, 0, 0]
def k0_off57 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v909 : Index := Scalar.indexCast v763
  let c128_506 : Index := 128#32
  let c0_507 : Index := 0#32
  ![v909.toNat, 128, 0]
def k0_off58 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v918 : Index := Scalar.indexCast v763
  let c256_515 : Index := 256#32
  let c0_516 : Index := 0#32
  ![v918.toNat, 256, 0]
def k0_off59 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v927 : Index := Scalar.indexCast v763
  let c384_524 : Index := 384#32
  let c0_525 : Index := 0#32
  ![v927.toNat, 384, 0]
def k0_off60 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v1290 : Index := Scalar.indexCast v763
  let c0_812 : Index := 0#32
  let c0_813 : Index := 0#32
  ![v1290.toNat, 0, 0]
def k0_off61 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v1654 : Index := Scalar.indexCast v763
  let c0_1112 : Index := 0#32
  let c128_1113 : Index := 128#32
  ![v1654.toNat, 0, 128]
def k0_off62 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v2018 : Index := Scalar.indexCast v763
  let c0_1412 : Index := 0#32
  let c256_1413 : Index := 256#32
  ![v2018.toNat, 0, 256]
def k0_off63 (i : grid0.Coords) (k0_t12 : Fin (k0_t12_loop i).trips) : Fin 3 → Nat :=
  let c0_i32_416 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v758 : BitVec 32 := Scalar.subi v20 c0_i32_416
  let c1_i32_417 : BitVec 32 := 1#32
  let v760 : BitVec 32 := Scalar.divsi v758 c1_i32_417
  let v761 : BitVec 32 := Scalar.muli v760 c1_i32_417
  let v762 : BitVec 32 := Scalar.addi c0_i32_416 v761
  let c1_i32_419 : BitVec 32 := 1#32
  let arg25 : BitVec 32 := Scf.iv v762 c1_i32_419 k0_t12
  let c1_i32_420 : BitVec 32 := 1#32
  let v763 : BitVec 32 := Scalar.andi arg25 c1_i32_420
  let v2382 : Index := Scalar.indexCast v763
  let c0_1712 : Index := 0#32
  let c384_1713 : Index := 384#32
  ![v2382.toNat, 0, 384]
def k0_mult20 : BitVec 32 :=
  let c0_i32_405 : BitVec 32 := 0#32
  c0_i32_405
def k0_mult21 : BitVec 32 :=
  let c0_i32_406 : BitVec 32 := 0#32
  c0_i32_406
@[reducible] def k0_t13_loop (i : grid0.Coords) : Scf.Loop 32 :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_422 : BitVec 32 := 1#32
  ⟨c0_i32_420, v766, c1_i32_422⟩
def k0_mult22 (i : grid0.Coords) (k0_t13 : Fin (k0_t13_loop i).trips) : BitVec 32 :=
  let c0_i32_420 : BitVec 32 := 0#32
  let c1_i32_422 : BitVec 32 := 1#32
  let arg25 : BitVec 32 := Scf.iv c0_i32_420 c1_i32_422 k0_t13
  let c512_i32_425 : BitVec 32 := 512#32
  let v768 : BitVec 32 := Scalar.muli arg25 c512_i32_425
  v768
def k0_mult23 (i : grid0.Coords) (k0_t13 : Fin (k0_t13_loop i).trips) : BitVec 32 :=
  let c0_i32_420 : BitVec 32 := 0#32
  let c1_i32_422 : BitVec 32 := 1#32
  let arg25 : BitVec 32 := Scf.iv c0_i32_420 c1_i32_422 k0_t13
  let c512_i32_426 : BitVec 32 := 512#32
  let v770 : BitVec 32 := Scalar.muli arg25 c512_i32_426
  v770
def k0_off64 (i : grid0.Coords) (k0_t13 : Fin (k0_t13_loop i).trips) : Fin 2 → Nat :=
  let c0_i32_427 : BitVec 32 := 0#32
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  ![0, v767.toNat]
def k0_off65 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let c0_i32_428 : BitVec 32 := 0#32
  let c0_i32_429 : BitVec 32 := 0#32
  ![v767.toNat, 0, 0]
def k0_off66 (i : grid0.Coords) (k0_t13 : Fin (k0_t13_loop i).trips) : Fin 2 → Nat :=
  let c0_i32_430 : BitVec 32 := 0#32
  let c0_i32_420 : BitVec 32 := 0#32
  let c1_i32_422 : BitVec 32 := 1#32
  let arg25 : BitVec 32 := Scf.iv c0_i32_420 c1_i32_422 k0_t13
  let c512_i32_425 : BitVec 32 := 512#32
  let v768 : BitVec 32 := Scalar.muli arg25 c512_i32_425
  let v769 : BitVec 32 := v768
  ![0, v769.toNat]
def k0_off67 (i : grid0.Coords) (k0_t13 : Fin (k0_t13_loop i).trips) : Fin 2 → Nat :=
  let c1_i32_431 : BitVec 32 := 1#32
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  ![1, v767.toNat]
def k0_off68 (i : grid0.Coords) (k0_t13 : Fin (k0_t13_loop i).trips) : Fin 2 → Nat :=
  let c0_i32_420 : BitVec 32 := 0#32
  let c1_i32_422 : BitVec 32 := 1#32
  let arg25 : BitVec 32 := Scf.iv c0_i32_420 c1_i32_422 k0_t13
  let c512_i32_426 : BitVec 32 := 512#32
  let v770 : BitVec 32 := Scalar.muli arg25 c512_i32_426
  let v771 : BitVec 32 := v770
  let c0_i32_434 : BitVec 32 := 0#32
  ![v771.toNat, 0]
def k0_cond10 (i : grid0.Coords) (k0_t13 : Fin (k0_t13_loop i).trips) : BitVec 1 :=
  let c0_i32_420 : BitVec 32 := 0#32
  let c1_i32_422 : BitVec 32 := 1#32
  let arg25 : BitVec 32 := Scf.iv c0_i32_420 c1_i32_422 k0_t13
  let c1_i32_435 : BitVec 32 := 1#32
  let v782 : BitVec 32 := Scalar.addi arg25 c1_i32_435
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v783 : BitVec 1 := Scalar.cmpi .slt v782 v20
  let v784 : BitVec 32 := Scalar.extui v783
  let c0_i32_436 : BitVec 32 := 0#32
  let v785 : BitVec 1 := Scalar.cmpi .ne v784 c0_i32_436
  v785

def k0_mult24 (i : grid0.Coords) (k0_t13 : Fin (k0_t13_loop i).trips) : BitVec 32 :=
  let c0_i32_420 : BitVec 32 := 0#32
  let c1_i32_422 : BitVec 32 := 1#32
  let arg25 : BitVec 32 := Scf.iv c0_i32_420 c1_i32_422 k0_t13
  let c1_i32_2182 : BitVec 32 := 1#32
  let v3238 : BitVec 32 := Scalar.addi arg25 c1_i32_2182
  let c512_i32_2184 : BitVec 32 := 512#32
  let v3240 : BitVec 32 := Scalar.muli v3238 c512_i32_2184
  v3240
def k0_mult25 (i : grid0.Coords) (k0_t13 : Fin (k0_t13_loop i).trips) : BitVec 32 :=
  let c0_i32_420 : BitVec 32 := 0#32
  let c1_i32_422 : BitVec 32 := 1#32
  let arg25 : BitVec 32 := Scf.iv c0_i32_420 c1_i32_422 k0_t13
  let c1_i32_2182 : BitVec 32 := 1#32
  let v3238 : BitVec 32 := Scalar.addi arg25 c1_i32_2182
  let c512_i32_2185 : BitVec 32 := 512#32
  let v3242 : BitVec 32 := Scalar.muli v3238 c512_i32_2185
  v3242
def k0_off69 (i : grid0.Coords) (k0_t13 : Fin (k0_t13_loop i).trips) : Fin 2 → Nat :=
  let c0_i32_2186 : BitVec 32 := 0#32
  let c1_i32_2183 : BitVec 32 := 1#32
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v3239 : BitVec 32 := Scalar.subi c1_i32_2183 v767
  ![0, v3239.toNat]
def k0_off70 (i : grid0.Coords) (k0_t13 : Fin (k0_t13_loop i).trips) : Fin 3 → Nat :=
  let c1_i32_2183 : BitVec 32 := 1#32
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v3239 : BitVec 32 := Scalar.subi c1_i32_2183 v767
  let c0_i32_2187 : BitVec 32 := 0#32
  let c0_i32_2188 : BitVec 32 := 0#32
  ![v3239.toNat, 0, 0]
def k0_off71 (i : grid0.Coords) (k0_t13 : Fin (k0_t13_loop i).trips) : Fin 2 → Nat :=
  let c0_i32_2189 : BitVec 32 := 0#32
  let c0_i32_420 : BitVec 32 := 0#32
  let c1_i32_422 : BitVec 32 := 1#32
  let arg25 : BitVec 32 := Scf.iv c0_i32_420 c1_i32_422 k0_t13
  let c1_i32_2182 : BitVec 32 := 1#32
  let v3238 : BitVec 32 := Scalar.addi arg25 c1_i32_2182
  let c512_i32_2184 : BitVec 32 := 512#32
  let v3240 : BitVec 32 := Scalar.muli v3238 c512_i32_2184
  let v3241 : BitVec 32 := v3240
  ![0, v3241.toNat]
def k0_off72 (i : grid0.Coords) (k0_t13 : Fin (k0_t13_loop i).trips) : Fin 2 → Nat :=
  let c1_i32_2190 : BitVec 32 := 1#32
  let c1_i32_2183 : BitVec 32 := 1#32
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v3239 : BitVec 32 := Scalar.subi c1_i32_2183 v767
  ![1, v3239.toNat]
def k0_off73 (i : grid0.Coords) (k0_t13 : Fin (k0_t13_loop i).trips) : Fin 2 → Nat :=
  let c0_i32_420 : BitVec 32 := 0#32
  let c1_i32_422 : BitVec 32 := 1#32
  let arg25 : BitVec 32 := Scf.iv c0_i32_420 c1_i32_422 k0_t13
  let c1_i32_2182 : BitVec 32 := 1#32
  let v3238 : BitVec 32 := Scalar.addi arg25 c1_i32_2182
  let c512_i32_2185 : BitVec 32 := 512#32
  let v3242 : BitVec 32 := Scalar.muli v3238 c512_i32_2185
  let v3243 : BitVec 32 := v3242
  let c0_i32_2193 : BitVec 32 := 0#32
  ![v3243.toNat, 0]
def k0_off74 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c0_i32_437 : BitVec 32 := 0#32
  let v787 : BitVec 1 := Scalar.cmpi .sgt arg25 c0_i32_437
  let v788 : BitVec 32 := Scalar.extui v787
  let c0_i32_438 : BitVec 32 := 0#32
  let v789 : BitVec 1 := Scalar.cmpi .slt arg25 c0_i32_438
  let v790 : BitVec 32 := Scalar.extui v789
  let v791 : BitVec 32 := Scalar.subi v788 v790
  let c8_i32 : BitVec 32 := 8#32
  let c0_i32_439 : BitVec 32 := 0#32
  let v792 : BitVec 1 := Scalar.cmpi .sgt c8_i32 c0_i32_439
  let v793 : BitVec 32 := Scalar.extui v792
  let c0_i32_440 : BitVec 32 := 0#32
  let v794 : BitVec 1 := Scalar.cmpi .slt c8_i32 c0_i32_440
  let v795 : BitVec 32 := Scalar.extui v794
  let v796 : BitVec 32 := Scalar.subi v793 v795
  let v797 : BitVec 1 := Scalar.cmpi .ne v791 v796
  let v798 : BitVec 32 := Scalar.remsi arg25 c8_i32
  let c0_i32_441 : BitVec 32 := 0#32
  let v799 : BitVec 1 := Scalar.cmpi .ne v798 c0_i32_441
  let v800 : BitVec 1 := Scalar.andi v797 v799
  let v786 : BitVec 32 := Scalar.divsi arg25 c8_i32
  let c1_i32_442 : BitVec 32 := 1#32
  let v801 : BitVec 32 := Scalar.subi v786 c1_i32_442
  let v802 : BitVec 32 := Scalar.select v800 v801 v786
  let v803 : Index := Scalar.indexCast v802
  let c0_443 : Index := 0#32
  let c0_444 : Index := 0#32
  ![v803.toNat, 0, 0]
def k0_off75 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v904 : Index := Scalar.indexCast v767
  let c0_501 : Index := 0#32
  let c0_502 : Index := 0#32
  ![v904.toNat, 0, 0]
def k0_off76 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v913 : Index := Scalar.indexCast v767
  let c128_510 : Index := 128#32
  let c0_511 : Index := 0#32
  ![v913.toNat, 128, 0]
def k0_off77 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v922 : Index := Scalar.indexCast v767
  let c256_519 : Index := 256#32
  let c0_520 : Index := 0#32
  ![v922.toNat, 256, 0]
def k0_off78 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v931 : Index := Scalar.indexCast v767
  let c384_528 : Index := 384#32
  let c0_529 : Index := 0#32
  ![v931.toNat, 384, 0]
def k0_off79 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v1505 : Index := Scalar.indexCast v767
  let c0_931 : Index := 0#32
  let c0_932 : Index := 0#32
  ![v1505.toNat, 0, 0]
def k0_off80 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v2080 : Index := Scalar.indexCast v767
  let c0_1346 : Index := 0#32
  let c128_1347 : Index := 128#32
  ![v2080.toNat, 0, 128]
def k0_off81 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v2655 : Index := Scalar.indexCast v767
  let c0_1761 : Index := 0#32
  let c256_1762 : Index := 256#32
  ![v2655.toNat, 0, 256]
def k0_off82 (i : grid0.Coords) (k0_t13 : Fin (k0_t13_loop i).trips) : Fin 3 → Nat :=
  let c0_i32_420 : BitVec 32 := 0#32
  let c1_i32_422 : BitVec 32 := 1#32
  let arg25 : BitVec 32 := Scf.iv c0_i32_420 c1_i32_422 k0_t13
  let c1_i32_424 : BitVec 32 := 1#32
  let v767 : BitVec 32 := Scalar.andi arg25 c1_i32_424
  let v3230 : Index := Scalar.indexCast v767
  let c0_2176 : Index := 0#32
  let c384_2177 : Index := 384#32
  ![v3230.toNat, 0, 384]
@[reducible] def k0_t14_loop (i : grid0.Coords) : Scf.Loop 32 :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let v763 : BitVec 32 := Scalar.addi c0_i32_420 v762
  let c1_i32_423 : BitVec 32 := 1#32
  ⟨v766, v763, c1_i32_423⟩
def k0_mult26 (i : grid0.Coords) (k0_t14 : Fin (k0_t14_loop i).trips) : BitVec 32 :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c512_i32_425 : BitVec 32 := 512#32
  let v768 : BitVec 32 := Scalar.muli arg25 c512_i32_425
  v768
def k0_mult27 (i : grid0.Coords) (k0_t14 : Fin (k0_t14_loop i).trips) : BitVec 32 :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c512_i32_426 : BitVec 32 := 512#32
  let v770 : BitVec 32 := Scalar.muli arg25 c512_i32_426
  v770
def k0_off83 (i : grid0.Coords) (k0_t14 : Fin (k0_t14_loop i).trips) : Fin 2 → Nat :=
  let c0_i32_427 : BitVec 32 := 0#32
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  ![0, v767.toNat]
def k0_off84 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let c0_i32_428 : BitVec 32 := 0#32
  let c0_i32_429 : BitVec 32 := 0#32
  ![v767.toNat, 0, 0]
def k0_off85 (i : grid0.Coords) (k0_t14 : Fin (k0_t14_loop i).trips) : Fin 2 → Nat :=
  let c0_i32_430 : BitVec 32 := 0#32
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c512_i32_425 : BitVec 32 := 512#32
  let v768 : BitVec 32 := Scalar.muli arg25 c512_i32_425
  let v769 : BitVec 32 := v768
  ![0, v769.toNat]
def k0_off86 (i : grid0.Coords) (k0_t14 : Fin (k0_t14_loop i).trips) : Fin 2 → Nat :=
  let c1_i32_431 : BitVec 32 := 1#32
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  ![1, v767.toNat]
def k0_off87 (i : grid0.Coords) (k0_t14 : Fin (k0_t14_loop i).trips) : Fin 2 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c512_i32_426 : BitVec 32 := 512#32
  let v770 : BitVec 32 := Scalar.muli arg25 c512_i32_426
  let v771 : BitVec 32 := v770
  let c0_i32_434 : BitVec 32 := 0#32
  ![v771.toNat, 0]
def k0_cond11 (i : grid0.Coords) (k0_t14 : Fin (k0_t14_loop i).trips) : BitVec 1 :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_435 : BitVec 32 := 1#32
  let v782 : BitVec 32 := Scalar.addi arg25 c1_i32_435
  let v783 : BitVec 1 := Scalar.cmpi .slt v782 v20
  let v784 : BitVec 32 := Scalar.extui v783
  let c0_i32_436 : BitVec 32 := 0#32
  let v785 : BitVec 1 := Scalar.cmpi .ne v784 c0_i32_436
  v785

def k0_mult28 (i : grid0.Coords) (k0_t14 : Fin (k0_t14_loop i).trips) : BitVec 32 :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_2182 : BitVec 32 := 1#32
  let v3238 : BitVec 32 := Scalar.addi arg25 c1_i32_2182
  let c512_i32_2184 : BitVec 32 := 512#32
  let v3240 : BitVec 32 := Scalar.muli v3238 c512_i32_2184
  v3240
def k0_mult29 (i : grid0.Coords) (k0_t14 : Fin (k0_t14_loop i).trips) : BitVec 32 :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_2182 : BitVec 32 := 1#32
  let v3238 : BitVec 32 := Scalar.addi arg25 c1_i32_2182
  let c512_i32_2185 : BitVec 32 := 512#32
  let v3242 : BitVec 32 := Scalar.muli v3238 c512_i32_2185
  v3242
def k0_off88 (i : grid0.Coords) (k0_t14 : Fin (k0_t14_loop i).trips) : Fin 2 → Nat :=
  let c0_i32_2186 : BitVec 32 := 0#32
  let c1_i32_2183 : BitVec 32 := 1#32
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v3239 : BitVec 32 := Scalar.subi c1_i32_2183 v767
  ![0, v3239.toNat]
def k0_off89 (i : grid0.Coords) (k0_t14 : Fin (k0_t14_loop i).trips) : Fin 3 → Nat :=
  let c1_i32_2183 : BitVec 32 := 1#32
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v3239 : BitVec 32 := Scalar.subi c1_i32_2183 v767
  let c0_i32_2187 : BitVec 32 := 0#32
  let c0_i32_2188 : BitVec 32 := 0#32
  ![v3239.toNat, 0, 0]
def k0_off90 (i : grid0.Coords) (k0_t14 : Fin (k0_t14_loop i).trips) : Fin 2 → Nat :=
  let c0_i32_2189 : BitVec 32 := 0#32
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_2182 : BitVec 32 := 1#32
  let v3238 : BitVec 32 := Scalar.addi arg25 c1_i32_2182
  let c512_i32_2184 : BitVec 32 := 512#32
  let v3240 : BitVec 32 := Scalar.muli v3238 c512_i32_2184
  let v3241 : BitVec 32 := v3240
  ![0, v3241.toNat]
def k0_off91 (i : grid0.Coords) (k0_t14 : Fin (k0_t14_loop i).trips) : Fin 2 → Nat :=
  let c1_i32_2190 : BitVec 32 := 1#32
  let c1_i32_2183 : BitVec 32 := 1#32
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v3239 : BitVec 32 := Scalar.subi c1_i32_2183 v767
  ![1, v3239.toNat]
def k0_off92 (i : grid0.Coords) (k0_t14 : Fin (k0_t14_loop i).trips) : Fin 2 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_2182 : BitVec 32 := 1#32
  let v3238 : BitVec 32 := Scalar.addi arg25 c1_i32_2182
  let c512_i32_2185 : BitVec 32 := 512#32
  let v3242 : BitVec 32 := Scalar.muli v3238 c512_i32_2185
  let v3243 : BitVec 32 := v3242
  let c0_i32_2193 : BitVec 32 := 0#32
  ![v3243.toNat, 0]
def k0_off93 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c0_i32_437 : BitVec 32 := 0#32
  let v787 : BitVec 1 := Scalar.cmpi .sgt arg25 c0_i32_437
  let v788 : BitVec 32 := Scalar.extui v787
  let c0_i32_438 : BitVec 32 := 0#32
  let v789 : BitVec 1 := Scalar.cmpi .slt arg25 c0_i32_438
  let v790 : BitVec 32 := Scalar.extui v789
  let v791 : BitVec 32 := Scalar.subi v788 v790
  let c8_i32 : BitVec 32 := 8#32
  let c0_i32_439 : BitVec 32 := 0#32
  let v792 : BitVec 1 := Scalar.cmpi .sgt c8_i32 c0_i32_439
  let v793 : BitVec 32 := Scalar.extui v792
  let c0_i32_440 : BitVec 32 := 0#32
  let v794 : BitVec 1 := Scalar.cmpi .slt c8_i32 c0_i32_440
  let v795 : BitVec 32 := Scalar.extui v794
  let v796 : BitVec 32 := Scalar.subi v793 v795
  let v797 : BitVec 1 := Scalar.cmpi .ne v791 v796
  let v798 : BitVec 32 := Scalar.remsi arg25 c8_i32
  let c0_i32_441 : BitVec 32 := 0#32
  let v799 : BitVec 1 := Scalar.cmpi .ne v798 c0_i32_441
  let v800 : BitVec 1 := Scalar.andi v797 v799
  let v786 : BitVec 32 := Scalar.divsi arg25 c8_i32
  let c1_i32_442 : BitVec 32 := 1#32
  let v801 : BitVec 32 := Scalar.subi v786 c1_i32_442
  let v802 : BitVec 32 := Scalar.select v800 v801 v786
  let v803 : Index := Scalar.indexCast v802
  let c0_443 : Index := 0#32
  let c0_444 : Index := 0#32
  ![v803.toNat, 0, 0]
def k0_off94 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v904 : Index := Scalar.indexCast v767
  let c0_501 : Index := 0#32
  let c0_502 : Index := 0#32
  ![v904.toNat, 0, 0]
def k0_off95 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v913 : Index := Scalar.indexCast v767
  let c128_510 : Index := 128#32
  let c0_511 : Index := 0#32
  ![v913.toNat, 128, 0]
def k0_off96 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v922 : Index := Scalar.indexCast v767
  let c256_519 : Index := 256#32
  let c0_520 : Index := 0#32
  ![v922.toNat, 256, 0]
def k0_off97 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v931 : Index := Scalar.indexCast v767
  let c384_528 : Index := 384#32
  let c0_529 : Index := 0#32
  ![v931.toNat, 384, 0]
def k0_off98 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v1505 : Index := Scalar.indexCast v767
  let c0_931 : Index := 0#32
  let c0_932 : Index := 0#32
  ![v1505.toNat, 0, 0]
def k0_off99 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v2080 : Index := Scalar.indexCast v767
  let c0_1346 : Index := 0#32
  let c128_1347 : Index := 128#32
  ![v2080.toNat, 0, 128]
def k0_off100 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v2655 : Index := Scalar.indexCast v767
  let c0_1761 : Index := 0#32
  let c256_1762 : Index := 256#32
  ![v2655.toNat, 0, 256]
def k0_off101 (i : grid0.Coords) (k0_t14 : Fin (k0_t14_loop i).trips) : Fin 3 → Nat :=
  let c0_i32_420 : BitVec 32 := 0#32
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v762 : BitVec 32 := Scalar.subi v20 c0_i32_420
  let c1_i32_421 : BitVec 32 := 1#32
  let v764 : BitVec 32 := Scalar.divsi v762 c1_i32_421
  let v765 : BitVec 32 := Scalar.muli v764 c1_i32_421
  let v766 : BitVec 32 := Scalar.addi c0_i32_420 v765
  let c1_i32_423 : BitVec 32 := 1#32
  let arg25 : BitVec 32 := Scf.iv v766 c1_i32_423 k0_t14
  let c1_i32_424 : BitVec 32 := 1#32
  let v767 : BitVec 32 := Scalar.andi arg25 c1_i32_424
  let v3230 : Index := Scalar.indexCast v767
  let c0_2176 : Index := 0#32
  let c384_2177 : Index := 384#32
  ![v3230.toNat, 0, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Merge.lean ====
abbrev S16384x1024 : Shape := ⟨2, ![16384, 1024]⟩
abbrev S6x1024 : Shape := ⟨2, ![6, 1024]⟩
abbrev S1x1024 : Shape := ⟨2, ![1, 1024]⟩
abbrev S16384x512 : Shape := ⟨2, ![16384, 512]⟩
abbrev S1024x2048 : Shape := ⟨2, ![1024, 2048]⟩
abbrev S512x1024 : Shape := ⟨2, ![512, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1x1024, .f32⟩
  | .hbm, ⟨3, _⟩ => ⟨S1x1024, .f32⟩
  | .hbm, ⟨4, _⟩ => ⟨S16384x512, .f32⟩
  | .hbm, ⟨5, _⟩ => ⟨S16384x512, .f32⟩
  | .hbm, ⟨6, _⟩ => ⟨S1024x2048, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S6x1024, .f32⟩
  | .local _ .vmem, ⟨3, _⟩ => ⟨S1x1024, .f32⟩
  | .local _ .vmem, ⟨4, _⟩ => ⟨S1x1024, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S16384x1024 : Shape := ⟨2, ![16384, 1024]⟩
abbrev S6x1024 : Shape := ⟨2, ![6, 1024]⟩
abbrev S1x1024 : Shape := ⟨2, ![1, 1024]⟩
abbrev S16384x512 : Shape := ⟨2, ![16384, 512]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S16384x2x1024 : Shape := ⟨3, ![16384, 2, 1024]⟩
abbrev S16384x1x1024 : Shape := ⟨3, ![16384, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1x1024, .f32⟩
  | .hbm, ⟨3, _⟩ => ⟨S1x1024, .f32⟩
  | .hbm, ⟨4, _⟩ => ⟨S16384x512, .f32⟩
  | .hbm, ⟨5, _⟩ => ⟨S16384x512, .f32⟩
  | .hbm, ⟨6, _⟩ => ⟨S1024x2048, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1024x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S16384x2x1024, .f32⟩
  | .hbm, ⟨53, _⟩ => ⟨S512x1024, .f32⟩
  | .hbm, ⟨54, _⟩ => ⟨S16384x1024, .f32⟩
  | .hbm, ⟨55, _⟩ => ⟨S512x1024, .f32⟩
  | .hbm, ⟨56, _⟩ => ⟨S16384x1024, .f32⟩
  | .hbm, ⟨57, _⟩ => ⟨S16384x1x1024, .f32⟩
  | .hbm, ⟨58, _⟩ => ⟨S16384x1024, .f32⟩
  | .hbm, ⟨59, _⟩ => ⟨S16384x1024, .f32⟩
  | .hbm, ⟨60, _⟩ => ⟨S16384x1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S1024x1024, .f32⟩
  | .hbm, ⟨65, _⟩ => ⟨S16384x1024, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Mix.lean ====
abbrev S16384x1024 : Shape := ⟨2, ![16384, 1024]⟩
abbrev S6x1024 : Shape := ⟨2, ![6, 1024]⟩
abbrev S1x1024 : Shape := ⟨2, ![1, 1024]⟩
abbrev S1024x1536 : Shape := ⟨2, ![1024, 1536]⟩
abbrev S1024x128 : Shape := ⟨2, ![1024, 128]⟩
abbrev S128x256 : Shape := ⟨2, ![128, 256]⟩
abbrev S1x256 : Shape := ⟨2, ![1, 256]⟩
abbrev S16384x1 : Shape := ⟨2, ![16384, 1]⟩
abbrev S1x128 : Shape := ⟨2, ![1, 128]⟩
abbrev S1024x2048 : Shape := ⟨2, ![1024, 2048]⟩
abbrev S16384x256 : Shape := ⟨2, ![16384, 256]⟩
abbrev S16384x512 : Shape := ⟨2, ![16384, 512]⟩
abbrev S16384x64 : Shape := ⟨2, ![16384, 64]⟩
abbrev S16384x128 : Shape := ⟨2, ![16384, 128]⟩
abbrev S512x1024 : Shape := ⟨2, ![512, 1024]⟩
abbrev S512x1 : Shape := ⟨2, ![512, 1]⟩
abbrev S512x256 : Shape := ⟨2, ![512, 256]⟩
abbrev S512x512 : Shape := ⟨2, ![512, 512]⟩
abbrev S512x64 : Shape := ⟨2, ![512, 64]⟩
abbrev S512x128 : Shape := ⟨2, ![512, 128]⟩
abbrev S512 : Shape := ⟨1, ![512]⟩
abbrev S512x1536 : Shape := ⟨2, ![512, 1536]⟩
abbrev S512x2048 : Shape := ⟨2, ![512, 2048]⟩

abbrev nBuf : Space → Nat
  | .hbm => 24
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1x1024, .f32⟩
  | .hbm, ⟨3, _⟩ => ⟨S1024x1536, .bf16⟩
  | .hbm, ⟨4, _⟩ => ⟨S1024x128, .bf16⟩
  | .hbm, ⟨5, _⟩ => ⟨S128x256, .bf16⟩
  | .hbm, ⟨6, _⟩ => ⟨S1x256, .f32⟩
  | .hbm, ⟨7, _⟩ => ⟨S16384x1, .f32⟩
  | .hbm, ⟨8, _⟩ => ⟨S1x128, .f32⟩
  | .hbm, ⟨9, _⟩ => ⟨S1x128, .f32⟩
  | .hbm, ⟨10, _⟩ => ⟨S1024x2048, .bf16⟩
  | .hbm, ⟨11, _⟩ => ⟨S1024x128, .bf16⟩
  | .hbm, ⟨12, _⟩ => ⟨S1x128, .f32⟩
  | .hbm, ⟨13, _⟩ => ⟨S16384x256, .f32⟩
  | .hbm, ⟨14, _⟩ => ⟨S16384x256, .f32⟩
  | .hbm, ⟨15, _⟩ => ⟨S16384x512, .f32⟩
  | .hbm, ⟨16, _⟩ => ⟨S16384x512, .f32⟩
  | .hbm, ⟨17, _⟩ => ⟨S16384x256, .f32⟩
  | .hbm, ⟨18, _⟩ => ⟨S16384x512, .bf16⟩
  | .hbm, ⟨19, _⟩ => ⟨S16384x512, .bf16⟩
  | .hbm, ⟨20, _⟩ => ⟨S16384x512, .bf16⟩
  | .hbm, ⟨21, _⟩ => ⟨S16384x512, .bf16⟩
  | .hbm, ⟨22, _⟩ => ⟨S16384x64, .bf16⟩
  | .hbm, ⟨23, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S1024x1536, .bf16⟩
  | .local _ .vmem, ⟨5, _⟩ => ⟨S1024x128, .bf16⟩
  | .local _ .vmem, ⟨6, _⟩ => ⟨S128x256, .bf16⟩
  | .local _ .vmem, ⟨7, _⟩ => ⟨S1x256, .f32⟩
  | .local _ .vmem, ⟨8, _⟩ => ⟨S512x1, .f32⟩
  | .local _ .vmem, ⟨9, _⟩ => ⟨S512x1, .f32⟩
  | .local _ .vmem, ⟨10, _⟩ => ⟨S1x128, .f32⟩
  | .local _ .vmem, ⟨11, _⟩ => ⟨S1x128, .f32⟩
  | .local _ .vmem, ⟨12, _⟩ => ⟨S1024x2048, .bf16⟩
  | .local _ .vmem, ⟨13, _⟩ => ⟨S1024x128, .bf16⟩
  | .local _ .vmem, ⟨14, _⟩ => ⟨S1x128, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x256, .f32⟩
  | .local _ .vmem, ⟨24, _⟩ => ⟨S512x256, .f32⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x64, .bf16⟩
  | .local _ .vmem, ⟨34, _⟩ => ⟨S512x64, .bf16⟩
  | .local _ .vmem, ⟨35, _⟩ => ⟨S512x128, .f32⟩
  | .local _ .vmem, ⟨36, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev main_v0_10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x64 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== MixReferenceIdeal.lean ====
abbrev S16384x1024 : Shape := ⟨2, ![16384, 1024]⟩
abbrev S6x1024 : Shape := ⟨2, ![6, 1024]⟩
abbrev S1x1024 : Shape := ⟨2, ![1, 1024]⟩
abbrev S1024x1536 : Shape := ⟨2, ![1024, 1536]⟩
abbrev S1024x128 : Shape := ⟨2, ![1024, 128]⟩
abbrev S128x256 : Shape := ⟨2, ![128, 256]⟩
abbrev S1x256 : Shape := ⟨2, ![1, 256]⟩
abbrev S16384x1 : Shape := ⟨2, ![16384, 1]⟩
abbrev S1x128 : Shape := ⟨2, ![1, 128]⟩
abbrev S1024x2048 : Shape := ⟨2, ![1024, 2048]⟩
abbrev S1024 : Shape := ⟨1, ![1024]⟩
abbrev S_ : Shape := ⟨0, ![]⟩
abbrev S16384 : Shape := ⟨1, ![16384]⟩
abbrev S16384x1536 : Shape := ⟨2, ![16384, 1536]⟩
abbrev S16384x256 : Shape := ⟨2, ![16384, 256]⟩
abbrev S16384x512 : Shape := ⟨2, ![16384, 512]⟩
abbrev S16384x128 : Shape := ⟨2, ![16384, 128]⟩
abbrev S256 : Shape := ⟨1, ![256]⟩
abbrev S16384x2048 : Shape := ⟨2, ![16384, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1x1024, .f32⟩
  | .hbm, ⟨3, _⟩ => ⟨S1024x1536, .bf16⟩
  | .hbm, ⟨4, _⟩ => ⟨S1024x128, .bf16⟩
  | .hbm, ⟨5, _⟩ => ⟨S128x256, .bf16⟩
  | .hbm, ⟨6, _⟩ => ⟨S1x256, .f32⟩
  | .hbm, ⟨7, _⟩ => ⟨S16384x1, .f32⟩
  | .hbm, ⟨8, _⟩ => ⟨S1x128, .f32⟩
  | .hbm, ⟨9, _⟩ => ⟨S1x128, .f32⟩
  | .hbm, ⟨10, _⟩ => ⟨S1024x2048, .bf16⟩
  | .hbm, ⟨11, _⟩ => ⟨S1024x128, .bf16⟩
  | .hbm, ⟨12, _⟩ => ⟨S1x128, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1024x1536, .f32⟩
  | .hbm, ⟨44, _⟩ => ⟨S16384x1536, .f32⟩
  | .hbm, ⟨45, _⟩ => ⟨S16384x256, .f32⟩
  | .hbm, ⟨46, _⟩ => ⟨S16384x256, .f32⟩
  | .hbm, ⟨47, _⟩ => ⟨S16384x512, .f32⟩
  | .hbm, ⟨48, _⟩ => ⟨S16384x512, .f32⟩
  | .hbm, ⟨49, _⟩ => ⟨S1024x128, .f32⟩
  | .hbm, ⟨50, _⟩ => ⟨S16384x128, .f32⟩
  | .hbm, ⟨51, _⟩ => ⟨S128x256, .f32⟩
  | .hbm, ⟨52, _⟩ => ⟨S16384x256, .f32⟩
  | .hbm, ⟨53, _⟩ => ⟨S256, .f32⟩
  | .hbm, ⟨54, _⟩ => ⟨S1x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S_, .f32⟩
  | .hbm, ⟨62, _⟩ => ⟨S16384x256, .f32⟩
  | .hbm, ⟨63, _⟩ => ⟨S16384x256, .f32⟩
  | .hbm, ⟨64, _⟩ => ⟨S1024x2048, .f32⟩
  | .hbm, ⟨65, _⟩ => ⟨S16384x2048, .f32⟩
  | .hbm, ⟨66, _⟩ => ⟨S16384x512, .f32⟩
  | .hbm, ⟨67, _⟩ => ⟨S1024x128, .f32⟩
  | .hbm, ⟨68, _⟩ => ⟨S16384x128, .f32⟩
  | .hbm, ⟨69, _⟩ => ⟨S_, .f32⟩
  | .hbm, ⟨70, _⟩ => ⟨S16384x128, .f32⟩
  | .hbm, ⟨71, _⟩ => ⟨S16384x128, .f32⟩
  | .hbm, ⟨72, _⟩ => ⟨S_, .f32⟩
  | .hbm, ⟨73, _⟩ => ⟨S16384x256, .f32⟩
  | .hbm, ⟨74, _⟩ => ⟨S16384x256, .f32⟩
  | .hbm, ⟨75, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Moe.lean ====
abbrev S16384x1024 : Shape := ⟨2, ![16384, 1024]⟩
abbrev S6x1024 : Shape := ⟨2, ![6, 1024]⟩
abbrev S1x1024 : Shape := ⟨2, ![1, 1024]⟩
abbrev S1024x128 : Shape := ⟨2, ![1024, 128]⟩
abbrev S1x128 : Shape := ⟨2, ![1, 128]⟩
abbrev S1024x8192 : Shape := ⟨2, ![1024, 8192]⟩
abbrev S8192x1024 : Shape := ⟨2, ![8192, 1024]⟩
abbrev S512x1024 : Shape := ⟨2, ![512, 1024]⟩
abbrev S1024x2048 : Shape := ⟨2, ![1024, 2048]⟩
abbrev S2048x1024 : Shape := ⟨2, ![2048, 1024]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩

abbrev nBuf : Space → Nat
  | .hbm => 10
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1x1024, .f32⟩
  | .hbm, ⟨3, _⟩ => ⟨S1x1024, .f32⟩
  | .hbm, ⟨4, _⟩ => ⟨S1024x128, .bf16⟩
  | .hbm, ⟨5, _⟩ => ⟨S1x128, .f32⟩
  | .hbm, ⟨6, _⟩ => ⟨S1024x8192, .bf16⟩
  | .hbm, ⟨7, _⟩ => ⟨S1024x8192, .bf16⟩
  | .hbm, ⟨8, _⟩ => ⟨S8192x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S1x1024, .f32⟩
  | .local _ .vmem, ⟨5, _⟩ => ⟨S1024x128, .bf16⟩
  | .local _ .vmem, ⟨6, _⟩ => ⟨S1x128, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x1024, .bf16⟩
  | .local _ .vmem, ⟨12, _⟩ => ⟨S2048x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x128, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32_51 : BitVec 32 := 3#32
  let v131 : BitVec 1 := Scalar.cmpi .eq arg1 c3_i32_51
  let v132 : BitVec 32 := Scalar.extui v131
  let c0_i32_52 : BitVec 32 := 0#32
  let v133 : BitVec 1 := Scalar.cmpi .ne v132 c0_i32_52
  v133

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MoeReferenceIdeal.lean ====
abbrev S16384x1024 : Shape := ⟨2, ![16384, 1024]⟩
abbrev S6x1024 : Shape := ⟨2, ![6, 1024]⟩
abbrev S1x1024 : Shape := ⟨2, ![1, 1024]⟩
abbrev S1024x128 : Shape := ⟨2, ![1024, 128]⟩
abbrev S1x128 : Shape := ⟨2, ![1, 128]⟩
abbrev S1024x8192 : Shape := ⟨2, ![1024, 8192]⟩
abbrev S8192x1024 : Shape := ⟨2, ![8192, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S128 : Shape := ⟨1, ![128]⟩
abbrev S16384x4 : Shape := ⟨2, ![16384, 4]⟩
abbrev S16384x32 : Shape := ⟨2, ![16384, 32]⟩
abbrev S16384x4x8 : Shape := ⟨3, ![16384, 4, 8]⟩
abbrev S16384x4x1 : Shape := ⟨3, ![16384, 4, 1]⟩
abbrev S16384x1x4 : Shape := ⟨3, ![16384, 1, 4]⟩
abbrev S4 : Shape := ⟨1, ![4]⟩
abbrev S16384x4x4 : Shape := ⟨3, ![16384, 4, 4]⟩
abbrev S1x4 : Shape := ⟨2, ![1, 4]⟩
abbrev S4x1 : Shape := ⟨2, ![4, 1]⟩
abbrev S4x4 : Shape := ⟨2, ![4, 4]⟩
abbrev S1x4x4 : Shape := ⟨3, ![1, 4, 4]⟩
abbrev S16384x4x8x1 : Shape := ⟨4, ![16384, 4, 8, 1]⟩
abbrev S16384x4x1x8 : Shape := ⟨4, ![16384, 4, 1, 8]⟩
abbrev S8 : Shape := ⟨1, ![8]⟩
abbrev S16384x4x8x8 : Shape := ⟨4, ![16384, 4, 8, 8]⟩
abbrev S1x8 : Shape := ⟨2, ![1, 8]⟩
abbrev S8x1 : Shape := ⟨2, ![8, 1]⟩
abbrev S8x8 : Shape := ⟨2, ![8, 8]⟩
abbrev S1x1x8x8 : Shape := ⟨4, ![1, 1, 8, 8]⟩
abbrev S16384x32x1 : Shape := ⟨3, ![16384, 32, 1]⟩
abbrev S16384x8192 : Shape := ⟨2, ![16384, 8192]⟩
abbrev S16384x32x256 : Shape := ⟨3, ![16384, 32, 256]⟩

abbrev nBuf : Space → Nat
  | .hbm => 185
  | .vmem => 0
  | .smem => 0
  | _ => 0

abbrev hbmTy0_0 (i : Nat) : BufTy := match i % 128 with
  | 0 => ⟨S16384x1024, .f32⟩
  | 1 => ⟨S6x1024, .f32⟩
  | 2 => ⟨S1x1024, .f32⟩
  | 3 => ⟨S1x1024, .f32⟩
  | 4 => ⟨S1024x128, .bf16⟩
  | 5 => ⟨S1x128, .f32⟩
  | 6 => ⟨S1024x8192, .bf16⟩
  | 7 => ⟨S1024x8192, .bf16⟩
  | 8 => ⟨S8192x1024, .bf16⟩
  | 9 => ⟨S1x1024, .f32⟩
  | 10 => ⟨S1024, .f32⟩
  | 11 => ⟨S1x1024, .f32⟩
  | 12 => ⟨S1024, .f32⟩
  | 13 => ⟨S1x1024, .f32⟩
  | 14 => ⟨S1024, .f32⟩
  | 15 => ⟨S1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S_, .f32⟩
  | 33 => ⟨S1024, .f32⟩
  | 34 => ⟨S1024, .f32⟩
  | 35 => ⟨S1x1024, .f32⟩
  | 36 => ⟨S16384x1024, .f32⟩
  | 37 => ⟨S16384x1024, .f32⟩
  | 38 => ⟨S1x1024, .f32⟩
  | 39 => ⟨S16384x1024, .f32⟩
  | 40 => ⟨S16384x1024, .f32⟩
  | 41 => ⟨S1024x128, .f32⟩
  | 42 => ⟨S16384x128, .f32⟩
  | 43 => ⟨S128, .f32⟩
  | 44 => ⟨S1x128, .f32⟩
  | 45 => ⟨S16384x128, .f32⟩
  | 46 => ⟨S16384x128, .f32⟩
  | 47 => ⟨S16384x4, .f32⟩
  | 48 => ⟨S16384x32, .f32⟩
  | 49 => ⟨S16384x4x8, .f32⟩
  | 50 => ⟨S_, .f32⟩
  | 51 => ⟨S16384, .f32⟩
  | 52 => ⟨S_, .f32⟩
  | 53 => ⟨S16384, .f32⟩
  | 54 => ⟨S16384, .f32⟩
  | 55 => ⟨S16384x1, .f32⟩
  | 56 => ⟨S16384x4, .f32⟩
  | 57 => ⟨S16384x4, .f32⟩
  | 58 => ⟨S16384x4, .f32⟩
  | 59 => ⟨S_, .f32⟩
  | 60 => ⟨S16384, .f32⟩
  | 61 => ⟨S16384x1, .f32⟩
  | 62 => ⟨S16384x4, .f32⟩
  | 63 => ⟨S16384x4, .f32⟩
  | 64 => ⟨S_, .f32⟩
  | 65 => ⟨S16384x4, .f32⟩
  | 66 => ⟨S_, .f32⟩
  | 67 => ⟨S16384x4, .f32⟩
  | 68 => ⟨S16384x4, .f32⟩
  | 69 => ⟨S16384x4x1, .f32⟩
  | 70 => ⟨S16384x4x8, .f32⟩
  | 71 => ⟨S16384x4x8, .f32⟩
  | 72 => ⟨S16384x4x8, .f32⟩
  | 73 => ⟨S_, .f32⟩
  | 74 => ⟨S16384x4, .f32⟩
  | 75 => ⟨S16384x4x1, .f32⟩
  | 76 => ⟨S16384x4x8, .f32⟩
  | 77 => ⟨S16384x4x8, .f32⟩
  | 78 => ⟨S16384x4x1, .f32⟩
  | 79 => ⟨S16384x1x4, .f32⟩
  | 80 => ⟨S4, .i32⟩
  | 81 => ⟨S16384x4x4, .f32⟩
  | 82 => ⟨S16384x4x4, .f32⟩
  | 83 => ⟨S16384x4x4, .i1⟩
  | 84 => ⟨S16384x4x4, .f32⟩
  | 85 => ⟨S16384x4x4, .f32⟩
  | 86 => ⟨S16384x4x4, .i1⟩
  | 87 => ⟨S1x4, .i32⟩
  | 88 => ⟨S4x1, .i32⟩
  | 89 => ⟨S4x4, .i32⟩
  | 90 => ⟨S4x4, .i32⟩
  | 91 => ⟨S4x4, .i1⟩
  | 92 => ⟨S1x4x4, .i1⟩
  | 93 => ⟨S16384x4x4, .i1⟩
  | 94 => ⟨S16384x4x4, .i1⟩
  | 95 => ⟨S16384x4x4, .i1⟩
  | 96 => ⟨S16384x4x4, .f32⟩
  | 97 => ⟨S_, .f32⟩
  | 98 => ⟨S16384x4, .f32⟩
  | 99 => ⟨S_, .f32⟩
  | 100 => ⟨S16384x4, .f32⟩
  | 101 => ⟨S16384x4, .i1⟩
  | 102 => ⟨S_, .f32⟩
  | 103 => ⟨S_, .f32⟩
  | 104 => ⟨S16384x4, .f32⟩
  | 105 => ⟨S16384x4, .f32⟩
  | 106 => ⟨S16384x4x8x1, .f32⟩
  | 107 => ⟨S16384x4x1x8, .f32⟩
  | 108 => ⟨S8, .i32⟩
  | 109 => ⟨S16384x4x8x8, .f32⟩
  | 110 => ⟨S16384x4x8x8, .f32⟩
  | 111 => ⟨S16384x4x8x8, .i1⟩
  | 112 => ⟨S16384x4x8x8, .f32⟩
  | 113 => ⟨S16384x4x8x8, .f32⟩
  | 114 => ⟨S16384x4x8x8, .i1⟩
  | 115 => ⟨S1x8, .i32⟩
  | 116 => ⟨S8x1, .i32⟩
  | 117 => ⟨S8x8, .i32⟩
  | 118 => ⟨S8x8, .i32⟩
  | 119 => ⟨S8x8, .i1⟩
  | 120 => ⟨S1x1x8x8, .i1⟩
  | 121 => ⟨S16384x4x8x8, .i1⟩
  | 122 => ⟨S16384x4x8x8, .i1⟩
  | 123 => ⟨S16384x4x8x8, .i1⟩
  | 124 => ⟨S16384x4x8x8, .f32⟩
  | 125 => ⟨S_, .f32⟩
  | 126 => ⟨S16384x4x8, .f32⟩
  | 127 => ⟨S_, .f32⟩
  | _ => ⟨S16384x1024, .f32⟩

abbrev hbmTy0_1 (i : Nat) : BufTy := match i % 128 with
  | 0 => ⟨S16384x4x8, .f32⟩
  | 1 => ⟨S16384x4x8, .i1⟩
  | 2 => ⟨S_, .f32⟩
  | 3 => ⟨S_, .f32⟩
  | 4 => ⟨S16384x4x8, .f32⟩
  | 5 => ⟨S16384x4x8, .f32⟩
  | 6 => ⟨S16384x4x1, .f32⟩
  | 7 => ⟨S16384x4x8, .f32⟩
  | 8 => ⟨S16384x4x8, .f32⟩
  | 9 => ⟨S_, .f32⟩
  | 10 => ⟨S16384x4, .f32⟩
  | 11 => ⟨S16384x4x1, .f32⟩
  | 12 => ⟨S16384x4x8, .f32⟩
  | 13 => ⟨S16384x4x8, .f32⟩
  | 14 => ⟨S16384x32x1, .f32⟩
  | 15 => ⟨S1024x8192, .f32⟩
  | 16 => ⟨S16384x8192, .f32⟩
  | 17 => ⟨S16384x32x256, .f32⟩
  | 18 => ⟨S1024x8192, .f32⟩
  | 19 => ⟨S16384x8192, .f32⟩
  | 20 => ⟨S16384x32x256, .f32⟩
  | 21 => ⟨S16384x32x256, .f32⟩
  | 22 => ⟨S16384x32x256, .f32⟩
  | 23 => ⟨S_, .f32⟩
  | 24 => ⟨S16384x32x256, .f32⟩
  | 25 => ⟨S16384x32x256, .f32⟩
  | 26 => ⟨S_, .f32⟩
  | 27 => ⟨S16384x32x256, .f32⟩
  | 28 => ⟨S16384x32x256, .f32⟩
  | 29 => ⟨S16384x32x256, .f32⟩
  | 30 => ⟨S16384x32x256, .f32⟩
  | 31 => ⟨S16384x32x256, .f32⟩
  | 32 => ⟨S16384x32x256, .f32⟩
  | 33 => ⟨S16384x8192, .f32⟩
  | 34 => ⟨S8192x1024, .f32⟩
  | 35 => ⟨S16384x1024, .f32⟩
  | 36 => ⟨S1024, .f32⟩
  | 37 => ⟨S16384x1024, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S_, .f32⟩
  | 45 => ⟨S16384x1, .f32⟩
  | 46 => ⟨S16384x1, .f32⟩
  | 47 => ⟨S16384x1, .f32⟩
  | 48 => ⟨S16384x1024, .f32⟩
  | 49 => ⟨S16384x1024, .f32⟩
  | 50 => ⟨S1x1024, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_call0_v0 : Ref sig .tc := ⟨.hbm, 103, rfl⟩
abbrev main_call0_v1 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_12 : Ref sig .tc := ⟨.hbm, 125, rfl⟩
abbrev main_v101 : Ref sig .tc := ⟨.hbm, 126, rfl⟩
abbrev main_cst_13 : Ref sig .tc := ⟨.hbm, 127, rfl⟩
abbrev main_v102 : Ref sig .tc := ⟨.hbm, 128, rfl⟩
abbrev main_v103 : Ref sig .tc := ⟨.hbm, 129, rfl⟩
abbrev main_cst_14 : Ref sig .tc := ⟨.hbm, 130, rfl⟩
abbrev main_call1_v0 : Ref sig .tc := ⟨.hbm, 131, rfl⟩
abbrev main_call1_v1 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_15 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_call2_v0 : Ref sig .tc := ⟨.hbm, 149, rfl⟩
abbrev main_call2_v1 : Ref sig .tc := ⟨.hbm, 150, rfl⟩
abbrev main_call2_cst : Ref sig .tc := ⟨.hbm, 151, rfl⟩
abbrev main_call2_v2 : Ref sig .tc := ⟨.hbm, 152, rfl⟩
abbrev main_call2_v3 : Ref sig .tc := ⟨.hbm, 153, rfl⟩
abbrev main_call2_cst_0 : Ref sig .tc := ⟨.hbm, 154, rfl⟩
abbrev main_call2_v4 : Ref sig .tc := ⟨.hbm, 155, rfl⟩
abbrev main_call2_v5 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_16 : Ref sig .tc := ⟨.hbm, 166, rfl⟩
abbrev main_v128 : Ref sig .tc := ⟨.hbm, 167, rfl⟩
abbrev main_v129 : Ref sig .tc := ⟨.hbm, 168, rfl⟩
abbrev main_cst_17 : Ref sig .tc := ⟨.hbm, 169, rfl⟩
abbrev main_v130 : Ref sig .tc := ⟨.hbm, 170, rfl⟩
abbrev main_v131 : Ref sig .tc := ⟨.hbm, 171, rfl⟩
abbrev main_cst_18 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]
-- ==== Proof.Keeps.lean ====
/-
  A program that leaves what it is given as it found it, up to the contents of the buffers it may write.

  `Keeps c R p`: from `R`, the program `p` of core `c` runs without a fault and ends with `R` again, whatever it
  returns. The rules below close `Keeps` under what a kernel body is made of: a returned value, two programs in
  sequence, a load from a buffer `R` holds, a store to a buffer `R` holds at contents it does not name, a counted
  loop, a branch.
-/
module

public import proofs.«01_k».proof.Proof.Gen.Kernel.Launch
public import Idealize.ShloMosaic.Lib.Pipeline.FrameBody
public import Idealize.ShloMosaic.Lib.Transfers
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's algebra: the pipeline library's beside the transfers' counters. -/
abbrev MK (F : FTy → Type) : Type := MT nD τ sig Unit (Elt F) ℕ (Pipeline.UD sig nD τ) ℕ

/-- The body's programs. -/
abbrev Pg (F : FTy → Type) (α : Type) : Type 1 := Prog (TpuEff nD τ sig (Elt F) Λ₀ .tc) α

/-- From `A`, the program runs and ends with `B` of what it returns. -/
structure Takes (c : Dev nD) (A : sProp (MK F)) {α : Type} (p : Pg F α) (B : α → sProp (MK F)) : Prop where
  run : A ⊢ wp frame (wpE (defs₀ (F := F)) Variants.none (c : Thread nD τ) none) Set.univ p B

/-- The program leaves `R` as it found it. -/
abbrev Keeps (c : Dev nD) (R : sProp (MK F)) {α : Type} (p : Pg F α) : Prop := Takes c R p fun _ => R

/-- `R` holds a share of the elements `S` of the buffer under `M` and can be put together again from it. -/
def HoldsOn (c : Dev nD) (R : sProp (MK F)) {sp : Space} {s : Shape} {e : EltTy} (M : Memref sig .tc sp s e)
    (S : Finset (Idx (M.view.loc (c : Thread nD τ)))) : Prop :=
  ∃ q : PosShare TreeShare, R ⊢ iprop(∃ f, (M.view.loc (c : Thread nD τ) ↦[S]{q} f) ∗ ((M.view.loc (c : Thread nD τ) ↦[S]{q} f) -∗ R))

/-- `R` holds a share of the whole of `M`. -/
def Holds (c : Dev nD) (R : sProp (MK F)) {sp : Space} {s : Shape} {e : EltTy} (M : Memref sig .tc sp s e) : Prop :=
  HoldsOn c R M M.view.set

/-- `R` holds the whole of `M` and can be put together again from it at any contents. -/
def Owns (c : Dev nD) (R : sProp (MK F)) {sp : Space} {s : Shape} {e : EltTy} (M : Memref sig .tc sp s e) : Prop :=
  R ⊢ iprop((∃ f, M.view.loc (c : Thread nD τ) ↦[M.view.set]{fullShare} f)
    ∗ ((∃ f, M.view.loc (c : Thread nD τ) ↦[M.view.set]{fullShare} f) -∗ R))

/-- The whole of `M` at contents that are not named. -/
def Some' (c : Dev nD) {sp : Space} {s : Shape} {e : EltTy} (M : Memref sig .tc sp s e) : sProp (MK F) :=
  iprop(∃ f, M.view.loc (c : Thread nD τ) ↦[M.view.set]{fullShare} f)

variable {c : Dev nD} {R R' : sProp (MK F)} {sp : Space} {s : Shape} {e : EltTy}

theorem Owns.holds {M : Memref sig .tc sp s e} (h : Owns c R M) : Holds c R M := by
  refine ⟨fullShare, ?_⟩
  unfold Owns at h
  refine h.trans ?_
  iintro ⟨⟨%f, Hf⟩, Hk⟩
  iexists f
  isplitl [Hf]; · iexact Hf
  iintro Hf; iapply Hk; iexists f; iexact Hf

theorem Owns.self {M : Memref sig .tc sp s e} : Owns (F := F) c (Some' c M) M := by
  unfold Owns Some'
  iintro H
  isplitl [H]; · iexact H
  iintro H; iexact H

theorem Owns.left {M : Memref sig .tc sp s e} (h : Owns c R M) : Owns c iprop(R ∗ R') M := by
  unfold Owns at h ⊢
  iintro ⟨HR, HR'⟩
  ihave HR := h $$ HR
  icases HR with ⟨Hf, Hk⟩
  isplitl [Hf]; · iexact Hf
  iintro Hf
  isplitl [Hf Hk]
  · iapply Hk; iexact Hf
  iexact HR'

theorem Owns.right {M : Memref sig .tc sp s e} (h : Owns c R M) : Owns c iprop(R' ∗ R) M := by
  unfold Owns at h ⊢
  iintro ⟨HR', HR⟩
  ihave HR := h $$ HR
  icases HR with ⟨Hf, Hk⟩
  isplitl [Hf]; · iexact Hf
  iintro Hf
  isplitl [HR']; · iexact HR'
  iapply Hk; iexact Hf

theorem HoldsOn.self {M : Memref sig .tc sp s e} {S : Finset (Idx (M.view.loc (c : Thread nD τ)))} {q : PosShare TreeShare}
    {f : Buf (Elt F) (M.view.loc (c : Thread nD τ))} : HoldsOn c (M.view.loc (c : Thread nD τ) ↦[S]{q} f : sProp (MK F)) M S := by
  refine ⟨q, ?_⟩
  iintro H
  iexists f
  isplitl [H]; · iexact H
  iintro H; iexact H

theorem HoldsOn.ex {M : Memref sig .tc sp s e} {S : Finset (Idx (M.view.loc (c : Thread nD τ)))} {q : PosShare TreeShare} :
    HoldsOn c (iprop(∃ f, M.view.loc (c : Thread nD τ) ↦[S]{q} f) : sProp (MK F)) M S := by
  refine ⟨q, ?_⟩
  iintro ⟨%f, H⟩
  iexists f
  isplitl [H]; · iexact H
  iintro H; iexists f; iexact H

theorem HoldsOn.left {M : Memref sig .tc sp s e} {S : Finset (Idx (M.view.loc (c : Thread nD τ)))} (h : HoldsOn c R M S) :
    HoldsOn c iprop(R ∗ R') M S := by
  obtain ⟨q, h⟩ := h
  refine ⟨q, ?_⟩
  iintro ⟨HR, HR'⟩
  ihave HR := h $$ HR
  icases HR with ⟨%f, Hf, Hk⟩
  iexists f
  isplitl [Hf]; · iexact Hf
  iintro Hf
  isplitl [Hf Hk]
  · iapply Hk; iexact Hf
  iexact HR'

theorem HoldsOn.right {M : Memref sig .tc sp s e} {S : Finset (Idx (M.view.loc (c : Thread nD τ)))} (h : HoldsOn c R M S) :
    HoldsOn c iprop(R' ∗ R) M S := by
  obtain ⟨q, h⟩ := h
  refine ⟨q, ?_⟩
  iintro ⟨HR', HR⟩
  ihave HR := h $$ HR
  icases HR with ⟨%f, Hf, Hk⟩
  iexists f
  isplitl [Hf]; · iexact Hf
  iintro Hf
  isplitl [HR']; · iexact HR'
  iapply Hk; iexact Hf

/-! ## The rules -/

variable {α β : Type}

theorem Takes.bind {A : sProp (MK F)} {B : α → sProp (MK F)} {C : β → sProp (MK F)} {p : Pg F α} {k : α → Pg F β}
    (hp : Takes c A p B) (hk : ∀ x, Takes c (B x) (k x) C) : Takes c A (p >>= k) C := by
  refine ⟨?_⟩
  rw [wp_bind]
  exact hp.run.trans (wp_mono _ _ _ fun x => (hk x).run)

theorem Takes.mono {A A' : sProp (MK F)} {B B' : α → sProp (MK F)} {p : Pg F α} (hA : A ⊢ A') (hp : Takes c A' p B')
    (hB : ∀ x, B' x ⊢ B x) : Takes c A p B := by
  exact ⟨hA.trans (hp.run.trans (wp_mono _ _ _ hB))⟩

theorem Takes.framed {A : sProp (MK F)} {B : α → sProp (MK F)} {p : Pg F α} (hp : Takes c A p B) (X : sProp (MK F)) :
    Takes c iprop(A ∗ X) p fun x => iprop(B x ∗ X) := by
  refine ⟨BIBase.Entails.trans ?_ (wp_frame_r _ _ _)⟩
  iintro ⟨HA, HX⟩
  isplitl [HA]
  · iapply hp.run; iexact HA
  iexact HX

theorem Keeps.framed {p : Pg F α} (hp : Keeps c R p) (X : sProp (MK F)) : Keeps c iprop(R ∗ X) p := Takes.framed hp X

theorem Takes.pure {A : sProp (MK F)} {a : α} : Takes c A (Pure.pure a : Pg F α) fun _ => A := by
  refine ⟨?_⟩
  show _ ⊢ wp _ _ _ (.ret a) _
  rw [wp_ret]
  iintro H; imodintro; iexact H

theorem Keeps.pure {a : α} : Keeps c R (Pure.pure a : Pg F α) := Takes.pure

theorem Keeps.bind {p : Pg F α} {k : α → Pg F β} (hp : Keeps c R p) (hk : ∀ x, Keeps c R (k x)) : Keeps c R (p >>= k) :=
  Takes.bind hp hk

theorem Keeps.loadOn {cs : CoreSpace} {M : Memref sig .tc cs s e} {r : LoadRect s} {hl : M.view.LoadsAt r}
    {S : Finset (Idx (M.view.loc (c : Thread nD τ)))} (h : HoldsOn c R M S) (hS : M.view.setOn r.set ⊆ S) :
    Keeps c R (Prog.lift (.load M r hl) : Pg F _) := by
  obtain ⟨q, h⟩ := h
  refine ⟨h.trans ?_⟩
  have key := fun f => wp_load (defs := defs₀ (F := F)) Variants.none (c : Thread nD τ) none (Γ := .empty) Set.univ (m := M) (r := r)
    (hl := hl) (k := .ret) (q := q) (f := f) (Q := fun _ => R) hS
  iintro ⟨%f, Hf, Hk⟩
  iapply (key f) $$ Hf
  iintro Hf
  rw [wp_ret]; imodintro
  iapply Hk; iexact Hf

theorem Keeps.load {cs : CoreSpace} {M : Memref sig .tc cs s e} {r : LoadRect s} {hl : M.view.LoadsAt r}
    (h : Holds c R M) : Keeps c R (Prog.lift (.load M r hl) : Pg F _) :=
  Keeps.loadOn h (View.setOn_subset_set _ _)

theorem Keeps.store {cs : CoreSpace} {M : Memref sig .tc cs s e} {r : Rect s} {w : r.shape.Idx → Elt F e} {Mk : Finset r.shape.Idx}
    {hx : (M.access r).Stores Mk} {hm : Mk = Finset.univ ∨ ∀ a, r.stride a = 1} (h : Owns c R M) :
    Keeps c R (Prog.lift (.store M r w Mk hx hm) : Pg F _) := by
  unfold Owns at h
  refine ⟨h.trans ?_⟩
  have key := fun f => wp_store (defs := defs₀ (F := F)) Variants.none (c : Thread nD τ) none (Γ := .empty) Set.univ (m := M) (r := r)
    (w := w) (Mk := Mk) (hx := hx) (hm := hm) (k := .ret) (S := M.view.set) (f := f) (Q := fun _ => R)
    (((M.access r).setOn_subset_set Mk).trans (M.view.set_slice_subset r))
  iintro ⟨⟨%f, Hf⟩, Hk⟩
  iapply (key f) $$ Hf
  iintro Hf
  rw [wp_ret]; imodintro
  iapply Hk; iexists _; iexact Hf

theorem Keeps.smem {M : Memref sig .tc .smem s e} {r : Rect s} {h1 : r.shape.numel = 1} {hp : e.packing = 1}
    (h : Holds c R M) : Keeps c R (smemLoad M r h1 hp : Pg F _) := by
  obtain ⟨q, h⟩ := h
  refine ⟨h.trans ?_⟩
  have key := fun f => wp_smemLoadElt (defs := defs₀ (F := F)) Variants.none (c : Thread nD τ) none (Γ := .empty) Set.univ (m := M) (r := r)
    (hw := View.loads_smem_one hp h1) (x := Shape.Idx.first (h1.symm ▸ Nat.one_pos)) (k := .ret) (S := M.view.set) (q := q) (f := f) (Q := fun _ => R)
    (M.view.set_slice_subset r)
  iintro ⟨%f, Hf, Hk⟩
  iapply (key f) $$ Hf
  iintro Hf
  rw [wp_ret]; imodintro
  iapply Hk; iexact Hf

theorem Takes.for {w : Nat} {l : Scf.Loop w} {hok : l.OK} {init : α} {body : Fin l.trips → α → Pg F α} (I : Nat → sProp (MK F))
    (h : ∀ k acc, Takes c (I k.val) (body k acc) fun _ => I (k.val + 1)) :
    Takes c (I 0) (l.for hok init body) fun _ => I l.trips := by
  refine ⟨BIBase.Entails.trans ?_ (Scf.wp_for _ _ _ l.lb l.ub l.st hok init body (fun k _ => I k) fun k acc => (h k acc).run)⟩
  iintro H
  isplitl [H]; · iexact H
  iintro %acc H; iexact H

theorem Keeps.for {w : Nat} {l : Scf.Loop w} {hok : l.OK} {init : α} {body : Fin l.trips → α → Pg F α}
    (h : ∀ k acc, Keeps c R (body k acc)) : Keeps c R (l.for hok init body) :=
  Takes.for (fun _ => R) h

theorem Keeps.ite {P : Prop} [Decidable P] {p q : Pg F α} (hp : Keeps c R p) (hq : Keeps c R q) : Keeps c R (if P then p else q) := by
  split
  · exact hp
  · exact hq

theorem Keeps.dite {P : Prop} [Decidable P] {p : P → Pg F α} {q : ¬P → Pg F α} (hp : ∀ h, Keeps c R (p h)) (hq : ∀ h, Keeps c R (q h)) :
    Keeps c R (dite P p q) := by
  split
  · exact hp _
  · exact hq _

end Cert.Kernel.Hand

end
-- ==== Proof.Part329.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps329  :
    Keeps c R (k0_part329 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24) := by
  unfold k0_part329
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Slots.lean ====
/-
  Two slots of a buffer and the transfers into them.

  A buffer of two slots is held as its two halves, `Part … 0` and `Part … 1`, each with the cell its transfers count on.
  `Idle`: the half and its cell at zero. `Busy`: a transfer into the half is under way, and its delivery gives the half
  back together with what the transfer read from. `At … n t`: how a loop of `n` trips finds the buffer before trip
  `t` — the tile of trip `t` on its way into slot `t mod 2`, or, after the last trip, both slots idle.
-/
module

public import proofs.«01_k».proof.Proof.Keeps

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {R R' : sProp (MK F)} {α β : Type}

/-- The waits recorded so far, not named; nothing is owed. -/
def Owe (c : Dev nD) : sProp (MK F) := iprop(∃ W, owes (c : Thread nD τ) 0 W)

/-- A transfer of `N` units counted on `sm` is under way, and what it delivers yields `S`. -/
def Fly (c : Dev nD) (sm : DmaSem sig) (N : ℕ) (S : sProp (MK F)) : sProp (MK F) :=
  iprop(∃ D : sProp (MK F), Transfers.Flight (countersEmb (U := Pipeline.UD sig nD τ)) (c : Thread nD τ) (.dma sm) () N D ∗ (D -∗ S))

/-- Half `k` of a buffer of two slots. -/
def half (M : Memref sig .tc .vmem S2x512x512 .bf16) (k : Fin 2) : Finset M.view.ty.Idx :=
  M.view.setOn (Finset.univ.filter fun j : S2x512x512.Idx => (j 0).val = k.val)

theorem half_disjoint (M : Memref sig .tc .vmem S2x512x512 .bf16) : Disjoint (half M 0) (half M 1) := by
  unfold half View.setOn
  rw [Finset.disjoint_map, Finset.disjoint_filter]
  intro j _ h h'
  simp at h h'
  omega

theorem half_union (M : Memref sig .tc .vmem S2x512x512 .bf16) : half M 0 ∪ half M 1 = M.view.set := by
  unfold half View.setOn View.set
  rw [← Finset.map_union]
  refine congrArg (fun T => Finset.map M.view.emb T) ?_
  refine Finset.eq_univ_of_forall fun j => ?_
  have hj : (j 0).val < 2 := (j 0).isLt
  rw [Finset.mem_union, Finset.mem_filter, Finset.mem_filter]
  rcases Nat.lt_or_ge (j 0).val 1 with h | h
  · exact .inl ⟨Finset.mem_univ _, Nat.lt_one_iff.mp h⟩
  · exact .inr ⟨Finset.mem_univ _, Nat.le_antisymm (Nat.lt_succ_iff.mp hj) h⟩

/-- A load of one row of slot `k` reads inside half `k`. -/
theorem half_load (M : Memref sig .tc .vmem S2x512x512 .bf16) (k : Fin 2) {off size : Fin 3 → Nat}
    {inb : ∀ a, off a + size a ≤ S2x512x512.size a} (ho : off 0 = k.val) (hs : size 0 = 1) :
    M.view.setOn (Rect.unit (s := S2x512x512) off size inb).toLoadRect.set ⊆ half M k := by
  unfold half View.setOn
  refine Finset.map_subset_map.mpr fun j hj => ?_
  have h := (Rect.mem_set_unit.mp hj) 0
  have h1 := h.1
  have h2 := h.2
  rw [Finset.mem_filter]
  refine ⟨Finset.mem_univ _, ?_⟩
  rw [ho] at h1 h2
  rw [hs] at h2
  exact Nat.le_antisymm (Nat.lt_succ_iff.mp h2) h1

/-- The slot a transfer fills lies inside half `k`. -/
theorem half_slot (M : Memref sig .tc .vmem S2x512x512 .bf16) (k : Fin 2) {off : Fin 3 → Nat}
    {inb : ∀ a, off a + S1x512x512.size a ≤ S2x512x512.size a} {hr} {hq} (ho : off 0 = k.val) :
    ((M.slice (Rect.unit (s := S2x512x512) off S1x512x512.size inb) hr).squeeze S512x512 hq).view.set ⊆ half M k := by
  have h : ((M.slice (Rect.unit (s := S2x512x512) off S1x512x512.size inb) hr).squeeze S512x512 hq).view.set
      = M.view.setOn (Rect.unit (s := S2x512x512) off S1x512x512.size inb).set := by
    refine (View.set_reshape (v := (M.slice (Rect.unit (s := S2x512x512) off S1x512x512.size inb) hr).view) _).trans ?_
    exact View.set_slice M.view _
  rw [h]
  exact half_load M k ho rfl

/-- The cell in row `a`, column `k` of the semaphores. -/
def cellAt (A : DmaSems sig S2x2) (a k : Fin 2) : DmaSem sig :=
  ((A.slice (Rect.unit (s := S2x2) ![a.val, k.val] S1x1.size
    (fun x => by have := a.isLt; have := k.isLt; fin_cases x <;> simp [S1x1, S2x2] <;> omega))).squeeze S_ squeezes_S1x1_S_).sem

theorem cellAt_eq (A : DmaSems sig S2x2) (a k : Fin 2) {off : Fin 2 → Nat} {h : ∀ x, off x + S1x1.size x ≤ S2x2.size x} {hq}
    (e : off = ![a.val, k.val]) : ((A.slice (Rect.unit (s := S2x2) off S1x1.size h)).squeeze S_ hq).sem = cellAt A a k := by
  subst e; rfl

/-- The units one slot's transfer counts. -/
def units (M : Memref sig .tc .vmem S2x512x512 .bf16) : ℕ :=
  ((M.slice (Rect.unit (s := S2x512x512) ![0, 0, 0] S1x512x512.size inb_S2x512x512_S1x512x512_0_0_0) (fun _ => rfl)).squeeze S512x512
    squeezes_S1x512x512_S512x512).view.dmaCredit

def Part (c : Dev nD) (M : Memref sig .tc .vmem S2x512x512 .bf16) (k : Fin 2) : sProp (MK F) :=
  iprop(∃ f, M.view.loc (c : Thread nD τ) ↦[half M k]{fullShare} f)

def Zero (c : Dev nD) (A : DmaSems sig S2x2) (a k : Fin 2) : sProp (MK F) :=
  semVal ((c : Thread nD τ), .dma (cellAt A a k)) 0

def Idle (c : Dev nD) (A : DmaSems sig S2x2) (M : Memref sig .tc .vmem S2x512x512 .bf16) (a k : Fin 2) : sProp (MK F) :=
  iprop(Part c M k ∗ Zero c A a k)

def Busy (c : Dev nD) (A : DmaSems sig S2x2) (M : Memref sig .tc .vmem S2x512x512 .bf16) (a k : Fin 2) (S : sProp (MK F)) : sProp (MK F) :=
  Fly c (cellAt A a k) (units M) iprop(Part c M k ∗ S)

/-- Nothing is under way, and `S` is here. -/
def Rest (c : Dev nD) (A : DmaSems sig S2x2) (M : Memref sig .tc .vmem S2x512x512 .bf16) (a : Fin 2) (S : sProp (MK F)) : sProp (MK F) :=
  iprop(Idle c A M a 0 ∗ Idle c A M a 1 ∗ S)

/-- Trip `t`'s slot. -/
def par (t : ℕ) : Fin 2 := ⟨t % 2, Nat.mod_lt _ (by decide)⟩

theorem par_succ (t : ℕ) : par (t + 1) = par t + 1 := by
  unfold par
  apply Fin.ext
  simp [Fin.val_add]

def At (c : Dev nD) (A : DmaSems sig S2x2) (M : Memref sig .tc .vmem S2x512x512 .bf16) (a : Fin 2) (S : sProp (MK F)) (n t : ℕ) :
    sProp (MK F) :=
  if t < n then iprop(Busy c A M a (par t) S ∗ Idle c A M a (par t + 1)) else Rest c A M a S

/-- Between a trip's wait and its end: the other slot, filling if a trip follows. -/
def Next (c : Dev nD) (A : DmaSems sig S2x2) (M : Memref sig .tc .vmem S2x512x512 .bf16) (a : Fin 2) (S : sProp (MK F)) (n t : ℕ) :
    sProp (MK F) :=
  iprop(Zero c A a (par t) ∗ (if t + 1 < n then Busy c A M a (par t + 1) S else iprop(Idle c A M a (par t + 1) ∗ S)))

theorem rest_split (A : DmaSems sig S2x2) (M : Memref sig .tc .vmem S2x512x512 .bf16) (a : Fin 2) (S : sProp (MK F)) (k : Fin 2) :
    Rest c A M a S ⊢ iprop(Idle c A M a k ∗ Idle c A M a (k + 1) ∗ S) := by
  unfold Rest
  fin_cases k
  · exact .rfl
  · show _ ⊢ iprop(Idle c A M a 1 ∗ Idle c A M a 0 ∗ S)
    iintro ⟨H0, H1, HS⟩
    isplitl [H1]; · iexact H1
    isplitl [H0]; · iexact H0
    iexact HS

theorem rest_join (A : DmaSems sig S2x2) (M : Memref sig .tc .vmem S2x512x512 .bf16) (a : Fin 2) (S : sProp (MK F)) (k : Fin 2) :
    iprop(Idle c A M a k ∗ Idle c A M a (k + 1) ∗ S) ⊢ Rest c A M a S := by
  unfold Rest
  fin_cases k
  · exact .rfl
  · show iprop(Idle c A M a 1 ∗ Idle c A M a 0 ∗ S) ⊢ _
    iintro ⟨H0, H1, HS⟩
    isplitl [H1]; · iexact H1
    isplitl [H0]; · iexact H0
    iexact HS

theorem at_next (A : DmaSems sig S2x2) (M : Memref sig .tc .vmem S2x512x512 .bf16) (a : Fin 2) (S : sProp (MK F)) (n t : ℕ) :
    iprop(Part c M (par t) ∗ Next c A M a S n t) ⊢ At c A M a S n (t + 1) := by
  unfold Next At
  have e : par (t + 1) + 1 = par t := by
    rw [par_succ]; generalize par t = k; revert k; decide
  split
  · rw [e, par_succ]
    iintro ⟨Hp, Hz, Hb⟩
    isplitl [Hb]; · iexact Hb
    unfold Idle
    isplitl [Hp]; · iexact Hp
    iexact Hz
  · refine BIBase.Entails.trans ?_ (rest_join A M a S (par t))
    iintro ⟨Hp, Hz, Hi, HS⟩
    isplitl [Hp Hz]
    · unfold Idle
      isplitl [Hp]; · iexact Hp
      iexact Hz
    isplitl [Hi]; · iexact Hi
    iexact HS

/-- Both halves are the buffer. -/
theorem part_split (M : Memref sig .tc .vmem S2x512x512 .bf16) : Some' c M ⊢ (iprop(Part c M 0 ∗ Part c M 1) : sProp (MK F)) := by
  unfold Some' Part
  iintro ⟨%f, Hf⟩
  rw [← half_union M]
  ihave Hf := (pointsTo_union (half_disjoint M)).1 $$ Hf
  icases Hf with ⟨H0, H1⟩
  isplitl [H0]
  · iexists f; iexact H0
  · iexists f; iexact H1

theorem part_join (M : Memref sig .tc .vmem S2x512x512 .bf16) : iprop(Part c M 0 ∗ Part c M 1) ⊢ (Some' c M : sProp (MK F)) := by
  unfold Some' Part
  iintro ⟨⟨%f, Hf⟩, ⟨%g, Hg⟩⟩
  rw [← half_union M]
  iexists _
  iapply (pointsTo_join (half_disjoint M))
  isplitl [Hf]; · iexact Hf
  iexact Hg

/-! ## Transfers -/

theorem Takes.thenKeeps {A : sProp (MK F)} {p : Pg F α} {k : α → Pg F β} (hp : Takes c A p fun _ => R)
    (hk : ∀ x, Keeps c R (k x)) : Takes c A (p >>= k) fun _ => R := Takes.bind hp hk

/-- All of an array at given contents. -/
def Src (c : Dev nD) {s : Shape} {e : EltTy} (M : Memref sig .tc .hbm s e) (X : Buf (Elt F) (M.view.loc (c : Thread nD τ))) : sProp (MK F) :=
  M.view.loc (c : Thread nD τ) ↦[M.view.set]{fullShare} X

theorem Takes.enq {d : Fin 2 → ℕ} {src : Memref sig .tc .hbm ⟨2, d⟩ .bf16} {off5 : Fin 2 → ℕ}
    {inb5 : ∀ a, off5 a + S512x512.size a ≤ (⟨2, d⟩ : Shape).size a} {hr5}
    {M : Memref sig .tc .vmem S2x512x512 .bf16} {A : DmaSems sig S2x2} {a k : Fin 2}
    {off : Fin 3 → Nat} {inb : ∀ a, off a + S1x512x512.size a ≤ S2x512x512.size a} {hr} {hq}
    {sm : DmaSem sig} {hsrc} {hdst} {hsem} {X : Buf (Elt F) (src.view.loc (c : Thread nD τ))}
    (hsm : sm = cellAt A a k) (ho : off 0 = k.val) :
    Takes c iprop(Idle c A M a k ∗ Src c src X)
      (Prog.lift (.enqueueDma (s := S512x512) (src.slice (Rect.unit (s := ⟨2, d⟩) off5 S512x512.size inb5) hr5)
        (.here ((M.slice (Rect.unit (s := S2x512x512) off S1x512x512.size inb) hr).squeeze S512x512 hq)) (.dma sm) hsrc hdst hsem) : Pg F _)
      fun _ => Busy c A M a k (Src c src X) := by
  subst hsm
  refine ⟨?_⟩
  have hS := half_slot M k (inb := inb) (hr := hr) (hq := hq) ho
  have hT : (src.slice (Rect.unit (s := ⟨2, d⟩) off5 S512x512.size inb5) hr5).view.set ⊆ src.view.set := View.set_slice_subset _ _
  have key := fun f => Transfers.wp_dmaLocal (countersEmb (U := Pipeline.UD sig nD τ)) (defs := defs₀ (F := F)) Variants.none (c : Thread nD τ) none
    (src := src.slice (Rect.unit (s := ⟨2, d⟩) off5 S512x512.size inb5) hr5) (via := .same)
    (dst := (M.slice (Rect.unit (s := S2x512x512) off S1x512x512.size inb) hr).squeeze S512x512 hq) (sm := .dma (cellAt A a k))
    (hsrc := hsrc) (hdst := hdst) (hsem := hsem) (k := .ret) (q := fullShare) (fs := X) (fd := f)
    (Q := fun _ => Busy c A M a k (Src c src X)) () (units M) rfl (View.dmaCredit_pos _ (by decide)) hS
  unfold Idle Part Zero Src
  iintro ⟨⟨⟨%f, Hf⟩, Hz⟩, HX⟩
  ihave HX := (pointsTo_split_subset hT).1 $$ HX
  icases HX with ⟨HX, HXr⟩
  iapply (key f) $$ [HX Hf Hz]
  · isplitl [HX]; · iexact HX
    isplitl [Hf]; · iexact Hf
    iexact Hz
  iintro HF
  rw [wp_ret]; imodintro
  unfold Busy Fly
  iexists _
  isplitl [HF]; · iexact HF
  iintro ⟨Hd, HX⟩
  isplitl [Hd]
  · unfold Part; iexists _; iexact Hd
  unfold Src
  iapply (pointsTo_split_subset hT).2
  isplitl [HX]; · iexact HX
  iexact HXr

theorem Takes.wait {M : Memref sig .tc .vmem S2x512x512 .bf16} {A : DmaSems sig S2x2} {a k : Fin 2} {S : sProp (MK F)}
    {off : Fin 3 → Nat} {inb : ∀ a, off a + S1x512x512.size a ≤ S2x512x512.size a} {hr} {hq}
    {s' : Shape} {e' : EltTy} {srcw : Memref sig .tc .hbm s' e'} {sm : DmaSem sig} {hsrc} {hdst} (hsm : sm = cellAt A a k) :
    Takes c iprop(Busy c A M a k S ∗ Owe c)
      (Prog.lift (.waitDma2 (s := S512x512) sm srcw ((M.slice (Rect.unit (s := S2x512x512) off S1x512x512.size inb) hr).squeeze S512x512 hq) hsrc hdst) : Pg F _)
      fun _ => iprop((Part c M k ∗ Zero c A a k ∗ S) ∗ Owe c) := by
  subst hsm
  refine ⟨?_⟩
  have key := fun D W => Transfers.wp_waitLocal (countersEmb (U := Pipeline.UD sig nD τ)) (defs := defs₀ (F := F)) Variants.none (c : Thread nD τ) none
    (sem := cellAt A a k) (srcw := srcw) (dstw := (M.slice (Rect.unit (s := S2x512x512) off S1x512x512.size inb) hr).squeeze S512x512 hq)
    (hsrc := hsrc) (hdst := hdst) (k := .ret) (Q := fun _ => iprop((Part c M k ∗ Zero c A a k ∗ S) ∗ Owe c)) () (N := units M) rfl (D := D) (W := W)
  unfold Busy Fly Owe
  iintro ⟨⟨%D, HF, Hk⟩, ⟨%W, Ho⟩⟩
  iapply (key D W) $$ [HF Ho]
  · isplitl [HF]; · iexact HF
    iexact Ho
  iintro ⟨HD, Hz, Ho⟩
  rw [wp_ret]; imodintro
  isplitr [Ho]
  · ihave HD := Hk $$ HD
    icases HD with ⟨Hp, HS⟩
    isplitl [Hp]; · iexact Hp
    isplitl [Hz]; · unfold Zero; iexact Hz
    iexact HS
  unfold Owe; iexists _; iexact Ho

end Cert.Kernel.Hand

end
-- ==== Proof.Offsets.lean ====
module

public import proofs.«01_k».proof.Proof.Slots

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

theorem trips11_pos : ∀ i : grid0.Coords, 0 < (k0_t11_loop i).trips := by decide +kernel

theorem trips12_zero : ∀ i : grid0.Coords, (k0_t12_loop i).trips = 0 := by decide +kernel

theorem off26_at : ∀ (i : grid0.Coords) (t : Fin (k0_t11_loop i).trips), k0_off26 i t = ![(0 : Fin 2).val, (par t.val).val] := by decide +kernel

theorem off29_at : ∀ (i : grid0.Coords) (t : Fin (k0_t11_loop i).trips), k0_off29 i t = ![(1 : Fin 2).val, (par t.val).val] := by decide +kernel

theorem off27_at : ∀ (i : grid0.Coords) (t : Fin (k0_t11_loop i).trips), k0_off27 i t 0 = (par t.val).val := by decide +kernel

theorem off31_at : ∀ (i : grid0.Coords) (t : Fin (k0_t11_loop i).trips), k0_off31 i t = ![(0 : Fin 2).val, (par t.val + 1).val] := by decide +kernel

theorem off34_at : ∀ (i : grid0.Coords) (t : Fin (k0_t11_loop i).trips), k0_off34 i t = ![(1 : Fin 2).val, (par t.val + 1).val] := by decide +kernel

theorem off32_at : ∀ (i : grid0.Coords) (t : Fin (k0_t11_loop i).trips), k0_off32 i t 0 = (par t.val + 1).val := by decide +kernel

theorem off37_at : ∀ (i : grid0.Coords) (t : Fin (k0_t11_loop i).trips), k0_off37 i t 0 = (par t.val).val := by decide +kernel

theorem off38_at : ∀ (i : grid0.Coords) (t : Fin (k0_t11_loop i).trips), k0_off38 i t 0 = (par t.val).val := by decide +kernel

theorem off39_at : ∀ (i : grid0.Coords) (t : Fin (k0_t11_loop i).trips), k0_off39 i t 0 = (par t.val).val := by decide +kernel

theorem off40_at : ∀ (i : grid0.Coords) (t : Fin (k0_t11_loop i).trips), k0_off40 i t 0 = (par t.val).val := by decide +kernel

theorem off41_at : ∀ (i : grid0.Coords) (t : Fin (k0_t11_loop i).trips), k0_off41 i t 0 = (par t.val).val := by decide +kernel

theorem off42_at : ∀ (i : grid0.Coords) (t : Fin (k0_t11_loop i).trips), k0_off42 i t 0 = (par t.val).val := by decide +kernel

theorem off43_at : ∀ (i : grid0.Coords) (t : Fin (k0_t11_loop i).trips), k0_off43 i t 0 = (par t.val).val := by decide +kernel

theorem off44_at : ∀ (i : grid0.Coords) (t : Fin (k0_t11_loop i).trips), k0_off44 i t 0 = (par t.val).val := by decide +kernel

theorem more11 : ∀ (i : grid0.Coords) (t : Fin (k0_t11_loop i).trips), k0_cond7 i t = 1#1 ↔ t.val + 1 < (k0_t11_loop i).trips := by decide +kernel

theorem trips13_pos : ∀ i : grid0.Coords, 0 < (k0_t13_loop i).trips := by decide +kernel

theorem trips14_zero : ∀ i : grid0.Coords, (k0_t14_loop i).trips = 0 := by decide +kernel

theorem off64_at : ∀ (i : grid0.Coords) (t : Fin (k0_t13_loop i).trips), k0_off64 i t = ![(0 : Fin 2).val, (par t.val).val] := by decide +kernel

theorem off67_at : ∀ (i : grid0.Coords) (t : Fin (k0_t13_loop i).trips), k0_off67 i t = ![(1 : Fin 2).val, (par t.val).val] := by decide +kernel

theorem off65_at : ∀ (i : grid0.Coords) (t : Fin (k0_t13_loop i).trips), k0_off65 i t 0 = (par t.val).val := by decide +kernel

theorem off69_at : ∀ (i : grid0.Coords) (t : Fin (k0_t13_loop i).trips), k0_off69 i t = ![(0 : Fin 2).val, (par t.val + 1).val] := by decide +kernel

theorem off72_at : ∀ (i : grid0.Coords) (t : Fin (k0_t13_loop i).trips), k0_off72 i t = ![(1 : Fin 2).val, (par t.val + 1).val] := by decide +kernel

theorem off70_at : ∀ (i : grid0.Coords) (t : Fin (k0_t13_loop i).trips), k0_off70 i t 0 = (par t.val + 1).val := by decide +kernel

theorem off75_at : ∀ (i : grid0.Coords) (t : Fin (k0_t13_loop i).trips), k0_off75 i t 0 = (par t.val).val := by decide +kernel

theorem off76_at : ∀ (i : grid0.Coords) (t : Fin (k0_t13_loop i).trips), k0_off76 i t 0 = (par t.val).val := by decide +kernel

theorem off77_at : ∀ (i : grid0.Coords) (t : Fin (k0_t13_loop i).trips), k0_off77 i t 0 = (par t.val).val := by decide +kernel

theorem off78_at : ∀ (i : grid0.Coords) (t : Fin (k0_t13_loop i).trips), k0_off78 i t 0 = (par t.val).val := by decide +kernel

theorem off79_at : ∀ (i : grid0.Coords) (t : Fin (k0_t13_loop i).trips), k0_off79 i t 0 = (par t.val).val := by decide +kernel

theorem off80_at : ∀ (i : grid0.Coords) (t : Fin (k0_t13_loop i).trips), k0_off80 i t 0 = (par t.val).val := by decide +kernel

theorem off81_at : ∀ (i : grid0.Coords) (t : Fin (k0_t13_loop i).trips), k0_off81 i t 0 = (par t.val).val := by decide +kernel

theorem off82_at : ∀ (i : grid0.Coords) (t : Fin (k0_t13_loop i).trips), k0_off82 i t 0 = (par t.val).val := by decide +kernel

theorem more13 : ∀ (i : grid0.Coords) (t : Fin (k0_t13_loop i).trips), k0_cond10 i t = 1#1 ↔ t.val + 1 < (k0_t13_loop i).trips := by decide +kernel

end Cert.Kernel.Hand

end
-- ==== Proof.Ring.lean ====
module

public import proofs.«01_k».proof.Proof.Offsets

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

/-- The two buffers at rest, with the arrays they are filled from. -/
def Ring (c : Dev nD) (M5 : Memref sig .tc .hbm S512x16384 .bf16) (M6 : Memref sig .tc .hbm S16384x512 .bf16)
    (M22 M23 : Memref sig .tc .vmem S2x512x512 .bf16) (A : DmaSems sig S2x2)
    (X5 : Buf (Elt F) (M5.view.loc (c : Thread nD τ))) (X6 : Buf (Elt F) (M6.view.loc (c : Thread nD τ))) : sProp (MK F) :=
  iprop(Rest c A M22 0 (Src c M5 X5) ∗ Rest c A M23 1 (Src c M6 X6) ∗ Owe c)

/-- The two buffers before trip `t` of `n`. -/
def Turn (c : Dev nD) (M5 : Memref sig .tc .hbm S512x16384 .bf16) (M6 : Memref sig .tc .hbm S16384x512 .bf16)
    (M22 M23 : Memref sig .tc .vmem S2x512x512 .bf16) (A : DmaSems sig S2x2)
    (X5 : Buf (Elt F) (M5.view.loc (c : Thread nD τ))) (X6 : Buf (Elt F) (M6.view.loc (c : Thread nD τ))) (n t : ℕ) : sProp (MK F) :=
  iprop(At c A M22 0 (Src c M5 X5) n t ∗ At c A M23 1 (Src c M6 X6) n t ∗ Owe c)

/-- The two buffers inside trip `t`, after its waits. -/
def Mid (c : Dev nD) (M5 : Memref sig .tc .hbm S512x16384 .bf16) (M6 : Memref sig .tc .hbm S16384x512 .bf16)
    (M22 M23 : Memref sig .tc .vmem S2x512x512 .bf16) (A : DmaSems sig S2x2)
    (X5 : Buf (Elt F) (M5.view.loc (c : Thread nD τ))) (X6 : Buf (Elt F) (M6.view.loc (c : Thread nD τ))) (n t : ℕ) : sProp (MK F) :=
  iprop((Part c M22 (par t) ∗ Next c A M22 0 (Src c M5 X5) n t) ∗ (Part c M23 (par t) ∗ Next c A M23 1 (Src c M6 X6) n t) ∗ Owe c)

variable {c : Dev nD} {M5 : Memref sig .tc .hbm S512x16384 .bf16} {M6 : Memref sig .tc .hbm S16384x512 .bf16}
  {M22 M23 : Memref sig .tc .vmem S2x512x512 .bf16} {A : DmaSems sig S2x2}
  {X5 : Buf (Elt F) (M5.view.loc (c : Thread nD τ))} {X6 : Buf (Elt F) (M6.view.loc (c : Thread nD τ))} {R : sProp (MK F)}

theorem mid_turn (n t : ℕ) : Mid c M5 M6 M22 M23 A X5 X6 n t ⊢ Turn c M5 M6 M22 M23 A X5 X6 n (t + 1) := by
  unfold Mid Turn
  iintro ⟨H, H', Ho⟩
  isplitl [H]; · iapply (at_next A M22 0 _ n t); iexact H
  isplitl [H']; · iapply (at_next A M23 1 _ n t); iexact H'
  iexact Ho

theorem turn_end (n : ℕ) : Turn c M5 M6 M22 M23 A X5 X6 n n ⊢ Ring c M5 M6 M22 M23 A X5 X6 := by
  unfold Turn Ring At
  rw [if_neg (lt_irrefl n), if_neg (lt_irrefl n)]

theorem part_on {M : Memref sig .tc .vmem S2x512x512 .bf16} (k : Fin 2) : HoldsOn (F := F) c (Part c M k) M (half M k) := HoldsOn.ex

theorem mid_left (n t : ℕ) : HoldsOn c (Mid c M5 M6 M22 M23 A X5 X6 n t) M22 (half M22 (par t)) := (part_on _).left.left

theorem mid_right (n t : ℕ) : HoldsOn c (Mid c M5 M6 M22 M23 A X5 X6 n t) M23 (half M23 (par t)) := (part_on _).left.left.right

theorem rows_one : S1x128x512.size 0 = 1 := rfl

theorem cols_one : S1x512x128.size 0 = 1 := rfl

theorem row_size : S1x64x512.size 0 = 1 := rfl

theorem row_at (a b : ℕ) : (![0, a, b] : Fin 3 → ℕ) 0 = (0 : Fin 2).val := rfl

theorem Takes.step {α β : Type} {P B' : sProp (MK F)} {B : sProp (MK F)} {C : β → sProp (MK F)} {p : Pg F α} {k : α → Pg F β}
    (hp : Takes c B p fun _ => B') (X : sProp (MK F)) (hA : P ⊢ iprop(B ∗ X)) (hk : ∀ x, Takes c iprop(B' ∗ X) (k x) C) :
    Takes c P (p >>= k) C :=
  Takes.bind (Takes.mono hA (Takes.framed hp X) fun _ => .rfl) hk

end Cert.Kernel.Hand

end
-- ==== Proof.Start.lean ====
module

public import proofs.«01_k».proof.Proof.Ring

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)} {X5 : Buf (Elt F) (arg5.view.loc (c : Thread nD τ))} {X6 : Buf (Elt F) (arg6.view.loc (c : Thread nD τ))}

/-- The first tile is on its way into slot 0 of the first buffer. -/
def Started (c : Dev nD) (M5 : Memref sig .tc .hbm S512x16384 .bf16) (M6 : Memref sig .tc .hbm S16384x512 .bf16)
    (M22 M23 : Memref sig .tc .vmem S2x512x512 .bf16) (A : DmaSems sig S2x2)
    (X5 : Buf (Elt F) (M5.view.loc (c : Thread nD τ))) (X6 : Buf (Elt F) (M6.view.loc (c : Thread nD τ))) : sProp (MK F) :=
  iprop(Busy c A M22 0 0 (Src c M5 X5) ∗ Idle c A M22 0 1 ∗ Rest c A M23 1 (Src c M6 X6) ∗ Owe c)

theorem start_left {off5 : Fin 2 → ℕ} {inb5 : ∀ a, off5 a + S512x512.size a ≤ S512x16384.size a} {hr5}
    {inb : ∀ a, (![0, 0, 0] : Fin 3 → ℕ) a + S1x512x512.size a ≤ S2x512x512.size a} {hr} {hq}
    {h : ∀ x, (![0, 0] : Fin 2 → ℕ) x + S1x1.size x ≤ S2x2.size x} {hq'} {hsrc} {hdst} {hsem} :
    Takes c iprop(R ∗ Ring c arg5 arg6 arg22 arg23 arg24 X5 X6)
      (Prog.lift (.enqueueDma (s := S512x512) (arg5.slice (Rect.unit (s := S512x16384) off5 S512x512.size inb5) hr5)
        (.here ((arg22.slice (Rect.unit (s := S2x512x512) ![0, 0, 0] S1x512x512.size inb) hr).squeeze S512x512 hq))
        (.dma ((arg24.slice (Rect.unit (s := S2x2) ![0, 0] S1x1.size h)).squeeze S_ hq').sem) hsrc hdst hsem) : Pg F _)
      fun _ => iprop(R ∗ Started c arg5 arg6 arg22 arg23 arg24 X5 X6) := by
  unfold Ring Started
  refine Takes.mono ?_ (Takes.framed (Takes.enq (M := arg22) (A := arg24) (a := 0) (k := 0) (X := X5) (cellAt_eq arg24 0 0 rfl) rfl)
    iprop(R ∗ Idle c arg24 arg22 0 1 ∗ Rest c arg24 arg23 1 (Src c arg6 X6) ∗ Owe c)) fun _ => ?_
  · iintro ⟨HR, H, H', Ho⟩
    unfold Rest
    icases H with ⟨H0, H1, HS⟩
    isplitl [H0 HS]
    · isplitl [H0]; · iexact H0
      iexact HS
    isplitl [HR]; · iexact HR
    isplitl [H1]; · iexact H1
    isplitl [H']; · iexact H'
    iexact Ho
  · iintro ⟨Hb, HR, H1, H', Ho⟩
    isplitl [HR]; · iexact HR
    isplitl [Hb]; · iexact Hb
    isplitl [H1]; · iexact H1
    isplitl [H']; · iexact H'
    iexact Ho

theorem wait_left {inb : ∀ a, (![0, 0, 0] : Fin 3 → ℕ) a + S1x512x512.size a ≤ S2x512x512.size a} {hr} {hq}
    {h : ∀ x, (![0, 0] : Fin 2 → ℕ) x + S1x1.size x ≤ S2x2.size x} {hq'} {s' : Shape} {e' : EltTy} {srcw : Memref sig .tc .hbm s' e'} {hsrc} {hdst} :
    Takes c iprop(R ∗ Started c arg5 arg6 arg22 arg23 arg24 X5 X6)
      (Prog.lift (.waitDma2 (s := S512x512) ((arg24.slice (Rect.unit (s := S2x2) ![0, 0] S1x1.size h)).squeeze S_ hq').sem srcw
        ((arg22.slice (Rect.unit (s := S2x512x512) ![0, 0, 0] S1x512x512.size inb) hr).squeeze S512x512 hq) hsrc hdst) : Pg F _)
      fun _ => iprop(R ∗ Ring c arg5 arg6 arg22 arg23 arg24 X5 X6) := by
  unfold Ring Started
  refine Takes.mono ?_ (Takes.framed (Takes.wait (M := arg22) (A := arg24) (a := 0) (k := 0) (S := Src c arg5 X5) (cellAt_eq arg24 0 0 rfl))
    iprop(R ∗ Idle c arg24 arg22 0 1 ∗ Rest c arg24 arg23 1 (Src c arg6 X6))) fun _ => ?_
  · iintro ⟨HR, Hb, H1, H', Ho⟩
    isplitl [Hb Ho]
    · isplitl [Hb]; · iexact Hb
      iexact Ho
    isplitl [HR]; · iexact HR
    isplitl [H1]; · iexact H1
    iexact H'
  · iintro ⟨⟨⟨Hp, Hz, HS⟩, Ho⟩, HR, H1, H'⟩
    isplitl [HR]; · iexact HR
    isplitl [Hp Hz HS H1]
    · unfold Rest
      isplitl [Hp Hz]
      · unfold Idle
        isplitl [Hp]; · iexact Hp
        iexact Hz
      isplitl [H1]; · iexact H1
      iexact HS
    isplitl [H']; · iexact H'
    iexact Ho

theorem start_right (n : ℕ) (hn : 0 < n) {off5 : Fin 2 → ℕ} {inb5 : ∀ a, off5 a + S512x512.size a ≤ S16384x512.size a} {hr5}
    {inb : ∀ a, (![0, 0, 0] : Fin 3 → ℕ) a + S1x512x512.size a ≤ S2x512x512.size a} {hr} {hq}
    {h : ∀ x, (![1, 0] : Fin 2 → ℕ) x + S1x1.size x ≤ S2x2.size x} {hq'} {hsrc} {hdst} {hsem} :
    Takes c iprop(R ∗ Started c arg5 arg6 arg22 arg23 arg24 X5 X6)
      (Prog.lift (.enqueueDma (s := S512x512) (arg6.slice (Rect.unit (s := S16384x512) off5 S512x512.size inb5) hr5)
        (.here ((arg23.slice (Rect.unit (s := S2x512x512) ![0, 0, 0] S1x512x512.size inb) hr).squeeze S512x512 hq))
        (.dma ((arg24.slice (Rect.unit (s := S2x2) ![1, 0] S1x1.size h)).squeeze S_ hq').sem) hsrc hdst hsem) : Pg F _)
      fun _ => iprop(R ∗ Turn c arg5 arg6 arg22 arg23 arg24 X5 X6 n 0) := by
  unfold Started Turn At
  rw [if_pos hn, if_pos hn]
  refine Takes.mono ?_ (Takes.framed (Takes.enq (M := arg23) (A := arg24) (a := 1) (k := 0) (X := X6) (cellAt_eq arg24 1 0 rfl) rfl)
    iprop(R ∗ Busy c arg24 arg22 0 0 (Src c arg5 X5) ∗ Idle c arg24 arg22 0 1 ∗ Idle c arg24 arg23 1 1 ∗ Owe c)) fun _ => ?_
  · iintro ⟨HR, Hb, H1, H', Ho⟩
    unfold Rest
    icases H' with ⟨H0', H1', HS'⟩
    isplitl [H0' HS']
    · isplitl [H0']; · iexact H0'
      iexact HS'
    isplitl [HR]; · iexact HR
    isplitl [Hb]; · iexact Hb
    isplitl [H1]; · iexact H1
    isplitl [H1']; · iexact H1'
    iexact Ho
  · show _ ⊢ iprop(R ∗ (Busy c arg24 arg22 0 0 (Src c arg5 X5) ∗ Idle c arg24 arg22 0 1) ∗ (Busy c arg24 arg23 1 0 (Src c arg6 X6) ∗ Idle c arg24 arg23 1 1) ∗ Owe c)
    iintro ⟨Hb', HR, Hb, H1, H1', Ho⟩
    isplitl [HR]; · iexact HR
    isplitl [Hb H1]
    · isplitl [Hb]; · iexact Hb
      iexact H1
    isplitl [Hb' H1']
    · isplitl [Hb']; · iexact Hb'
      iexact H1'
    iexact Ho

theorem loop_turn {α : Type} {w : ℕ} {l : Scf.Loop w} {hok : l.OK} {init : α} {body : Fin l.trips → α → Pg F α}
    (h : ∀ t acc, Takes c iprop(R ∗ Turn c arg5 arg6 arg22 arg23 arg24 X5 X6 l.trips t.val) (body t acc) fun _ => iprop(R ∗ Mid c arg5 arg6 arg22 arg23 arg24 X5 X6 l.trips t.val)) :
    Takes c iprop(R ∗ Turn c arg5 arg6 arg22 arg23 arg24 X5 X6 l.trips 0) (l.for hok init body) fun _ => iprop(R ∗ Ring c arg5 arg6 arg22 arg23 arg24 X5 X6) := by
  refine Takes.mono .rfl (Takes.for (fun t => iprop(R ∗ Turn c arg5 arg6 arg22 arg23 arg24 X5 X6 l.trips t)) fun t acc => Takes.mono .rfl (h t acc) fun _ => ?_) fun _ => ?_
  · iintro ⟨HR, H⟩
    isplitl [HR]; · iexact HR
    iapply (mid_turn l.trips t.val); iexact H
  · iintro ⟨HR, H⟩
    isplitl [HR]; · iexact HR
    iapply (turn_end l.trips); iexact H

theorem ring_left : HoldsOn c (Ring c arg5 arg6 arg22 arg23 arg24 X5 X6) arg22 (half arg22 0) := by
  unfold Ring Rest Idle
  exact (part_on 0).left.left.left

/-- The loop over the ring, with the number of its turns under a name. -/
theorem loop_turn_of {n : ℕ} {α : Type} {w : ℕ} {l : Scf.Loop w} {hok : l.OK} {init : α} {body : Fin l.trips → α → Pg F α} (hn : n = l.trips)
    (h : ∀ t acc, Takes c iprop(R ∗ Turn c arg5 arg6 arg22 arg23 arg24 X5 X6 n t.val) (body t acc) fun _ => iprop(R ∗ Mid c arg5 arg6 arg22 arg23 arg24 X5 X6 n t.val)) :
    Takes c iprop(R ∗ Turn c arg5 arg6 arg22 arg23 arg24 X5 X6 n 0) (l.for hok init body) fun _ => iprop(R ∗ Ring c arg5 arg6 arg22 arg23 arg24 X5 X6) := by
  subst hn
  exact loop_turn h

end Cert.Kernel.Hand

end
-- ==== Proof.Part330.lean ====
module

public import proofs.«01_k».proof.Proof.Start

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
variable {X5 : Buf (Elt F) (arg5.view.loc (c : Thread nD τ))} {X6 : Buf (Elt F) (arg6.view.loc (c : Thread nD τ))}
include h1 h2 h3 h4 o7 o8 o9 o10 o11 o12 o13 o14 o15 o16 o17 o18 o19 o20 o21

set_option maxHeartbeats 0 in
set_option maxRecDepth 20000 in
theorem keeps330 (arg0 : BitVec 32) (v25 : BitVec 32) (v36 : BitVec 1) (v37 : BitVec 32) (c0_i32_15 : BitVec 32) :
    Keeps c iprop(R ∗ Ring c arg5 arg6 arg22 arg23 arg24 X5 X6) (k0_part330 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg0 v25 v36 v37 c0_i32_15) := by
  unfold k0_part330
  repeat' first
    | with_reducible intro _
    | with_reducible refine Takes.bind start_left ?_
    | with_reducible refine Takes.bind wait_left ?_
    | with_reducible refine Takes.thenKeeps ?_ ?_
    | with_reducible exact Keeps.pure
    | with_reducible refine Keeps.for ?_
    | with_reducible refine Keeps.dite ?_ ?_
    | with_reducible refine Keeps.ite ?_ ?_
    | unfold k0_part2
    | unfold k0_part1
    | exact Keeps.load (HoldsOn.left (by assumption))
    | exact Keeps.load (Owns.holds (Owns.left (by assumption)))
    | exact Keeps.store (Owns.left (by assumption))
    | exact Keeps.smem (Owns.holds (Owns.left (by assumption)))
    | exact Keeps.loadOn (HoldsOn.right ring_left) (half_load arg22 0 (row_at _ _) row_size)

end Cert.Kernel.Hand

end
-- ==== Proof.Part331.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps331 (v41 : BitVec 32) (v50 : Vec F S256x128 .f32) :
    Keeps c R (k0_part331 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v41 v50) := by
  unfold k0_part331
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | unfold k0_part3
    | unfold k0_part4
    | unfold k0_part5
    | unfold k0_part6
    | exact Keeps.load (by assumption)
    | exact Keeps.load (Owns.holds (by assumption))
    | exact Keeps.store (by assumption)
    | exact Keeps.smem (Owns.holds (by assumption))

end Cert.Kernel.Hand

end
-- ==== Proof.Part332.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps332 (v42 : IVec S256x128 32) (v46 : IVec S256x1 32) (v105 : BitVec 32) (c4_i32_44 : BitVec 32) (v106 : BitVec 32) (v107 : BitVec 1) :
    Keeps c R (k0_part332 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v46 v105 c4_i32_44 v106 v107) := by
  unfold k0_part332
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | unfold k0_part7
    | unfold k0_part8
    | unfold k0_part9
    | unfold k0_part10
    | unfold k0_part11
    | unfold k0_part12
    | unfold k0_part13
    | unfold k0_part14
    | unfold k0_part15
    | unfold k0_part16
    | unfold k0_part17
    | unfold k0_part18
    | unfold k0_part19
    | unfold k0_part20
    | unfold k0_part21
    | unfold k0_part22
    | unfold k0_part23
    | unfold k0_part24
    | unfold k0_part25
    | unfold k0_part26
    | unfold k0_part27
    | unfold k0_part28
    | unfold k0_part29
    | unfold k0_part30
    | unfold k0_part31
    | unfold k0_part32
    | unfold k0_part33
    | unfold k0_part34
    | unfold k0_part35
    | unfold k0_part36
    | unfold k0_part37
    | unfold k0_part38
    | unfold k0_part39
    | unfold k0_part40
    | unfold k0_part41
    | unfold k0_part42
    | unfold k0_part43
    | unfold k0_part44
    | unfold k0_part45
    | unfold k0_part46
    | unfold k0_part47
    | unfold k0_part48
    | unfold k0_part49
    | unfold k0_part50
    | unfold k0_part51
    | unfold k0_part52
    | unfold k0_part53
    | unfold k0_part54
    | unfold k0_part55
    | unfold k0_part56
    | unfold k0_part57
    | unfold k0_part58
    | unfold k0_part59
    | unfold k0_part60
    | exact Keeps.load (by assumption)
    | exact Keeps.load (Owns.holds (by assumption))
    | exact Keeps.store (by assumption)
    | exact Keeps.smem (Owns.holds (by assumption))

end Cert.Kernel.Hand

end
-- ==== Proof.Part333.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps333 (v42 : IVec S256x128 32) (v46 : IVec S256x1 32) (v144 : IVec S256x128 1) (v146 : IVec S256x128 32) :
    Keeps c R (k0_part333 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v46 v144 v146) := by
  unfold k0_part333
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part334.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps334 (v42 : IVec S256x128 32) (v46 : IVec S256x1 32) (v183 : IVec S256x128 32) :
    Keeps c R (k0_part334 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v46 v183) := by
  unfold k0_part334
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part335.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps335 (v42 : IVec S256x128 32) (v46 : IVec S256x1 32) (v122 : BitVec 32) (v218 : IVec S256x128 32) :
    Keeps c R (k0_part335 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v46 v122 v218) := by
  unfold k0_part335
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part336.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps336 (v42 : IVec S256x128 32) (v253 : BitVec 32) :
    Keeps c R (k0_part336 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v253) := by
  unfold k0_part336
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | unfold k0_part61
    | unfold k0_part62
    | unfold k0_part63
    | unfold k0_part64
    | unfold k0_part65
    | unfold k0_part66
    | unfold k0_part67
    | unfold k0_part68
    | unfold k0_part69
    | unfold k0_part70
    | exact Keeps.load (by assumption)
    | exact Keeps.load (Owns.holds (by assumption))
    | exact Keeps.store (by assumption)
    | exact Keeps.smem (Owns.holds (by assumption))

end Cert.Kernel.Hand

end
-- ==== Proof.Part337.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps337 (v42 : IVec S256x128 32) (v260 : IVec S256x1 32) (v288 : IVec S256x128 32) (v290 : IVec S256x128 32) (c4096_i32_141 : BitVec 32) :
    Keeps c R (k0_part337 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v260 v288 v290 c4096_i32_141) := by
  unfold k0_part337
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part338.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps338 (v42 : IVec S256x128 32) (v259 : FVec F S256x1 .f32) (v260 : IVec S256x1 32) (v315 : IVec S256x128 32) (v317 : IVec S256x128 32) (v329 : IVec S256x128 32) (v331 : IVec S256x128 1) (c31_i32_160 : BitVec 32) :
    Keeps c R (k0_part338 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v259 v260 v315 v317 v329 v331 c31_i32_160) := by
  unfold k0_part338
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part339.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps339 (v42 : IVec S256x128 32) (v259 : FVec F S256x1 .f32) (v373 : IVec S256x1 1) (cst_178 : F .f32) :
    Keeps c R (k0_part339 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v259 v373 cst_178) := by
  unfold k0_part339
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | unfold k0_part71
    | unfold k0_part72
    | exact Keeps.load (by assumption)
    | exact Keeps.load (Owns.holds (by assumption))
    | exact Keeps.store (by assumption)
    | exact Keeps.smem (Owns.holds (by assumption))

end Cert.Kernel.Hand

end
-- ==== Proof.Part340.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps340 (v42 : IVec S256x128 32) (v384 : IVec S256x1 32) (v412 : IVec S256x128 32) :
    Keeps c R (k0_part340 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v384 v412) := by
  unfold k0_part340
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part341.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps341 (v42 : IVec S256x128 32) (v384 : IVec S256x1 32) :
    Keeps c R (k0_part341 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v384) := by
  unfold k0_part341
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part342.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps342 (v42 : IVec S256x128 32) (v384 : IVec S256x1 32) (v479 : IVec S256x128 32) (v481 : IVec S256x128 32) (v482 : IVec S256x1 32) :
    Keeps c R (k0_part342 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v42 v384 v479 v481 v482) := by
  unfold k0_part342
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part343.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps343 (v509 : Vec F S256x512 .bf16) (v512 : IVec S256x128 32) (v513 : FVec F S256x128 .bf16) :
    Keeps c R (k0_part343 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v509 v512 v513) := by
  unfold k0_part343
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part344.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps344 (v509 : Vec F S256x512 .bf16) (v512 : IVec S256x128 32) (v554 : FVec F S256x128 .bf16) :
    Keeps c R (k0_part344 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v509 v512 v554) := by
  unfold k0_part344
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Part345.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps345 (v584 : FVec F S512x128 .f32) :
    Keeps c R (k0_part345 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v584) := by
  unfold k0_part345
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Wait11.lean ====
module

public import proofs.«01_k».proof.Proof.Ring

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)} {X5 : Buf (Elt F) (arg5.view.loc (c : Thread nD τ))} {X6 : Buf (Elt F) (arg6.view.loc (c : Thread nD τ))}

set_option maxHeartbeats 0 in
set_option maxRecDepth 20000 in
theorem take73 (v c0 c1 : BitVec 32) (t : Fin (k0_t11_loop i).trips) :
    Takes c iprop(R ∗ Turn c arg5 arg6 arg22 arg23 arg24 X5 X6 (k0_t11_loop i).trips t.val) (k0_part73 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v c0 c1 t)
      fun _ => iprop(R ∗ Mid c arg5 arg6 arg22 arg23 arg24 X5 X6 (k0_t11_loop i).trips t.val) := by
  unfold k0_part73 Turn Mid At
  dsimp only
  rw [if_pos t.isLt, if_pos t.isLt]
  refine Takes.step (Takes.wait (M := arg22) (A := arg24) (a := 0) (k := par t.val) (S := (Src c arg5 X5)) (cellAt_eq arg24 0 (par t.val) (off26_at i t)))
    iprop(R ∗ Idle c arg24 arg22 0 (par t.val + 1) ∗ Busy c arg24 arg23 1 (par t.val) (Src c arg6 X6) ∗ Idle c arg24 arg23 1 (par t.val + 1)) ?_ fun _ => ?_
  · iintro ⟨HR, ⟨Hb, Hi⟩, ⟨Hb', Hi'⟩, Ho⟩
    isplitl [Hb Ho]
    · isplitl [Hb]; · iexact Hb
      iexact Ho
    isplitl [HR]; · iexact HR
    isplitl [Hi]; · iexact Hi
    isplitl [Hb']; · iexact Hb'
    iexact Hi'
  refine Takes.step (Takes.wait (M := arg23) (A := arg24) (a := 1) (k := par t.val) (S := (Src c arg6 X6)) (cellAt_eq arg24 1 (par t.val) (off29_at i t)))
    iprop(R ∗ Idle c arg24 arg22 0 (par t.val + 1) ∗ Idle c arg24 arg23 1 (par t.val + 1) ∗ Part c arg22 (par t.val) ∗ Zero c arg24 0 (par t.val) ∗ (Src c arg5 X5)) ?_ fun _ => ?_
  · iintro ⟨⟨⟨Hp, Hz, HS⟩, Ho⟩, HR, Hi, Hb', Hi'⟩
    isplitl [Hb' Ho]
    · isplitl [Hb']; · iexact Hb'
      iexact Ho
    isplitl [HR]; · iexact HR
    isplitl [Hi]; · iexact Hi
    isplitl [Hi']; · iexact Hi'
    isplitl [Hp]; · iexact Hp
    isplitl [Hz]; · iexact Hz
    iexact HS
  unfold Next
  split
  · next h =>
    have h' := (more11 i t).mp h
    rw [if_pos h', if_pos h']
    refine Takes.step (Takes.enq (M := arg22) (A := arg24) (a := 0) (k := par t.val + 1) (X := X5) (cellAt_eq arg24 0 (par t.val + 1) (off31_at i t)) (off32_at i t))
      iprop(R ∗ Idle c arg24 arg23 1 (par t.val + 1) ∗ Part c arg22 (par t.val) ∗ Zero c arg24 0 (par t.val)
        ∗ Part c arg23 (par t.val) ∗ Zero c arg24 1 (par t.val) ∗ (Src c arg6 X6) ∗ Owe c) ?_ fun _ => ?_
    · iintro ⟨⟨⟨Hp', Hz', HS'⟩, Ho⟩, HR, Hi, Hi', Hp, Hz, HS⟩
      isplitl [Hi HS]
      · isplitl [Hi]; · iexact Hi
        iexact HS
      isplitl [HR]; · iexact HR
      isplitl [Hi']; · iexact Hi'
      isplitl [Hp]; · iexact Hp
      isplitl [Hz]; · iexact Hz
      isplitl [Hp']; · iexact Hp'
      isplitl [Hz']; · iexact Hz'
      isplitl [HS']; · iexact HS'
      iexact Ho
    refine Takes.step (Takes.enq (M := arg23) (A := arg24) (a := 1) (k := par t.val + 1) (X := X6) (cellAt_eq arg24 1 (par t.val + 1) (off34_at i t)) (off32_at i t))
      iprop(R ∗ Busy c arg24 arg22 0 (par t.val + 1) (Src c arg5 X5) ∗ Part c arg22 (par t.val) ∗ Zero c arg24 0 (par t.val)
        ∗ Part c arg23 (par t.val) ∗ Zero c arg24 1 (par t.val) ∗ Owe c) ?_ fun _ => Takes.mono ?_ Takes.pure fun _ => .rfl
    · iintro ⟨Hb, HR, Hi', Hp, Hz, Hp', Hz', HS', Ho⟩
      isplitl [Hi' HS']
      · isplitl [Hi']; · iexact Hi'
        iexact HS'
      isplitl [HR]; · iexact HR
      isplitl [Hb]; · iexact Hb
      isplitl [Hp]; · iexact Hp
      isplitl [Hz]; · iexact Hz
      isplitl [Hp']; · iexact Hp'
      isplitl [Hz']; · iexact Hz'
      iexact Ho
    · iintro ⟨Hb', HR, Hb, Hp, Hz, Hp', Hz', Ho⟩
      isplitl [HR]; · iexact HR
      isplitl [Hb Hp Hz]
      · isplitl [Hp]; · iexact Hp
        isplitl [Hz]; · iexact Hz
        iexact Hb
      isplitl [Hb' Hp' Hz']
      · isplitl [Hp']; · iexact Hp'
        isplitl [Hz']; · iexact Hz'
        iexact Hb'
      iexact Ho
  · next h =>
    have h' := fun x => h ((more11 i t).mpr x)
    rw [if_neg h', if_neg h']
    refine Takes.mono ?_ Takes.pure fun _ => .rfl
    iintro ⟨⟨⟨Hp', Hz', HS'⟩, Ho⟩, HR, Hi, Hi', Hp, Hz, HS⟩
    isplitl [HR]; · iexact HR
    isplitl [Hp Hz Hi HS]
    · isplitl [Hp]; · iexact Hp
      isplitl [Hz]; · iexact Hz
      isplitl [Hi]; · iexact Hi
      iexact HS
    isplitl [Hp' Hz' Hi' HS']
    · isplitl [Hp']; · iexact Hp'
      isplitl [Hz']; · iexact Hz'
      isplitl [Hi']; · iexact Hi'
      iexact HS'
    iexact Ho

end Cert.Kernel.Hand

end
-- ==== Proof.Trip11.lean ====
module

public import proofs.«01_k».proof.Proof.Wait11

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

attribute [local irreducible] k0_off37 k0_off38 k0_off39 k0_off40 k0_off41 k0_off42 k0_off43 k0_off44

set_option maxHeartbeats 0 in
set_option maxRecDepth 20000 in
/-- A trip, from its waits on: `R` holds the slot they fill. -/
theorem take124 {B : sProp (MK F)} (t : Fin (k0_t11_loop i).trips) (w22 : HoldsOn c R arg22 (half arg22 (par t.val))) (w23 : HoldsOn c R arg23 (half arg23 (par t.val)))
    (hw : ∀ v c0 c1, Takes c B (k0_part73 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v c0 c1 t) fun _ => R) (v c0 c1 : BitVec 32) :
    Takes c B (k0_part124 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v c0 c1 t) fun _ => R := by
  unfold k0_part124
  repeat' first
    | with_reducible intro _
    | with_reducible refine Takes.thenKeeps ?_ ?_
    | with_reducible exact Keeps.pure
    | with_reducible refine Keeps.for ?_
    | with_reducible refine Keeps.dite ?_ ?_
    | with_reducible refine Keeps.ite ?_ ?_
    | with_reducible exact Keeps.load (by assumption)
    | with_reducible exact Keeps.load (Owns.holds (by assumption))
    | with_reducible exact Keeps.store (by assumption)
    | with_reducible exact Keeps.smem (Owns.holds (by assumption))
    | unfold k0_part74
    | unfold k0_part75
    | unfold k0_part76
    | unfold k0_part77
    | unfold k0_part78
    | unfold k0_part79
    | unfold k0_part80
    | unfold k0_part81
    | unfold k0_part82
    | unfold k0_part83
    | unfold k0_part84
    | unfold k0_part85
    | unfold k0_part86
    | unfold k0_part87
    | unfold k0_part88
    | unfold k0_part89
    | unfold k0_part90
    | unfold k0_part91
    | unfold k0_part92
    | unfold k0_part93
    | unfold k0_part94
    | unfold k0_part95
    | unfold k0_part96
    | unfold k0_part97
    | unfold k0_part98
    | unfold k0_part99
    | unfold k0_part100
    | unfold k0_part101
    | unfold k0_part102
    | unfold k0_part103
    | unfold k0_part104
    | unfold k0_part105
    | unfold k0_part106
    | unfold k0_part107
    | unfold k0_part108
    | unfold k0_part109
    | unfold k0_part110
    | unfold k0_part111
    | unfold k0_part112
    | unfold k0_part113
    | unfold k0_part114
    | unfold k0_part115
    | unfold k0_part116
    | unfold k0_part117
    | unfold k0_part118
    | unfold k0_part119
    | unfold k0_part120
    | unfold k0_part121
    | unfold k0_part122
    | unfold k0_part123
    | with_reducible exact hw _ _ _
    | exact Keeps.load (by assumption)
    | exact Keeps.load (Owns.holds (by assumption))
    | exact Keeps.store (by assumption)
    | exact Keeps.smem (Owns.holds (by assumption))
    | exact Keeps.loadOn w22 (half_load arg22 (par t.val) (off37_at i t) rows_one)
    | exact Keeps.loadOn w22 (half_load arg22 (par t.val) (off38_at i t) rows_one)
    | exact Keeps.loadOn w22 (half_load arg22 (par t.val) (off39_at i t) rows_one)
    | exact Keeps.loadOn w22 (half_load arg22 (par t.val) (off40_at i t) rows_one)
    | exact Keeps.loadOn w23 (half_load arg23 (par t.val) (off41_at i t) cols_one)
    | exact Keeps.loadOn w23 (half_load arg23 (par t.val) (off42_at i t) cols_one)
    | exact Keeps.loadOn w23 (half_load arg23 (par t.val) (off43_at i t) cols_one)
    | exact Keeps.loadOn w23 (half_load arg23 (par t.val) (off44_at i t) cols_one)

end Cert.Kernel.Hand

end
-- ==== Proof.Part346.lean ====
module

public import proofs.«01_k».proof.Proof.Start
public import proofs.«01_k».proof.Proof.Trip11

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
variable {X5 : Buf (Elt F) (arg5.view.loc (c : Thread nD τ))} {X6 : Buf (Elt F) (arg6.view.loc (c : Thread nD τ))}
include h1 h2 h3 h4 o7 o8 o9 o10 o11 o12 o13 o14 o15 o16 o17 o18 o19 o20 o21

attribute [local irreducible] k0_off37 k0_off38 k0_off39 k0_off40 k0_off41 k0_off42 k0_off43 k0_off44

set_option maxHeartbeats 0 in
set_option maxRecDepth 20000 in
theorem keeps346 (v20 : BitVec 32) (v623 : FVec F S512x1 .f32) :
    Keeps c iprop(R ∗ Ring c arg5 arg6 arg22 arg23 arg24 X5 X6) (k0_part346 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v20 v623) := by
  obtain ⟨n, hn⟩ : ∃ n, n = (k0_t11_loop i).trips := ⟨_, rfl⟩
  have hp : 0 < n := hn ▸ trips11_pos i
  unfold k0_part346
  repeat' first
    | with_reducible intro _
    | with_reducible refine Takes.bind start_left ?_
    | with_reducible refine Takes.bind (start_right n hp) ?_
    | with_reducible refine Takes.bind (loop_turn_of hn ?_) ?_
    | exact Keeps.for fun k _ => (Nat.not_lt_zero k.val (lt_of_lt_of_eq k.isLt (trips12_zero i))).elim
    | with_reducible refine Takes.thenKeeps ?_ ?_
    | with_reducible exact Keeps.pure
    | with_reducible refine Keeps.for ?_
    | with_reducible refine Keeps.dite ?_ ?_
    | with_reducible refine Keeps.ite ?_ ?_
    | with_reducible exact Keeps.load (HoldsOn.left (by assumption))
    | with_reducible exact Keeps.load (Owns.holds (Owns.left (by assumption)))
    | with_reducible exact Keeps.store (Owns.left (by assumption))
    | with_reducible exact Keeps.smem (Owns.holds (Owns.left (by assumption)))
    | exact Keeps.load (HoldsOn.left (by assumption))
    | exact Keeps.load (Owns.holds (Owns.left (by assumption)))
    | exact Keeps.store (Owns.left (by assumption))
    | exact Keeps.smem (Owns.holds (Owns.left (by assumption)))
    | exact Keeps.loadOn (HoldsOn.right (mid_right _ _)) (half_load arg23 _ (off44_at i _) cols_one)
  · exact take124 (HoldsOn.left h1) (HoldsOn.left h2) (HoldsOn.left h3) (HoldsOn.left h4) (Owns.left o7) (Owns.left o8) (Owns.left o9) (Owns.left o10) (Owns.left o11) (Owns.left o12) (Owns.left o13) (Owns.left o14) (Owns.left o15) (Owns.left o16) (Owns.left o17) (Owns.left o18) (Owns.left o19) (Owns.left o20) (Owns.left o21) _ (HoldsOn.right (mid_left _ _)) (HoldsOn.right (mid_right _ _)) (fun v c0 c1 => by rw [hn]; exact take73 v c0 c1 _) _ _ _

end Cert.Kernel.Hand

end
-- ==== Proof.Wait13.lean ====
module

public import proofs.«01_k».proof.Proof.Ring

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)} {X5 : Buf (Elt F) (arg5.view.loc (c : Thread nD τ))} {X6 : Buf (Elt F) (arg6.view.loc (c : Thread nD τ))}

set_option maxHeartbeats 0 in
set_option maxRecDepth 20000 in
theorem take177 (v c0 c1 : BitVec 32) (t : Fin (k0_t13_loop i).trips) :
    Takes c iprop(R ∗ Turn c arg5 arg6 arg22 arg23 arg24 X5 X6 (k0_t13_loop i).trips t.val) (k0_part177 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v c0 c1 t)
      fun _ => iprop(R ∗ Mid c arg5 arg6 arg22 arg23 arg24 X5 X6 (k0_t13_loop i).trips t.val) := by
  unfold k0_part177 Turn Mid At
  dsimp only
  rw [if_pos t.isLt, if_pos t.isLt]
  refine Takes.step (Takes.wait (M := arg22) (A := arg24) (a := 0) (k := par t.val) (S := (Src c arg5 X5)) (cellAt_eq arg24 0 (par t.val) (off64_at i t)))
    iprop(R ∗ Idle c arg24 arg22 0 (par t.val + 1) ∗ Busy c arg24 arg23 1 (par t.val) (Src c arg6 X6) ∗ Idle c arg24 arg23 1 (par t.val + 1)) ?_ fun _ => ?_
  · iintro ⟨HR, ⟨Hb, Hi⟩, ⟨Hb', Hi'⟩, Ho⟩
    isplitl [Hb Ho]
    · isplitl [Hb]; · iexact Hb
      iexact Ho
    isplitl [HR]; · iexact HR
    isplitl [Hi]; · iexact Hi
    isplitl [Hb']; · iexact Hb'
    iexact Hi'
  refine Takes.step (Takes.wait (M := arg23) (A := arg24) (a := 1) (k := par t.val) (S := (Src c arg6 X6)) (cellAt_eq arg24 1 (par t.val) (off67_at i t)))
    iprop(R ∗ Idle c arg24 arg22 0 (par t.val + 1) ∗ Idle c arg24 arg23 1 (par t.val + 1) ∗ Part c arg22 (par t.val) ∗ Zero c arg24 0 (par t.val) ∗ (Src c arg5 X5)) ?_ fun _ => ?_
  · iintro ⟨⟨⟨Hp, Hz, HS⟩, Ho⟩, HR, Hi, Hb', Hi'⟩
    isplitl [Hb' Ho]
    · isplitl [Hb']; · iexact Hb'
      iexact Ho
    isplitl [HR]; · iexact HR
    isplitl [Hi]; · iexact Hi
    isplitl [Hi']; · iexact Hi'
    isplitl [Hp]; · iexact Hp
    isplitl [Hz]; · iexact Hz
    iexact HS
  unfold Next
  split
  · next h =>
    have h' := (more13 i t).mp h
    rw [if_pos h', if_pos h']
    refine Takes.step (Takes.enq (M := arg22) (A := arg24) (a := 0) (k := par t.val + 1) (X := X5) (cellAt_eq arg24 0 (par t.val + 1) (off69_at i t)) (off70_at i t))
      iprop(R ∗ Idle c arg24 arg23 1 (par t.val + 1) ∗ Part c arg22 (par t.val) ∗ Zero c arg24 0 (par t.val)
        ∗ Part c arg23 (par t.val) ∗ Zero c arg24 1 (par t.val) ∗ (Src c arg6 X6) ∗ Owe c) ?_ fun _ => ?_
    · iintro ⟨⟨⟨Hp', Hz', HS'⟩, Ho⟩, HR, Hi, Hi', Hp, Hz, HS⟩
      isplitl [Hi HS]
      · isplitl [Hi]; · iexact Hi
        iexact HS
      isplitl [HR]; · iexact HR
      isplitl [Hi']; · iexact Hi'
      isplitl [Hp]; · iexact Hp
      isplitl [Hz]; · iexact Hz
      isplitl [Hp']; · iexact Hp'
      isplitl [Hz']; · iexact Hz'
      isplitl [HS']; · iexact HS'
      iexact Ho
    refine Takes.step (Takes.enq (M := arg23) (A := arg24) (a := 1) (k := par t.val + 1) (X := X6) (cellAt_eq arg24 1 (par t.val + 1) (off72_at i t)) (off70_at i t))
      iprop(R ∗ Busy c arg24 arg22 0 (par t.val + 1) (Src c arg5 X5) ∗ Part c arg22 (par t.val) ∗ Zero c arg24 0 (par t.val)
        ∗ Part c arg23 (par t.val) ∗ Zero c arg24 1 (par t.val) ∗ Owe c) ?_ fun _ => Takes.mono ?_ Takes.pure fun _ => .rfl
    · iintro ⟨Hb, HR, Hi', Hp, Hz, Hp', Hz', HS', Ho⟩
      isplitl [Hi' HS']
      · isplitl [Hi']; · iexact Hi'
        iexact HS'
      isplitl [HR]; · iexact HR
      isplitl [Hb]; · iexact Hb
      isplitl [Hp]; · iexact Hp
      isplitl [Hz]; · iexact Hz
      isplitl [Hp']; · iexact Hp'
      isplitl [Hz']; · iexact Hz'
      iexact Ho
    · iintro ⟨Hb', HR, Hb, Hp, Hz, Hp', Hz', Ho⟩
      isplitl [HR]; · iexact HR
      isplitl [Hb Hp Hz]
      · isplitl [Hp]; · iexact Hp
        isplitl [Hz]; · iexact Hz
        iexact Hb
      isplitl [Hb' Hp' Hz']
      · isplitl [Hp']; · iexact Hp'
        isplitl [Hz']; · iexact Hz'
        iexact Hb'
      iexact Ho
  · next h =>
    have h' := fun x => h ((more13 i t).mpr x)
    rw [if_neg h', if_neg h']
    refine Takes.mono ?_ Takes.pure fun _ => .rfl
    iintro ⟨⟨⟨Hp', Hz', HS'⟩, Ho⟩, HR, Hi, Hi', Hp, Hz, HS⟩
    isplitl [HR]; · iexact HR
    isplitl [Hp Hz Hi HS]
    · isplitl [Hp]; · iexact Hp
      isplitl [Hz]; · iexact Hz
      isplitl [Hi]; · iexact Hi
      iexact HS
    isplitl [Hp' Hz' Hi' HS']
    · isplitl [Hp']; · iexact Hp'
      isplitl [Hz']; · iexact Hz'
      isplitl [Hi']; · iexact Hi'
      iexact HS'
    iexact Ho

end Cert.Kernel.Hand

end
-- ==== Proof.Trip13.lean ====
module

public import proofs.«01_k».proof.Proof.Wait13

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

attribute [local irreducible] k0_off75 k0_off76 k0_off77 k0_off78 k0_off79 k0_off80 k0_off81 k0_off82

set_option maxHeartbeats 0 in
set_option maxRecDepth 20000 in
/-- A trip, from its waits on: `R` holds the slot they fill. -/
theorem take252 {B : sProp (MK F)} (t : Fin (k0_t13_loop i).trips) (w22 : HoldsOn c R arg22 (half arg22 (par t.val))) (w23 : HoldsOn c R arg23 (half arg23 (par t.val)))
    (hw : ∀ v c0 c1, Takes c B (k0_part177 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v c0 c1 t) fun _ => R) (v c0 c1 : BitVec 32) :
    Takes c B (k0_part252 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v c0 c1 t) fun _ => R := by
  unfold k0_part252
  repeat' first
    | with_reducible intro _
    | with_reducible refine Takes.thenKeeps ?_ ?_
    | with_reducible exact Keeps.pure
    | with_reducible refine Keeps.for ?_
    | with_reducible refine Keeps.dite ?_ ?_
    | with_reducible refine Keeps.ite ?_ ?_
    | with_reducible exact Keeps.load (by assumption)
    | with_reducible exact Keeps.load (Owns.holds (by assumption))
    | with_reducible exact Keeps.store (by assumption)
    | with_reducible exact Keeps.smem (Owns.holds (by assumption))
    | unfold k0_part178
    | unfold k0_part179
    | unfold k0_part180
    | unfold k0_part181
    | unfold k0_part182
    | unfold k0_part183
    | unfold k0_part184
    | unfold k0_part185
    | unfold k0_part186
    | unfold k0_part187
    | unfold k0_part188
    | unfold k0_part189
    | unfold k0_part190
    | unfold k0_part191
    | unfold k0_part192
    | unfold k0_part193
    | unfold k0_part194
    | unfold k0_part195
    | unfold k0_part196
    | unfold k0_part197
    | unfold k0_part198
    | unfold k0_part199
    | unfold k0_part200
    | unfold k0_part201
    | unfold k0_part202
    | unfold k0_part203
    | unfold k0_part204
    | unfold k0_part205
    | unfold k0_part206
    | unfold k0_part207
    | unfold k0_part208
    | unfold k0_part209
    | unfold k0_part210
    | unfold k0_part211
    | unfold k0_part212
    | unfold k0_part213
    | unfold k0_part214
    | unfold k0_part215
    | unfold k0_part216
    | unfold k0_part217
    | unfold k0_part218
    | unfold k0_part219
    | unfold k0_part220
    | unfold k0_part221
    | unfold k0_part222
    | unfold k0_part223
    | unfold k0_part224
    | unfold k0_part225
    | unfold k0_part226
    | unfold k0_part227
    | unfold k0_part228
    | unfold k0_part229
    | unfold k0_part230
    | unfold k0_part231
    | unfold k0_part232
    | unfold k0_part233
    | unfold k0_part234
    | unfold k0_part235
    | unfold k0_part236
    | with_reducible exact hw _ _ _
    | exact Keeps.load (by assumption)
    | exact Keeps.load (Owns.holds (by assumption))
    | exact Keeps.store (by assumption)
    | exact Keeps.smem (Owns.holds (by assumption))
    | exact Keeps.loadOn w22 (half_load arg22 (par t.val) (off75_at i t) rows_one)
    | exact Keeps.loadOn w22 (half_load arg22 (par t.val) (off76_at i t) rows_one)
    | exact Keeps.loadOn w22 (half_load arg22 (par t.val) (off77_at i t) rows_one)
    | exact Keeps.loadOn w22 (half_load arg22 (par t.val) (off78_at i t) rows_one)
    | exact Keeps.loadOn w23 (half_load arg23 (par t.val) (off79_at i t) cols_one)
    | exact Keeps.loadOn w23 (half_load arg23 (par t.val) (off80_at i t) cols_one)
    | exact Keeps.loadOn w23 (half_load arg23 (par t.val) (off81_at i t) cols_one)
    | exact Keeps.loadOn w23 (half_load arg23 (par t.val) (off82_at i t) cols_one)

end Cert.Kernel.Hand

end
-- ==== Proof.Part347.lean ====
module

public import proofs.«01_k».proof.Proof.Start
public import proofs.«01_k».proof.Proof.Trip13

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
variable {X5 : Buf (Elt F) (arg5.view.loc (c : Thread nD τ))} {X6 : Buf (Elt F) (arg6.view.loc (c : Thread nD τ))}
include h1 h2 h3 h4 o7 o8 o9 o10 o11 o12 o13 o14 o15 o16 o17 o18 o19 o20 o21

attribute [local irreducible] k0_off75 k0_off76 k0_off77 k0_off78 k0_off79 k0_off80 k0_off81 k0_off82

set_option maxHeartbeats 0 in
set_option maxRecDepth 20000 in
theorem keeps347 (v20 : BitVec 32) (v512 : IVec S256x128 32) (v658 : BitVec 1) (v_true : BitVec 1) :
    Keeps c iprop(R ∗ Ring c arg5 arg6 arg22 arg23 arg24 X5 X6) (k0_part347 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v20 v512 v658 v_true) := by
  obtain ⟨n, hn⟩ : ∃ n, n = (k0_t13_loop i).trips := ⟨_, rfl⟩
  have hp : 0 < n := hn ▸ trips13_pos i
  unfold k0_part347
  repeat' first
    | with_reducible intro _
    | with_reducible refine Takes.bind start_left ?_
    | with_reducible refine Takes.bind (start_right n hp) ?_
    | with_reducible refine Takes.bind (loop_turn_of hn ?_) ?_
    | exact Keeps.for fun k _ => (Nat.not_lt_zero k.val (lt_of_lt_of_eq k.isLt (trips14_zero i))).elim
    | with_reducible refine Takes.thenKeeps ?_ ?_
    | with_reducible exact Keeps.pure
    | with_reducible refine Keeps.for ?_
    | with_reducible refine Keeps.dite ?_ ?_
    | with_reducible refine Keeps.ite ?_ ?_
    | unfold k0_part237
    | unfold k0_part238
    | unfold k0_part239
    | unfold k0_part240
    | unfold k0_part241
    | unfold k0_part242
    | unfold k0_part243
    | unfold k0_part244
    | unfold k0_part245
    | unfold k0_part246
    | unfold k0_part247
    | unfold k0_part248
    | unfold k0_part249
    | unfold k0_part250
    | unfold k0_part251
    | with_reducible exact Keeps.load (HoldsOn.left (by assumption))
    | with_reducible exact Keeps.load (Owns.holds (Owns.left (by assumption)))
    | with_reducible exact Keeps.store (Owns.left (by assumption))
    | with_reducible exact Keeps.smem (Owns.holds (Owns.left (by assumption)))
    | exact Keeps.load (HoldsOn.left (by assumption))
    | exact Keeps.load (Owns.holds (Owns.left (by assumption)))
    | exact Keeps.store (Owns.left (by assumption))
    | exact Keeps.smem (Owns.holds (Owns.left (by assumption)))
    | exact Keeps.loadOn (HoldsOn.right (mid_right _ _)) (half_load arg23 _ (off82_at i _) cols_one)
  · exact take252 (HoldsOn.left h1) (HoldsOn.left h2) (HoldsOn.left h3) (HoldsOn.left h4) (Owns.left o7) (Owns.left o8) (Owns.left o9) (Owns.left o10) (Owns.left o11) (Owns.left o12) (Owns.left o13) (Owns.left o14) (Owns.left o15) (Owns.left o16) (Owns.left o17) (Owns.left o18) (Owns.left o19) (Owns.left o20) (Owns.left o21) _ (HoldsOn.right (mid_left _ _)) (HoldsOn.right (mid_right _ _)) (fun v c0 c1 => by rw [hn]; exact take177 v c0 c1 _) _ _ _

end Cert.Kernel.Hand

end
-- ==== Proof.Part348.lean ====
module

public import proofs.«01_k».proof.Proof.Keeps

@[expose] public section

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
include h1 h2 h3 h4 o7 o8 o9 o10 o11 o12 o13 o14 o15 o16 o17 o18 o19 o20 o21

set_option maxHeartbeats 0 in
set_option maxRecDepth 20000 in
theorem keeps348 (v512 : IVec S256x128 32) (v690 : FVec F S512x128 .f32) (v691 : FVec F S256x128 .f32) (v696 : FVec F S256x128 .f32) :
    Keeps c R (k0_part348 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v512 v690 v691 v696) := by
  unfold k0_part348
  repeat' first
    | with_reducible intro _
    | with_reducible refine Keeps.bind ?_ ?_
    | with_reducible exact Keeps.pure
    | with_reducible refine Keeps.for ?_
    | with_reducible refine Keeps.dite ?_ ?_
    | with_reducible refine Keeps.ite ?_ ?_
    | exact Keeps.load (by assumption)
    | exact Keeps.load (Owns.holds (by assumption))
    | exact Keeps.store (by assumption)
    | exact Keeps.smem (Owns.holds (by assumption))

end Cert.Kernel.Hand

end
-- ==== Proof.Body.lean ====
module

public import proofs.«01_k».proof.Proof.Part329
public import proofs.«01_k».proof.Proof.Part330
public import proofs.«01_k».proof.Proof.Part331
public import proofs.«01_k».proof.Proof.Part332
public import proofs.«01_k».proof.Proof.Part333
public import proofs.«01_k».proof.Proof.Part334
public import proofs.«01_k».proof.Proof.Part335
public import proofs.«01_k».proof.Proof.Part336
public import proofs.«01_k».proof.Proof.Part337
public import proofs.«01_k».proof.Proof.Part338
public import proofs.«01_k».proof.Proof.Part339
public import proofs.«01_k».proof.Proof.Part340
public import proofs.«01_k».proof.Proof.Part341
public import proofs.«01_k».proof.Proof.Part342
public import proofs.«01_k».proof.Proof.Part343
public import proofs.«01_k».proof.Proof.Part344
public import proofs.«01_k».proof.Proof.Part345
public import proofs.«01_k».proof.Proof.Part346
public import proofs.«01_k».proof.Proof.Part347
public import proofs.«01_k».proof.Proof.Part348

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable {i : grid0.Coords} {arg1 : Memref sig .tc .vmem S1x2048x64 .bf16} {harg1 : arg1.IsWhole} {arg2 : Memref sig .tc .vmem S64x16384 .bf16} {harg2 : arg2.IsWhole} {arg3 : Memref sig .tc .vmem S256x128 .f32} {harg3 : arg3.IsWhole} {arg4 : Memref sig .tc .vmem S256x512 .bf16} {harg4 : arg4.IsWhole} {arg5 : Memref sig .tc .hbm S512x16384 .bf16} {harg5 : arg5.IsWhole} {arg6 : Memref sig .tc .hbm S16384x512 .bf16} {harg6 : arg6.IsWhole} {arg7 : Memref sig .tc .vmem S256x512 .f32} {harg7 : arg7.IsWhole} {arg8 : Memref sig .tc .vmem S16x256x1024 .i32} {harg8 : arg8.IsWhole} {arg9 : Memref sig .tc .vmem S4x256x128 .i32} {harg9 : arg9.IsWhole} {arg10 : Memref sig .tc .vmem S4x256x128 .i32} {harg10 : arg10.IsWhole} {arg11 : Memref sig .tc .vmem S8x256x128 .f32} {harg11 : arg11.IsWhole} {arg12 : Memref sig .tc .vmem S4x512x128 .bf16} {harg12 : arg12.IsWhole} {arg13 : Memref sig .tc .vmem S4x512x512 .f32} {harg13 : arg13.IsWhole} {arg14 : Memref sig .tc .vmem S4x512x512 .bf16} {harg14 : arg14.IsWhole} {arg15 : Memref sig .tc .vmem S256x512 .f32} {harg15 : arg15.IsWhole} {arg16 : Memref sig .tc .vmem S4x512x128 .f32} {harg16 : arg16.IsWhole} {arg17 : Memref sig .tc .vmem S4x512x128 .f32} {harg17 : arg17.IsWhole} {arg18 : Memref sig .tc .vmem S4x512x128 .f32} {harg18 : arg18.IsWhole} {arg19 : Memref sig .tc .vmem S4x512x128 .f32} {harg19 : arg19.IsWhole} {arg20 : Memref sig .tc .vmem S4x512x128 .f32} {harg20 : arg20.IsWhole} {arg21 : Memref sig .tc .smem S8 .f32} {harg21 : arg21.IsWhole} {arg22 : Memref sig .tc .vmem S2x512x512 .bf16} {harg22 : arg22.IsWhole} {arg23 : Memref sig .tc .vmem S2x512x512 .bf16} {harg23 : arg23.IsWhole} {arg24 : DmaSems sig S2x2} {arg26 : FVec F S1x512 .f32} {arg27 : FVec F S1x512 .f32}
variable {c : Dev nD} {R : sProp (MK F)}
variable (h1 : Holds c R arg1) (h2 : Holds c R arg2) (h3 : Holds c R arg3) (h4 : Holds c R arg4) (o7 : Owns c R arg7) (o8 : Owns c R arg8) (o9 : Owns c R arg9) (o10 : Owns c R arg10) (o11 : Owns c R arg11) (o12 : Owns c R arg12) (o13 : Owns c R arg13) (o14 : Owns c R arg14) (o15 : Owns c R arg15) (o16 : Owns c R arg16) (o17 : Owns c R arg17) (o18 : Owns c R arg18) (o19 : Owns c R arg19) (o20 : Owns c R arg20) (o21 : Owns c R arg21)
variable {X5 : Buf (Elt F) (arg5.view.loc (c : Thread nD τ))} {X6 : Buf (Elt F) (arg6.view.loc (c : Thread nD τ))}
include h1 h2 h3 h4 o7 o8 o9 o10 o11 o12 o13 o14 o15 o16 o17 o18 o19 o20 o21

set_option maxHeartbeats 0 in
set_option maxRecDepth 20000 in
/-- The whole body: the operands, the scratch buffers, the two rings of transfers and their cells are kept. -/
theorem keeps_body :
    Keeps c iprop(R ∗ Ring c arg5 arg6 arg22 arg23 arg24 X5 X6) (cc0_dsa i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24) := by
  unfold cc0_dsa
  refine Keeps.bind (Keeps.framed (keeps329 h1 h2 h3 h4 o7 o8 o9 o10 o11 o12 o13 o14 o15 o16 o17 o18 o19 o20 o21) _) ?_
  rintro ⟨arg0, v20, v25, v36, v37, c0_i32_15⟩
  dsimp only
  refine Keeps.bind (keeps330 h1 h2 h3 h4 o7 o8 o9 o10 o11 o12 o13 o14 o15 o16 o17 o18 o19 o20 o21 _ _ _ _ _) ?_
  rintro ⟨v41, v42, v46, v50⟩
  dsimp only
  refine Keeps.bind (Keeps.framed (keeps331 h1 h2 h3 h4 o7 o8 o9 o10 o11 o12 o13 o14 o15 o16 o17 o18 o19 o20 o21 _ _) _) ?_
  rintro ⟨v105, c4_i32_44, v106, v107⟩
  dsimp only
  refine Keeps.bind (Keeps.framed (keeps332 h1 h2 h3 h4 o7 o8 o9 o10 o11 o12 o13 o14 o15 o16 o17 o18 o19 o20 o21 _ _ _ _ _ _) _) ?_
  rintro ⟨v122, v144, v146⟩
  dsimp only
  refine Keeps.bind (Keeps.framed (keeps333 h1 h2 h3 h4 o7 o8 o9 o10 o11 o12 o13 o14 o15 o16 o17 o18 o19 o20 o21 _ _ _ _) _) ?_
  intro v183
  refine Keeps.bind (Keeps.framed (keeps334 h1 h2 h3 h4 o7 o8 o9 o10 o11 o12 o13 o14 o15 o16 o17 o18 o19 o20 o21 _ _ _) _) ?_
  intro v218
  refine Keeps.bind (Keeps.framed (keeps335 h1 h2 h3 h4 o7 o8 o9 o10 o11 o12 o13 o14 o15 o16 o17 o18 o19 o20 o21 _ _ _ _) _) ?_
  intro v253
  refine Keeps.bind (Keeps.framed (keeps336 h1 h2 h3 h4 o7 o8 o9 o10 o11 o12 o13 o14 o15 o16 o17 o18 o19 o20 o21 _ _) _) ?_
  rintro ⟨v259, v260, v288, v290, c4096_i32_141⟩
  dsimp only
  refine Keeps.bind (Keeps.framed (keeps337 h1 h2 h3 h4 o7 o8 o9 o10 o11 o12 o13 o14 o15 o16 o17 o18 o19 o20 o21 _ _ _ _ _) _) ?_
  rintro ⟨v315, v317, v329, v331, c31_i32_160⟩
  dsimp only
  refine Keeps.bind (Keeps.framed (keeps338 h1 h2 h3 h4 o7 o8 o9 o10 o11 o12 o13 o14 o15 o16 o17 o18 o19 o20 o21 _ _ _ _ _ _ _ _) _) ?_
  rintro ⟨v373, cst_178⟩
  dsimp only
  refine Keeps.bind (Keeps.framed (keeps339 h1 h2 h3 h4 o7 o8 o9 o10 o11 o12 o13 o14 o15 o16 o17 o18 o19 o20 o21 _ _ _ _) _) ?_
  rintro ⟨v384, v412⟩
  dsimp only
  refine Keeps.bind (Keeps.framed (keeps340 h1 h2 h3 h4 o7 o8 o9 o10 o11 o12 o13 o14 o15 o16 o17 o18 o19 o20 o21 _ _ _) _) ?_
  intro _
  refine Keeps.bind (Keeps.framed (keeps341 h1 h2 h3 h4 o7 o8 o9 o10 o11 o12 o13 o14 o15 o16 o17 o18 o19 o20 o21 _ _) _) ?_
  rintro ⟨v479, v481, v482⟩
  dsimp only
  refine Keeps.bind (Keeps.framed (keeps342 h1 h2 h3 h4 o7 o8 o9 o10 o11 o12 o13 o14 o15 o16 o17 o18 o19 o20 o21 _ _ _ _ _) _) ?_
  rintro ⟨v509, v512, v513⟩
  dsimp only
  refine Keeps.bind (Keeps.framed (keeps343 h1 h2 h3 h4 o7 o8 o9 o10 o11 o12 o13 o14 o15 o16 o17 o18 o19 o20 o21 _ _ _) _) ?_
  intro v554
  refine Keeps.bind (Keeps.framed (keeps344 h1 h2 h3 h4 o7 o8 o9 o10 o11 o12 o13 o14 o15 o16 o17 o18 o19 o20 o21 _ _ _) _) ?_
  intro v584
  refine Keeps.bind (Keeps.framed (keeps345 h1 h2 h3 h4 o7 o8 o9 o10 o11 o12 o13 o14 o15 o16 o17 o18 o19 o20 o21 _) _) ?_
  intro v623
  refine Keeps.bind (keeps346 h1 h2 h3 h4 o7 o8 o9 o10 o11 o12 o13 o14 o15 o16 o17 o18 o19 o20 o21 _ _) ?_
  rintro ⟨v658, v_true⟩
  dsimp only
  refine Keeps.bind (keeps347 h1 h2 h3 h4 o7 o8 o9 o10 o11 o12 o13 o14 o15 o16 o17 o18 o19 o20 o21 _ _ _ _) ?_
  rintro ⟨v683, v690, v691, v696⟩
  dsimp only
  refine Keeps.bind (Keeps.framed (keeps348 h1 h2 h3 h4 o7 o8 o9 o10 o11 o12 o13 o14 o15 o16 o17 o18 o19 o20 o21 _ _ _ _) _) ?_
  rintro ⟨v703, v723, v730, v731, v733⟩
  dsimp only
  repeat' first
    | with_reducible intro _
    | with_reducible refine Keeps.bind ?_ ?_
    | with_reducible exact Keeps.pure
    | exact Keeps.load (Owns.holds (Owns.left (by assumption)))
    | exact Keeps.store (Owns.left (by assumption))

end Cert.Kernel.Hand

end
-- ==== Proof.Whole.lean ====
/-
  The launch: the body kept at every grid point gives the run of the whole call, its arguments unchanged and every
  counter at zero at the end.
-/
module

public import proofs.«01_k».proof.Proof.Body
public import Idealize.ShloMosaic.Lib.Pipeline.Frame
public import Idealize.ShloMosaic.Adequacy
public import proofs.«01_k».proof.Proof.Gen.Kernel.Points
public import proofs.«01_k».proof.Proof.Gen.Kernel.Launch

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [BitOps F]
variable (m : (ℓ : Loc nD τ sig) → Buf (Elt F) ℓ) (g : Dev nD → PrngReg)

/-- What the call's buffers hold when it starts. -/
def atStart (c : Dev nD) (b : Ref sig .tc) : Buf (Elt F) ((c.tc : Thread nD τ).loc b) := m ((c.tc : Thread nD τ).loc b)

/-- The two arguments the body's own transfers read. -/
def far : Finset (Ref sig .tc) := {main_arg4, main_arg5}

/-- The four cells the body's own transfers count on. -/
def cells (j : Fin 4) : SemLoc sig := .dma (cellAt cc0_scratch16 ⟨j.val / 2, by omega⟩ ⟨j.val % 2, by omega⟩)

/-- No window's contents are named. -/
def loose (_ : Fin cfg0.W) : Bool := true

/-- The record of the launch: the arrays as they start, between points whatever the body keeps. -/
def record (_ : Fin 1) (c : Dev nD) : Dat τ (Elt F) Unit ℕ (Pipeline.UD sig nD τ) ℕ cfg0 c where
  A w := atStart m c (Pipeline.arrRef spec0 w)
  after _ _ := fun _ => Classical.arbitrary _
  Φ _ := Pipeline.ΦD cells spec0 far (atStart m) c
  q _ := fullShare
  owed _ := 0

theorem some_of_owns {c : Dev nD} {sp : Space} {s : Shape} {e : EltTy} (M : Memref sig .tc sp s e) :
    (iprop(∃ X, owns (c : Thread nD τ) M fullShare X) : sProp (MK F)) ⊢ Some' c M := by
  unfold Some' owns
  iintro ⟨%X, %f, -, H⟩
  iexists f; iexact H

theorem owns_of_some {c : Dev nD} {sp : Space} {s : Shape} {e : EltTy} (M : Memref sig .tc sp s e) :
    (Some' c M : sProp (MK F)) ⊢ iprop(∃ X, owns (c : Thread nD τ) M fullShare X) := by
  unfold Some' owns
  iintro ⟨%f, H⟩
  iexists (M.view.read (Elt F) f)
  iexists f
  isplitr; · ipureintro; rfl
  iexact H

theorem some_whole (c : Dev nD) (b : Ref sig .tc) :
    (Some' c (Memref.whole b) : sProp (MK F)) = iprop(∃ f : Buf (Elt F) ((c.tc : Thread nD τ).loc b), ((c.tc : Thread nD τ).loc b) ↦{fullShare} f) := by
  unfold Some'
  simp only [Memref.view_whole, View.set_whole]

/-- What a grid point's body runs on besides the two rings. -/
def Base (c : Dev nD) (t : Fin cfg0.N) : sProp (MK F) :=
  iprop(Some' c (win0_0.stage (cfg0.slots t 0)) ∗ Some' c (win0_1.stage (cfg0.slots t 1)) ∗ Some' c (win0_2.stage (cfg0.slots t 2)) ∗ Some' c (win0_3.stage (cfg0.slots t 3)) ∗ Some' c (win0_4.stage (cfg0.slots t 4)) ∗ Some' c (Memref.whole cc0_scratch0) ∗ Some' c (Memref.whole cc0_scratch1) ∗ Some' c (Memref.whole cc0_scratch2) ∗ Some' c (Memref.whole cc0_scratch3) ∗ Some' c (Memref.whole cc0_scratch4) ∗ Some' c (Memref.whole cc0_scratch5) ∗ Some' c (Memref.whole cc0_scratch6) ∗ Some' c (Memref.whole cc0_scratch7) ∗ Some' c (Memref.whole cc0_scratch8) ∗ Some' c (Memref.whole cc0_scratch9) ∗ Some' c (Memref.whole cc0_scratch10) ∗ Some' c (Memref.whole cc0_scratch11) ∗ Some' c (Memref.whole cc0_scratch12) ∗ Some' c (Memref.whole cc0_scratch13) ∗ (∃ r, prngReg c r))

theorem base_0 {c : Dev nD} {t : Fin cfg0.N} : Owns (F := F) c (Base c t) (win0_0.stage (cfg0.slots t 0)) := by
  unfold Base; exact (Owns.left Owns.self)
theorem base_1 {c : Dev nD} {t : Fin cfg0.N} : Owns (F := F) c (Base c t) (win0_1.stage (cfg0.slots t 1)) := by
  unfold Base; exact (Owns.right (Owns.left Owns.self))
theorem base_2 {c : Dev nD} {t : Fin cfg0.N} : Owns (F := F) c (Base c t) (win0_2.stage (cfg0.slots t 2)) := by
  unfold Base; exact (Owns.right (Owns.right (Owns.left Owns.self)))
theorem base_3 {c : Dev nD} {t : Fin cfg0.N} : Owns (F := F) c (Base c t) (win0_3.stage (cfg0.slots t 3)) := by
  unfold Base; exact (Owns.right (Owns.right (Owns.right (Owns.left Owns.self))))
theorem base_4 {c : Dev nD} {t : Fin cfg0.N} : Owns (F := F) c (Base c t) (win0_4.stage (cfg0.slots t 4)) := by
  unfold Base; exact (Owns.right (Owns.right (Owns.right (Owns.right (Owns.left Owns.self)))))
theorem base_5 {c : Dev nD} {t : Fin cfg0.N} : Owns (F := F) c (Base c t) (Memref.whole cc0_scratch0) := by
  unfold Base; exact (Owns.right (Owns.right (Owns.right (Owns.right (Owns.right (Owns.left Owns.self))))))
theorem base_6 {c : Dev nD} {t : Fin cfg0.N} : Owns (F := F) c (Base c t) (Memref.whole cc0_scratch1) := by
  unfold Base; exact (Owns.right (Owns.right (Owns.right (Owns.right (Owns.right (Owns.right (Owns.left Owns.self)))))))
theorem base_7 {c : Dev nD} {t : Fin cfg0.N} : Owns (F := F) c (Base c t) (Memref.whole cc0_scratch2) := by
  unfold Base; exact (Owns.right (Owns.right (Owns.right (Owns.right (Owns.right (Owns.right (Owns.right (Owns.left Owns.self))))))))
theorem base_8 {c : Dev nD} {t : Fin cfg0.N} : Owns (F := F) c (Base c t) (Memref.whole cc0_scratch3) := by
  unfold Base; exact (Owns.right (Owns.right (Owns.right (Owns.right (Owns.right (Owns.right (Owns.right (Owns.right (Owns.left Owns.self)))))))))
theorem base_9 {c : Dev nD} {t : Fin cfg0.N} : Owns (F := F) c (Base c t) (Memref.whole cc0_scratch4) := by
  unfold Base; exact (Owns.right (Owns.right (Owns.right (Owns.right (Owns.right (Owns.right (Owns.right (Owns.right (Owns.right (Owns.left Owns.self))))))))))
theorem base_10 {c : Dev nD} {t : Fin cfg0.N} : Owns (F := F) c (Base c t) (Memref.whole cc0_scratch5) := by
  unfold Base; exact (Owns.right (Owns.right (Owns.right (Owns.right (Owns.right (Owns.right (Owns.right (Owns.right (Owns.right (Owns.right (Owns.left Owns.self)))))))))))
theorem base_11 {c : Dev nD} {t : Fin cfg0.N} : Owns (F := F) c (Base c t) (Memref.whole cc0_scratch6) := by
  unfold Base; exact (Owns.right (Owns.right (Owns.right (Owns.right (Owns.right (Owns.right (Owns.right (Owns.right (Owns.right (Owns.right (Owns.right (Owns.left Owns.self))))))))))))
theorem base_12 {c : Dev nD} {t : Fin cfg0.N} : Owns (F := F) c (Base c t) (Memref.whole cc0_scratch7) := by
  unfold Base; exact (Owns.right (Owns.right (Owns.right (Owns.right (Owns.right (Owns.right (Owns.right (Owns.right (Owns.right (Owns.right (Owns.right (Owns.right (Owns.left Owns.self)))))))))))))
theorem base_13 {c : Dev nD} {t : Fin cfg0.N} : Owns (F := F) c (Base c t) (Memref.whole cc0_scratch8) := by
  unfold Base; exact (Owns.right (Owns.right (Owns.right (Owns.right (Owns.right (Owns.right (Owns.right (Owns.right (Owns.right (Owns.right (Owns.right (Owns.right (Owns.right (Owns.left Owns.self))))))))))))))
theorem base_14 {c : Dev nD} {t : Fin cfg0.N} : Owns (F := F) c (Base c t) (Memref.whole cc0_scratch9) := by
  unfold Base; exact (Owns.right (Owns.right (Owns.right (Owns.right (Owns.right (Owns.right (Owns.right (Owns.right (Owns.right (Owns.right (Owns.right (Owns.right (Owns.right (Owns.right (Owns.left Owns.self)))))))))))))))
theorem base_15 {c : Dev nD} {t : Fin cfg0.N} : Owns (F := F) c (Base c t) (Memref.whole cc0_scratch10) := by
  unfold Base; exact (Owns.right (Owns.right (Owns.right (Owns.right (Owns.right (Owns.right (Owns.right (Owns.right (Owns.right (Owns.right (Owns.right (Owns.right (Owns.right (Owns.right (Owns.right (Owns.left Owns.self))))))))))))))))
theorem base_16 {c : Dev nD} {t : Fin cfg0.N} : Owns (F := F) c (Base c t) (Memref.whole cc0_scratch11) := by
  unfold Base; exact (Owns.right (Owns.right (Owns.right (Owns.right (Owns.right (Owns.right (Owns.right (Owns.right (Owns.right (Owns.right (Owns.right (Owns.right (Owns.right (Owns.right (Owns.right (Owns.right (Owns.left Owns.self)))))))))))))))))
theorem base_17 {c : Dev nD} {t : Fin cfg0.N} : Owns (F := F) c (Base c t) (Memref.whole cc0_scratch12) := by
  unfold Base; exact (Owns.right (Owns.right (Owns.right (Owns.right (Owns.right (Owns.right (Owns.right (Owns.right (Owns.right (Owns.right (Owns.right (Owns.right (Owns.right (Owns.right (Owns.right (Owns.right (Owns.right (Owns.left Owns.self))))))))))))))))))
theorem base_18 {c : Dev nD} {t : Fin cfg0.N} : Owns (F := F) c (Base c t) (Memref.whole cc0_scratch13) := by
  unfold Base; exact (Owns.right (Owns.right (Owns.right (Owns.right (Owns.right (Owns.right (Owns.right (Owns.right (Owns.right (Owns.right (Owns.right (Owns.right (Owns.right (Owns.right (Owns.right (Owns.right (Owns.right (Owns.right (Owns.left Owns.self)))))))))))))))))))

theorem cells_apart : Pipeline.OwnSemFacts spec0 cells := by decide

theorem far_rest : far ⊆ Pipeline.restRefs sig spec0 := by decide

theorem cells_zero (c : Dev nD) :
    (Pipeline.ownSems0 (Ix := Unit) (Name := ℕ) (U := Pipeline.UD sig nD τ) (Lvl := ℕ) (Val := Elt F) (τ := τ) cells c : sProp (MK F))
      = iprop(Zero c cc0_scratch16 0 0 ∗ Zero c cc0_scratch16 0 1 ∗ Zero c cc0_scratch16 1 0 ∗ Zero c cc0_scratch16 1 1) := by
  rw [Pipeline.ownSems0_eq_of_list c cells [0, 1, 2, 3] (by decide) (by decide)]
  rfl

theorem far_points (c : Dev nD) :
    (bigSep far (fun b => ((c.tc : Thread nD τ).loc b) ↦{fullShare} atStart m c b) : sProp (MK F))
      = iprop(Src c (Memref.whole main_arg4) (atStart m c main_arg4) ∗ Src c (Memref.whole main_arg5) (atStart m c main_arg5)) := by
  unfold Src
  simp only [Memref.view_whole, View.set_whole]
  rw [BI.bigSep_eq_bigSepL_of_eq [main_arg4, main_arg5] (by decide) (by decide)]
  rfl

/-- The rest of the call's state between two points. -/
theorem between (c : Dev nD) : (Pipeline.ΦD cells spec0 far (atStart m) c : sProp (MK F))
    = iprop((Some' c (Memref.whole cc0_scratch0) ∗ Some' c (Memref.whole cc0_scratch1) ∗ Some' c (Memref.whole cc0_scratch2) ∗ Some' c (Memref.whole cc0_scratch3) ∗ Some' c (Memref.whole cc0_scratch4) ∗ Some' c (Memref.whole cc0_scratch5) ∗ Some' c (Memref.whole cc0_scratch6) ∗ Some' c (Memref.whole cc0_scratch7) ∗ Some' c (Memref.whole cc0_scratch8) ∗ Some' c (Memref.whole cc0_scratch9) ∗ Some' c (Memref.whole cc0_scratch10) ∗ Some' c (Memref.whole cc0_scratch11) ∗ Some' c (Memref.whole cc0_scratch12) ∗ Some' c (Memref.whole cc0_scratch14) ∗ Some' c (Memref.whole cc0_scratch15) ∗ Some' c (Memref.whole cc0_scratch13))
        ∗ (∃ r, prngReg c r)
        ∗ (Zero c cc0_scratch16 0 0 ∗ Zero c cc0_scratch16 0 1 ∗ Zero c cc0_scratch16 1 0 ∗ Zero c cc0_scratch16 1 1)
        ∗ Src c (Memref.whole main_arg4) (atStart m c main_arg4) ∗ Src c (Memref.whole main_arg5) (atStart m c main_arg5)) := by
  rw [Pipeline.ΦD_eq, scopedRest0_eq, cells_zero, far_points]
  simp only [some_whole]

theorem body_pre (c : Dev nD) (t : Fin cfg0.N) :
    iprop(Pipeline.ΦD cells spec0 far (atStart m) c ∗ Owe c ∗ (∃ X, owns (c : Thread nD τ) (win0_0.stage (cfg0.slots t 0)) fullShare X)
      ∗ (∃ X, owns (c : Thread nD τ) (win0_1.stage (cfg0.slots t 1)) fullShare X) ∗ (∃ X, owns (c : Thread nD τ) (win0_2.stage (cfg0.slots t 2)) fullShare X)
      ∗ (∃ X, owns (c : Thread nD τ) (win0_3.stage (cfg0.slots t 3)) fullShare X) ∗ (∃ X, owns (c : Thread nD τ) (win0_4.stage (cfg0.slots t 4)) fullShare X))
    ⊢ (iprop(Base c t ∗ Ring c (Memref.whole main_arg4) (Memref.whole main_arg5) (Memref.whole cc0_scratch14) (Memref.whole cc0_scratch15) cc0_scratch16
        (atStart m c main_arg4) (atStart m c main_arg5)) : sProp (MK F)) := by
  rw [between]
  unfold Base Ring Rest Idle
  iintro ⟨⟨⟨S0, S1, S2, S3, S4, S5, S6, S7, S8, S9, S10, S11, S12, Sa, Sb, S13⟩, Hg, ⟨Z0, Z1, Z2, Z3⟩, X4, X5⟩, Ho, W0, W1, W2, W3, W4⟩
  ihave W0 := (some_of_owns _) $$ W0
  ihave W1 := (some_of_owns _) $$ W1
  ihave W2 := (some_of_owns _) $$ W2
  ihave W3 := (some_of_owns _) $$ W3
  ihave W4 := (some_of_owns _) $$ W4
  ihave Sa := (part_split _) $$ Sa
  icases Sa with ⟨Sa, Sa'⟩
  ihave Sb := (part_split _) $$ Sb
  icases Sb with ⟨Sb, Sb'⟩
  isplitr [Sa Sa' Sb Sb' Z0 Z1 Z2 Z3 X4 X5 Ho]
  ·
    isplitl [W0]; · iexact W0
    isplitl [W1]; · iexact W1
    isplitl [W2]; · iexact W2
    isplitl [W3]; · iexact W3
    isplitl [W4]; · iexact W4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact Hg
  isplitl [Sa Sa' Z0 Z1 X4]
  · isplitl [Sa Z0]
    · isplitl [Sa]; · iexact Sa
      iexact Z0
    isplitl [Sa' Z1]
    · isplitl [Sa']; · iexact Sa'
      iexact Z1
    iexact X4
  isplitr [Ho]
  · isplitl [Sb Z2]
    · isplitl [Sb]; · iexact Sb
      iexact Z2
    isplitl [Sb' Z3]
    · isplitl [Sb']; · iexact Sb'
      iexact Z3
    iexact X5
  iexact Ho

theorem body_post (c : Dev nD) (t : Fin cfg0.N) :
    (iprop(Base c t ∗ Ring c (Memref.whole main_arg4) (Memref.whole main_arg5) (Memref.whole cc0_scratch14) (Memref.whole cc0_scratch15) cc0_scratch16
        (atStart m c main_arg4) (atStart m c main_arg5)) : sProp (MK F))
    ⊢ iprop(Pipeline.ΦD cells spec0 far (atStart m) c ∗ Owe c ∗ (∃ X, owns (c : Thread nD τ) (win0_0.stage (cfg0.slots t 0)) fullShare X)
      ∗ (∃ X, owns (c : Thread nD τ) (win0_1.stage (cfg0.slots t 1)) fullShare X) ∗ (∃ X, owns (c : Thread nD τ) (win0_2.stage (cfg0.slots t 2)) fullShare X)
      ∗ (∃ X, owns (c : Thread nD τ) (win0_3.stage (cfg0.slots t 3)) fullShare X) ∗ (∃ X, owns (c : Thread nD τ) (win0_4.stage (cfg0.slots t 4)) fullShare X)) := by
  rw [between]
  unfold Base Ring Rest Idle
  iintro ⟨⟨W0, W1, W2, W3, W4, S0, S1, S2, S3, S4, S5, S6, S7, S8, S9, S10, S11, S12, S13, Hg⟩, ⟨⟨Sa, Z0⟩, ⟨Sa', Z1⟩, X4⟩, ⟨⟨Sb, Z2⟩, ⟨Sb', Z3⟩, X5⟩, Ho⟩
  ihave W0 := (owns_of_some _) $$ W0
  ihave W1 := (owns_of_some _) $$ W1
  ihave W2 := (owns_of_some _) $$ W2
  ihave W3 := (owns_of_some _) $$ W3
  ihave W4 := (owns_of_some _) $$ W4
  isplitr [Ho W0 W1 W2 W3 W4]
  · isplitr [Hg Z0 Z1 Z2 Z3 X4 X5]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [Sa Sa']
      · iapply (part_join _)
        isplitl [Sa]; · iexact Sa
        iexact Sa'
      isplitl [Sb Sb']
      · iapply (part_join _)
        isplitl [Sb]; · iexact Sb
        iexact Sb'
      iexact S13
    isplitl [Hg]; · iexact Hg
    isplitl [Z0 Z1 Z2 Z3]
    · isplitl [Z0]; · iexact Z0
      isplitl [Z1]; · iexact Z1
      isplitl [Z2]; · iexact Z2
      iexact Z3
    isplitl [X4]; · iexact X4
    iexact X5
  isplitl [Ho]; · iexact Ho
  isplitl [W0]; · iexact W0
  isplitl [W1]; · iexact W1
  isplitl [W2]; · iexact W2
  isplitl [W3]; · iexact W3
  iexact W4

/-- Nothing is owed before a point, and whatever has been recorded is within bounds. -/
theorem owes_eq (c : Dev nD) (j : Fin (cfg0.N + 1)) : ((record m 0 c).owesAt () j : sProp (MK F)) ⊢ Owe c := by
  unfold Dat.owesAt Pipeline.owesWithin Owe
  iintro ⟨%W, -, H⟩
  iexists W; iexact H

theorem eq_owes (c : Dev nD) (j : Fin (cfg0.N + 1)) : (Owe c : sProp (MK F)) ⊢ (record m 0 c).owesAt () j := by
  unfold Dat.owesAt Pipeline.owesWithin Owe
  iintro ⟨%W, H⟩
  iexists W
  isplitr
  · ipureintro; exact fun _ _ => .inl trivial
  iexact H

/-- The body at a grid point. -/
theorem body_at (c : Dev nD) (t : Fin cfg0.N) :
    Keeps c iprop(Base c t ∗ Ring c (Memref.whole main_arg4) (Memref.whole main_arg5) (Memref.whole cc0_scratch14) (Memref.whole cc0_scratch15) cc0_scratch16
      (atStart m c main_arg4) (atStart m c main_arg5)) (bodyAt0 (F := F) t) :=
  keeps_body (Owns.holds base_0) (Owns.holds base_1) (Owns.holds base_2) (Owns.holds base_3) base_4 base_5 base_6 base_7 base_8 base_9 base_10 base_11 base_12 base_13 base_14 base_15 base_16 base_17 base_18

theorem body_step (c : Dev nD) (t : Fin cfg0.N) :
    iprop((record m 0 c).Φ t.castSucc ∗ (record m 0 c).owesAt () t.castSucc
      ∗ (∃ X, owns (c : Thread nD τ) (win0_0.stage (cfg0.slots t 0)) fullShare X)
      ∗ (∃ X, owns (c : Thread nD τ) (win0_1.stage (cfg0.slots t 1)) fullShare X) ∗ (∃ X, owns (c : Thread nD τ) (win0_2.stage (cfg0.slots t 2)) fullShare X)
      ∗ (∃ X, owns (c : Thread nD τ) (win0_3.stage (cfg0.slots t 3)) fullShare X) ∗ (∃ X, owns (c : Thread nD τ) (win0_4.stage (cfg0.slots t 4)) fullShare X))
    ⊢ wp frame (wpE (defs₀ (F := F)) Variants.none (c : Thread nD τ) none) Set.univ (bodyAt0 (F := F) t) fun _ =>
      iprop((record m 0 c).Φ t.succ ∗ (record m 0 c).owesAt () t.succ
      ∗ (∃ X, owns (c : Thread nD τ) (win0_0.stage (cfg0.slots t 0)) fullShare X)
      ∗ (∃ X, owns (c : Thread nD τ) (win0_1.stage (cfg0.slots t 1)) fullShare X) ∗ (∃ X, owns (c : Thread nD τ) (win0_2.stage (cfg0.slots t 2)) fullShare X)
      ∗ (∃ X, owns (c : Thread nD τ) (win0_3.stage (cfg0.slots t 3)) fullShare X) ∗ (∃ X, owns (c : Thread nD τ) (win0_4.stage (cfg0.slots t 4)) fullShare X)) := by
  rw [show (record m 0 c).Φ t.castSucc = Pipeline.ΦD cells spec0 far (atStart m) c from rfl,
    show (record m 0 c).Φ t.succ = Pipeline.ΦD cells spec0 far (atStart m) c from rfl]
  refine (Takes.mono ?_ (body_at m c t) fun _ => ?_).run
  · refine BIBase.Entails.trans ?_ (body_pre m c t)
    iintro ⟨H, Ho, W⟩
    ihave Ho := (owes_eq m c _) $$ Ho
    isplitl [H]; · iexact H
    isplitl [Ho]; · iexact Ho
    iexact W
  · refine (body_post m c t).trans ?_
    iintro ⟨H, Ho, W⟩
    ihave Ho := (eq_owes m c t.succ) $$ Ho
    isplitl [H]; · iexact H
    isplitl [Ho]; · iexact Ho
    iexact W

theorem defs₀_row (t : Fin cfg0.N) : (defs₀ (F := F)) .tc cfg0.body (cfg0.bodyArgs t (cfg0.slots t)) = bodyAt0 (F := F) t := by
  unfold defs₀; rw [Defs.onTc_tc]

theorem body_ok (c : Dev nD) : Pipeline.BodyObligationLoose (record (F := F) m 0 c) defs₀ Variants.none () Set.univ loose := fun t => by
  rw [bigSep_W0, bigSep_W0, defs₀_row]
  exact body_step m c t

set_option maxHeartbeats 800000 in
theorem main_runs : Pipeline.HMain (Ix := Unit) (Name := ℕ) (U := Pipeline.UD sig nD τ) (Lvl := ℕ) cfgs 0 defs₀ Variants.none m (main (F := F)) (atStart m) :=
  Pipeline.hmain_region cfgs 0 defs₀ Variants.none m main fun c => (main_chain c).trans rfl

set_option backward.isDefEq.respectTransparency.types false in
theorem run_all : θ_run defs (onTc (τ := τ) (main (F := F))) (s₀ m g)
    (fun r => RDat.FramePost cfg0 (fun c => (record m 0 c).toRForget loose) (atStart m) r ∧ r.2.sem = fun _ => 0) :=
  Pipeline.θ_run_frame_dma_forget (Q' := _) cfgs (record m) (0 : Fin 1) launch0 cells defs₀ Variants.none loose cells_apart far far_rest m g main
    (hbody := body_ok m) (hshare := fun c => (record m 0 c).share_full fun _ => rfl) (howed := fun _ _ => rfl) (V := atStart m)
    (hmain := main_runs m) (hA := fun _ _ => rfl) (hin := fun _ => .rfl) (hout := fun _ => .rfl) (hQ' := fun _ h => h)

/-- The call ends, its six arguments as they were and every counter at zero. -/
theorem quiet : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨Eq.mp (congrFun (((record m 0 c).toRForget loose).ArrAt_in 0 rfl _) _) ((h.1 c).1 0),
      Eq.mp (congrFun (((record m 0 c).toRForget loose).ArrAt_in 1 rfl _) _) ((h.1 c).1 1),
      Eq.mp (congrFun (((record m 0 c).toRForget loose).ArrAt_in 2 rfl _) _) ((h.1 c).1 2),
      Eq.mp (congrFun (((record m 0 c).toRForget loose).ArrAt_in 3 rfl _) _) ((h.1 c).1 3),
      (h.1 c).2 main_arg4 (Pipeline.mem_restRefs_of main_arg4 (by decide) (by decide)),
      (h.1 c).2 main_arg5 (Pipeline.mem_restRefs_of main_arg5 (by decide) (by decide))⟩, h.2⟩) (run_all m g)

end Cert.Kernel.Hand

end
-- ==== Proof.MergeRow.lean ====
module

public import proofs.«01_k».proof.Proof.Gen.MergeIdeal.Value
public import proofs.«01_k».proof.Proof.Gen.MergeReferenceIdeal.Run
public import Idealize.ShloMosaic.Lib.Pointwise

@[expose] public section

noncomputable section

namespace Cert.Blend

open Idealize.ShloMosaic Idealize.ShloMosaic.TcCoe Idealize.SL.Sem
open Cert.MergeIdeal Cert.MergeIdeal.Gen

variable [Cert.MergeReferenceIdeal.Facts] [Cert.MergeIdeal.Facts]

set_option maxHeartbeats 4000000 in
set_option maxRecDepth 8192 in
/-- One element of the block a grid point computes is the reference's element of the same column in the row of the
    arrays that the block's row is cut from. -/
theorem row_eq (m : (ℓ : Loc Cert.MergeReferenceIdeal.nD Cert.MergeReferenceIdeal.τ Cert.MergeReferenceIdeal.sig) → Buf (Elt Ideal) ℓ)
    (c : Dev Cert.MergeReferenceIdeal.nD) (x : Vec Ideal S1024x1024 .f32) (a b : Vec Ideal S1024x512 .f32) (r : Fin 1024) (l : Fin 1024) (R : Fin 16384)
    (hx : ∀ k : Fin 1024, x (ix2 r k) = (m ((c.tc : Thread _ _).loc Cert.MergeReferenceIdeal.main_arg0)) (ix2 R k))
    (ha : ∀ k : Fin 512, a (ix2 r k) = (m ((c.tc : Thread _ _).loc Cert.MergeReferenceIdeal.main_arg4)) (ix2 R k))
    (hb : ∀ k : Fin 512, b (ix2 r k) = (m ((c.tc : Thread _ _).loc Cert.MergeReferenceIdeal.main_arg5)) (ix2 R k)) :
    k0_pay1 (View.ld x r0_0) (k0_pay2 (View.ld x r0_0) (View.ld (m ((c.tc : Thread _ _).loc Cert.MergeReferenceIdeal.main_arg2)) r0_1) (View.ld (m ((c.tc : Thread _ _).loc Cert.MergeReferenceIdeal.main_arg1)) r0_2) (View.ld (m ((c.tc : Thread _ _).loc Cert.MergeReferenceIdeal.main_arg1)) r0_3) (View.ld (m ((c.tc : Thread _ _).loc Cert.MergeReferenceIdeal.main_arg6)) r0_4))
      (k0_pay3 (View.ld a r0_5) (View.ld (m ((c.tc : Thread _ _).loc Cert.MergeReferenceIdeal.main_arg7)) r0_6)) (View.ld b r0_5) (View.ld (m ((c.tc : Thread _ _).loc Cert.MergeReferenceIdeal.main_arg8)) r0_6) (View.ld (m ((c.tc : Thread _ _).loc Cert.MergeReferenceIdeal.main_arg9)) r0_0) (View.ld (m ((c.tc : Thread _ _).loc Cert.MergeReferenceIdeal.main_arg1)) r0_7) (View.ld (m ((c.tc : Thread _ _).loc Cert.MergeReferenceIdeal.main_arg3)) r0_1) (ix2 r l)
    = Cert.MergeReferenceIdeal.Value.res_main_v67 m c (ix2 R l) := by
  pointwise [k0_pay1, k0_pay2, k0_pay3, Cert.MergeReferenceIdeal.Value.res_main_v67, r0_0, r0_1, r0_2, r0_3, r0_4, r0_5, r0_6, r0_7]
  simp only [hx, ha, hb, zero_sub]

end Cert.Blend
-- ==== Proof.MergeValue.lean ====
module

public import proofs.«01_k».proof.Proof.MergeRow

@[expose] public section

noncomputable section

namespace Cert.Blend

open Idealize.ShloMosaic Idealize.ShloMosaic.TcCoe Idealize.SL.Sem
open Cert.MergeIdeal Cert.MergeIdeal.Gen Cert.MergeIdeal.Value
open Idealize.ShloMosaic.Pipeline (Dat)

variable [Cert.MergeReferenceIdeal.Facts]

section Blocks

variable (m : (ℓ : Loc nD τ sig) → Buf (Elt Ideal) ℓ) (c : Dev nD) (t : Fin cfg0.N)

/-- Window 1 holds the whole of its array at every point. -/
theorem whole1 : iblk m c 1 t = m ((c.tc : Thread nD τ).loc main_arg1) := by
  funext y
  show m ((c.tc : Thread nD τ).loc main_arg1) (((cfg0.win 1).blk t).view.emb y) = m ((c.tc : Thread nD τ).loc main_arg1) y
  refine congrArg _ (funext fun a => Fin.ext ?_)
  match a with
  | ⟨0, _⟩ => show 0 * 6 + 1 * (y 0).val = (y 0).val; omega
  | ⟨1, _⟩ => show 0 * 1024 + 1 * (y 1).val = (y 1).val; omega

/-- Window 2 holds the whole of its array at every point. -/
theorem whole2 : iblk m c 2 t = m ((c.tc : Thread nD τ).loc main_arg2) := by
  funext y
  show m ((c.tc : Thread nD τ).loc main_arg2) (((cfg0.win 2).blk t).view.emb y) = m ((c.tc : Thread nD τ).loc main_arg2) y
  refine congrArg _ (funext fun a => Fin.ext ?_)
  match a with
  | ⟨0, _⟩ => show 0 * 1 + 1 * (y 0).val = (y 0).val; omega
  | ⟨1, _⟩ => show 0 * 1024 + 1 * (y 1).val = (y 1).val; omega

/-- Window 3 holds the whole of its array at every point. -/
theorem whole3 : iblk m c 3 t = m ((c.tc : Thread nD τ).loc main_arg3) := by
  funext y
  show m ((c.tc : Thread nD τ).loc main_arg3) (((cfg0.win 3).blk t).view.emb y) = m ((c.tc : Thread nD τ).loc main_arg3) y
  refine congrArg _ (funext fun a => Fin.ext ?_)
  match a with
  | ⟨0, _⟩ => show 0 * 1 + 1 * (y 0).val = (y 0).val; omega
  | ⟨1, _⟩ => show 0 * 1024 + 1 * (y 1).val = (y 1).val; omega

/-- Window 6 holds the whole of its array at every point. -/
theorem whole6 : iblk m c 6 t = m ((c.tc : Thread nD τ).loc main_arg6) := by
  funext y
  show m ((c.tc : Thread nD τ).loc main_arg6) (((cfg0.win 6).blk t).view.emb y) = m ((c.tc : Thread nD τ).loc main_arg6) y
  refine congrArg _ (funext fun a => Fin.ext ?_)
  match a with
  | ⟨0, _⟩ => show 0 * 1024 + 1 * (y 0).val = (y 0).val; omega
  | ⟨1, _⟩ => show 0 * 2048 + 1 * (y 1).val = (y 1).val; omega

/-- Window 7 holds the whole of its array at every point. -/
theorem whole7 : iblk m c 7 t = m ((c.tc : Thread nD τ).loc main_arg7) := by
  funext y
  show m ((c.tc : Thread nD τ).loc main_arg7) (((cfg0.win 7).blk t).view.emb y) = m ((c.tc : Thread nD τ).loc main_arg7) y
  refine congrArg _ (funext fun a => Fin.ext ?_)
  match a with
  | ⟨0, _⟩ => show 0 * 512 + 1 * (y 0).val = (y 0).val; omega
  | ⟨1, _⟩ => show 0 * 1024 + 1 * (y 1).val = (y 1).val; omega

/-- Window 8 holds the whole of its array at every point. -/
theorem whole8 : iblk m c 8 t = m ((c.tc : Thread nD τ).loc main_arg8) := by
  funext y
  show m ((c.tc : Thread nD τ).loc main_arg8) (((cfg0.win 8).blk t).view.emb y) = m ((c.tc : Thread nD τ).loc main_arg8) y
  refine congrArg _ (funext fun a => Fin.ext ?_)
  match a with
  | ⟨0, _⟩ => show 0 * 512 + 1 * (y 0).val = (y 0).val; omega
  | ⟨1, _⟩ => show 0 * 1024 + 1 * (y 1).val = (y 1).val; omega

/-- Window 9 holds the whole of its array at every point. -/
theorem whole9 : iblk m c 9 t = m ((c.tc : Thread nD τ).loc main_arg9) := by
  funext y
  show m ((c.tc : Thread nD τ).loc main_arg9) (((cfg0.win 9).blk t).view.emb y) = m ((c.tc : Thread nD τ).loc main_arg9) y
  refine congrArg _ (funext fun a => Fin.ext ?_)
  match a with
  | ⟨0, _⟩ => show 0 * 1024 + 1 * (y 0).val = (y 0).val; omega
  | ⟨1, _⟩ => show 0 * 1024 + 1 * (y 1).val = (y 1).val; omega

/-- The windows that move with the grid are at the block row of the point's number, in block column nought. -/
theorem moves : ∀ t : Fin cfg0.N, (win0_0.index t 0 = t.val ∧ win0_0.index t 1 = 0) ∧ (win0_4.index t 0 = t.val ∧ win0_4.index t 1 = 0)
    ∧ (win0_5.index t 0 = t.val ∧ win0_5.index t 1 = 0) ∧ (win0_10.index t 0 = t.val ∧ win0_10.index t 1 = 0) :=
  (by decide +kernel : ∀ t : Fin grid0.N, _)

/-- The array row that row `r` of the point's block is cut from. -/
def rowOf (r : Fin 1024) : Fin 16384 := ⟨t.val * 1024 + r.val, by have h : t.val < grid0.N := t.isLt; rw [N_0] at h; omega⟩

/-- Window 0's block is the point's rows of its array. -/
theorem part0 (r : Fin 1024) (k : Fin 1024) : iblk m c 0 t (ix2 r k) = m ((c.tc : Thread nD τ).loc main_arg0) (ix2 (rowOf t r) k) := by
  show m ((c.tc : Thread nD τ).loc main_arg0) (((cfg0.win 0).blk t).view.emb (ix2 r k)) = _
  refine congrArg _ (funext fun a => Fin.ext ?_)
  match a with
  | ⟨0, _⟩ => show win0_0.index t 0 * 1024 + 1 * r.val = t.val * 1024 + r.val; rw [(moves t).1.1]; omega
  | ⟨1, _⟩ => show win0_0.index t 1 * 1024 + 1 * k.val = k.val; rw [(moves t).1.2]; omega

/-- Window 4's block is the point's rows of its array. -/
theorem part4 (r : Fin 1024) (k : Fin 512) : iblk m c 4 t (ix2 r k) = m ((c.tc : Thread nD τ).loc main_arg4) (ix2 (rowOf t r) k) := by
  show m ((c.tc : Thread nD τ).loc main_arg4) (((cfg0.win 4).blk t).view.emb (ix2 r k)) = _
  refine congrArg _ (funext fun a => Fin.ext ?_)
  match a with
  | ⟨0, _⟩ => show win0_4.index t 0 * 1024 + 1 * r.val = t.val * 1024 + r.val; rw [(moves t).2.1.1]; omega
  | ⟨1, _⟩ => show win0_4.index t 1 * 512 + 1 * k.val = k.val; rw [(moves t).2.1.2]; omega

/-- Window 5's block is the point's rows of its array. -/
theorem part5 (r : Fin 1024) (k : Fin 512) : iblk m c 5 t (ix2 r k) = m ((c.tc : Thread nD τ).loc main_arg5) (ix2 (rowOf t r) k) := by
  show m ((c.tc : Thread nD τ).loc main_arg5) (((cfg0.win 5).blk t).view.emb (ix2 r k)) = _
  refine congrArg _ (funext fun a => Fin.ext ?_)
  match a with
  | ⟨0, _⟩ => show win0_5.index t 0 * 1024 + 1 * r.val = t.val * 1024 + r.val; rw [(moves t).2.2.1.1]; omega
  | ⟨1, _⟩ => show win0_5.index t 1 * 512 + 1 * k.val = k.val; rw [(moves t).2.2.1.2]; omega

end Blocks

variable (m : (ℓ : Loc nD τ sig) → Buf (Elt Ideal) ℓ) (m' : (ℓ : Loc Cert.MergeReferenceIdeal.nD Cert.MergeReferenceIdeal.τ Cert.MergeReferenceIdeal.sig) → Buf (Elt Ideal) ℓ) (c : Dev nD)

/-- The two programs are given the same arrays. -/
abbrev Same : Prop :=
  m' ((c.tc : Thread Cert.MergeReferenceIdeal.nD Cert.MergeReferenceIdeal.τ).loc Cert.MergeReferenceIdeal.main_arg0) = m ((c.tc : Thread nD τ).loc main_arg0) ∧ m' ((c.tc : Thread Cert.MergeReferenceIdeal.nD Cert.MergeReferenceIdeal.τ).loc Cert.MergeReferenceIdeal.main_arg1) = m ((c.tc : Thread nD τ).loc main_arg1) ∧ m' ((c.tc : Thread Cert.MergeReferenceIdeal.nD Cert.MergeReferenceIdeal.τ).loc Cert.MergeReferenceIdeal.main_arg2) = m ((c.tc : Thread nD τ).loc main_arg2) ∧ m' ((c.tc : Thread Cert.MergeReferenceIdeal.nD Cert.MergeReferenceIdeal.τ).loc Cert.MergeReferenceIdeal.main_arg3) = m ((c.tc : Thread nD τ).loc main_arg3) ∧ m' ((c.tc : Thread Cert.MergeReferenceIdeal.nD Cert.MergeReferenceIdeal.τ).loc Cert.MergeReferenceIdeal.main_arg4) = m ((c.tc : Thread nD τ).loc main_arg4) ∧ m' ((c.tc : Thread Cert.MergeReferenceIdeal.nD Cert.MergeReferenceIdeal.τ).loc Cert.MergeReferenceIdeal.main_arg5) = m ((c.tc : Thread nD τ).loc main_arg5) ∧ m' ((c.tc : Thread Cert.MergeReferenceIdeal.nD Cert.MergeReferenceIdeal.τ).loc Cert.MergeReferenceIdeal.main_arg6) = m ((c.tc : Thread nD τ).loc main_arg6) ∧ m' ((c.tc : Thread Cert.MergeReferenceIdeal.nD Cert.MergeReferenceIdeal.τ).loc Cert.MergeReferenceIdeal.main_arg7) = m ((c.tc : Thread nD τ).loc main_arg7) ∧ m' ((c.tc : Thread Cert.MergeReferenceIdeal.nD Cert.MergeReferenceIdeal.τ).loc Cert.MergeReferenceIdeal.main_arg8) = m ((c.tc : Thread nD τ).loc main_arg8) ∧ m' ((c.tc : Thread Cert.MergeReferenceIdeal.nD Cert.MergeReferenceIdeal.τ).loc Cert.MergeReferenceIdeal.main_arg9) = m ((c.tc : Thread nD τ).loc main_arg9)

/-- The reference's result, as contents of the kernel's result array. -/
def want : Buf (Elt Ideal) ((c.tc : Thread nD τ).loc main_v0) := fun i => Cert.MergeReferenceIdeal.Value.res_main_v67 (F := Ideal) m' c i

/-- What a grid point writes back is its block of the reference's result. -/
theorem writes (h : Same m m' c) (t : Fin cfg0.N) : (dats m 0 c).flushed 10 t = ((cfg0.win 10).blk t).view.read (Elt Ideal) (want m' c) := by
  obtain ⟨h0, h1, h2, h3, h4, h5, h6, h7, h8, h9⟩ := h
  rw [flushed10, whole1, whole2, whole3, whole6, whole7, whole8, whole9, ← h1, ← h2, ← h3, ← h6, ← h7, ← h8, ← h9]
  funext y
  have e : (y : S1024x1024.Idx) = ix2 (y 0) (y 1) := by
    funext a; match a with | ⟨0, _⟩ => rfl | ⟨1, _⟩ => rfl
  have q : r0_0.emb (ix2 (y 0) (y 1)) = (cfg0.win 10).xinj (grid0.coords t) y := by
    funext a; apply Fin.ext
    match a with
    | ⟨0, _⟩ => show 0 + 1 * (y 0).val = (y 0).val; omega
    | ⟨1, _⟩ => show 0 + 1 * (y 1).val = (y 1).val; omega
  have p : ((cfg0.win 10).blk t).view.emb y = ix2 (rowOf t (y 0)) (y 1) := by
    funext a; apply Fin.ext
    match a with
    | ⟨0, _⟩ => show win0_10.index t 0 * 1024 + 1 * (y 0).val = t.val * 1024 + (y 0).val; rw [(moves t).2.2.2.1]; omega
    | ⟨1, _⟩ => show win0_10.index t 1 * 1024 + 1 * (y 1).val = (y 1).val; rw [(moves t).2.2.2.2]; omega
  show out0_10 _ _ _ _ _ _ _ _ _ _ ((cfg0.win 10).xinj (grid0.coords t) y) = want m' c (((cfg0.win 10).blk t).view.emb y)
  rw [← q, p]
  unfold out0_10
  rw [View.canon_cons_emb]
  refine row_eq m' c _ _ _ (y 0) (y 1) (rowOf t (y 0)) (fun k => ?_) (fun k => ?_) (fun k => ?_)
  · rw [h0]; exact part0 m c t (y 0) k
  · rw [h4]; exact part4 m c t (y 0) k
  · rw [h5]; exact part5 m c t (y 0) k

/-- Every index of the result is in the block of the point its row falls to. -/
theorem covers (i : S16384x1024.Idx) : ∃ t : Fin cfg0.N, (cfg0.win 10).flush t = true ∧ i ∈ ((cfg0.win 10).blk t).view.set := by
  have h0 : (i 0).val < 16384 := (i 0).isLt
  have h1 : (i 1).val < 1024 := (i 1).isLt
  have hN : (i 0).val / 1024 < cfg0.N := by show (i 0).val / 1024 < grid0.N; rw [N_0]; omega
  refine ⟨⟨(i 0).val / 1024, hN⟩, flush0_10 _, ?_⟩
  show i ∈ ((View.whole main_v0).slice (win0_10.rect ⟨(i 0).val / 1024, hN⟩)).set
  rw [View.set_slice_whole, Rect.mem_set_unit]
  have e := (moves ⟨(i 0).val / 1024, hN⟩).2.2.2
  intro a
  match a with
  | ⟨0, _⟩ =>
    show win0_10.index ⟨(i 0).val / 1024, hN⟩ 0 * 1024 ≤ (i 0).val ∧ (i 0).val < win0_10.index ⟨(i 0).val / 1024, hN⟩ 0 * 1024 + 1024
    rw [e.1]; dsimp only; omega
  | ⟨1, _⟩ =>
    show win0_10.index ⟨(i 0).val / 1024, hN⟩ 1 * 1024 ≤ (i 1).val ∧ (i 1).val < win0_10.index ⟨(i 0).val / 1024, hN⟩ 1 * 1024 + 1024
    rw [e.2]; omega

/-- The kernel's result array after the run is the reference's result. -/
theorem result (h : Same m m' c) : (dats m 0 c).arrAt 10 cfg0.N = want m' c :=
  (dats m 0 c).arrAt_eq_of_cover 10 _ (fun t _ => writes m m' c h t) covers

end Cert.Blend
-- ==== Proof.MergeClaims.lean ====
module

public import proofs.«01_k».proof.Defs
public import proofs.«01_k».proof.Proof.Gen.Merge.Frame
public import proofs.«01_k».proof.Proof.MergeValue

@[expose] public section

noncomputable section

namespace Cert.Blend

open Idealize.ShloMosaic Idealize.ShloMosaic.TcCoe Idealize.SL.Sem

/-- The idealized call's frame: it ends, faults nowhere, leaves its arguments alone and every counter at nought. -/
theorem frame_ideal : Cert.quiescent_MergeIdeal := fun m ρ _ => Cert.MergeIdeal.Gen.frame (F := Ideal) m ρ

/-- The printed call's frame. -/
theorem frame_printed : Cert.quiescent_Merge := fun m ρ _ => Cert.Merge.Gen.frame (F := Bits) m ρ

/-- The reference's frame: it leaves its arguments alone, and it has no counters. -/
theorem frame_reference : Cert.quiescent_MergeReferenceIdeal := fun m ρ _ =>
  (θ_run Cert.MergeReferenceIdeal.defs _ _).mono (fun r q => ⟨fun c => (q c).2, sem_eq_zero_of_no_sems (by decide) r.2⟩)
    (Cert.MergeReferenceIdeal.Value.run (F := Ideal) m ρ)

/-- From arrays that agree, the call and its reference end with the same result. -/
theorem algebraic : Cert.algebraic_MergeIdeal_MergeReferenceIdeal := fun m g m' g' _ h =>
  ⟨fun c => want m' c,
    (θ_run Cert.MergeIdeal.defs _ _).mono (fun _ q c => ⟨(q c).1.trans (result m m' c (h c)), (q c).2⟩) (Cert.MergeIdeal.Value.run_blocks m g),
    (θ_run Cert.MergeReferenceIdeal.defs _ _).mono (fun _ q c => q c) (Cert.MergeReferenceIdeal.Value.run m' g')⟩

end Cert.Blend
-- ==== Proof.MixNames.lean ====
module

public import proofs.«01_k».proof.Proof.Gen.MixReferenceIdeal.Run

@[expose] public section

noncomputable section

/-! The reference's seven results, each as a function of the arguments, under the names the proofs use. -/

namespace Cert.Project

open Idealize.ShloMosaic Idealize.ShloMosaic.TcCoe Idealize.SL.Sem
open Cert.MixReferenceIdeal Cert.MixReferenceIdeal.Gen

variable {F : FTy → Type} [FloatOps F] [Cert.MixReferenceIdeal.Facts]
variable (m : (ℓ : Loc nD τ sig) → Buf (Elt F) ℓ) (c : Dev nD)

/-- The rows of `x`, normalised and modulated. -/
def normed : FVec F S16384x1024 .f32 :=
  addf (mulf (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (m ((c.tc : Thread nD τ).loc main_arg2)) shapeCasts_S1x1024_S1024)))) (broadcastInDim S16384x1024 ![0, 1] bcast_S1x1024_S16384x1024_0_1 (broadcastInDim S1x1024 ![1] bcast_S1024_S1x1024_1 (addf (broadcastInDim S1024 ![] bcast_S_S1024 (constant S_ .f32 0x3F800000#32)) (shapeCast _ (extractStridedSlice S1x1024 ![1, 0] (m ((c.tc : Thread nD τ).loc main_arg1)) slices_S6x1024_S1x1024_1_0) shapeCasts_S1x1024_S1024))))) (broadcastInDim S16384x1024 ![0, 1] bcast_S1x1024_S16384x1024_0_1 (broadcastInDim S1x1024 ![1] bcast_S1024_S1x1024_1 (shapeCast _ (extractStridedSlice S1x1024 ![0, 0] (m ((c.tc : Thread nD τ).loc main_arg1)) slices_S6x1024_S1x1024_0_0) shapeCasts_S1x1024_S1024)))

/-- The linear attention's queries. -/
def query : Buf (Elt F) ((c.tc : Thread nD τ).loc main_v54) :=
  mulf (extractStridedSlice S16384x256 ![0, 0] (Host.dotGeneral dot_S16384x1024_S1024x1536_S16384x1536_1_0_0_1_n_n none (normed m c) (extf .f32 (m ((c.tc : Thread nD τ).loc main_arg3)) bitsLt_bf16_f32)) slices_S16384x1536_S16384x256_0_0) (broadcastInDim S16384x256 ![] bcast_S_S16384x256 (constant S_ .f32 0x3E000000#32))

/-- The linear attention's keys. -/
def key : Buf (Elt F) ((c.tc : Thread nD τ).loc main_v29) :=
  extractStridedSlice S16384x256 ![0, 256] (Host.dotGeneral dot_S16384x1024_S1024x1536_S16384x1536_1_0_0_1_n_n none (normed m c) (extf .f32 (m ((c.tc : Thread nD τ).loc main_arg3)) bitsLt_bf16_f32)) slices_S16384x1536_S16384x256_0_256

/-- The linear attention's values. -/
def value : Buf (Elt F) ((c.tc : Thread nD τ).loc main_v30) :=
  extractStridedSlice S16384x512 ![0, 512] (Host.dotGeneral dot_S16384x1024_S1024x1536_S16384x1536_1_0_0_1_n_n none (normed m c) (extf .f32 (m ((c.tc : Thread nD τ).loc main_arg3)) bitsLt_bf16_f32)) slices_S16384x1536_S16384x512_0_512

/-- The linear attention's output gates. -/
def gate : Buf (Elt F) ((c.tc : Thread nD τ).loc main_v31) :=
  extractStridedSlice S16384x512 ![0, 1024] (Host.dotGeneral dot_S16384x1024_S1024x1536_S16384x1536_1_0_0_1_n_n none (normed m c) (extf .f32 (m ((c.tc : Thread nD τ).loc main_arg3)) bitsLt_bf16_f32)) slices_S16384x1536_S16384x512_0_1024

/-- The logarithms of the linear attention's decays. -/
def decay : Buf (Elt F) ((c.tc : Thread nD τ).loc main_v45) :=
  Host.divf (Host.negf (Host.log1p (Host.exp (Host.negf (addf (Host.dotGeneral dot_S16384x128_S128x256_S16384x256_1_0_0_1_n_n none (Host.dotGeneral dot_S16384x1024_S1024x128_S16384x128_1_0_0_1_n_n none (normed m c) (extf .f32 (m ((c.tc : Thread nD τ).loc main_arg4)) bitsLt_bf16_f32)) (extf .f32 (m ((c.tc : Thread nD τ).loc main_arg5)) bitsLt_bf16_f32)) (broadcastInDim S16384x256 ![0, 1] bcast_S1x256_S16384x256_0_1 (broadcastInDim S1x256 ![1] bcast_S256_S1x256_1 (shapeCast _ (m ((c.tc : Thread nD τ).loc main_arg6)) shapeCasts_S1x256_S256)))))))) (broadcastInDim S16384x256 ![] bcast_S_S16384x256 (constant S_ .f32 0x41800000#32))

/-- The sparse attention's values. -/
def sparseValue : Buf (Elt F) ((c.tc : Thread nD τ).loc main_v55) :=
  truncf .bf16 (extractStridedSlice S16384x512 ![0, 1024] (Host.dotGeneral dot_S16384x1024_S1024x2048_S16384x2048_1_0_0_1_n_n none (normed m c) (extf .f32 (m ((c.tc : Thread nD τ).loc main_arg10)) bitsLt_bf16_f32)) slices_S16384x2048_S16384x512_0_1024) bitsLt_bf16_f32

/-- The index heads' weights. -/
def weight : Buf (Elt F) ((c.tc : Thread nD τ).loc main_v52) :=
  mulf (Host.dotGeneral dot_S16384x1024_S1024x128_S16384x128_1_0_0_1_n_n none (normed m c) (extf .f32 (m ((c.tc : Thread nD τ).loc main_arg11)) bitsLt_bf16_f32)) (broadcastInDim S16384x128 ![] bcast_S_S16384x128 (constant S_ .f32 0x3EB504F3#32))

end Cert.Project
-- ==== Proof.LogSigmoid.lean ====
module

public import Idealize.ShloMosaic.Lib.Pointwise
public import Idealize.ShloMosaic.Lib.IdealHost

@[expose] public section

noncomputable section

namespace Cert.Project

open Idealize.ShloMosaic

/-- The kernel's form of the logarithm of the logistic function, which never takes the exponential of a positive number, is
    the plain one. -/
theorem log_logistic (z : EReal) : min z 0 - Ideal.log1p (Ideal.exp (0 - max z (-z))) = -Ideal.log1p (Ideal.exp (-z)) := by
  have one : Ideal.log (1 + 0) = 0 := by
    rw [add_zero]
    show (if (1 : ℝ) ≤ 0 then (⊥ : EReal) else (Real.log 1 : EReal)) = 0
    simp
  have low : Ideal.exp ⊥ = 0 := rfl
  have top : Ideal.log (1 + ⊤) = ⊤ := by
    have : (1 : EReal) + ⊤ = ⊤ := EReal.coe_add_top 1
    rw [this]; rfl
  induction z using EReal.rec with
  | bot => simp [Ideal.log1p, low, one, top]
  | top => simp [Ideal.log1p, low, one]
  | coe r =>
    have lg : ∀ s : ℝ, Ideal.log1p (Ideal.exp (s : EReal)) = ((Real.log (1 + Real.exp s) : ℝ) : EReal) := fun s => by
      show Ideal.log (((1 : ℝ) : EReal) + ((Real.exp s : ℝ) : EReal)) = _
      rw [← EReal.coe_add]
      show (if 1 + Real.exp s ≤ 0 then (⊥ : EReal) else (Real.log (1 + Real.exp s) : EReal)) = _
      rw [if_neg (by have := Real.exp_pos s; linarith)]
    have e1 : (0 : EReal) - max (r : EReal) (-(r : EReal)) = ((-|r| : ℝ) : EReal) := by
      rw [← EReal.coe_neg, ← EReal.coe_strictMono.monotone.map_max, zero_sub, EReal.coe_neg]; rfl
    have e2 : min (r : EReal) 0 = ((min r 0 : ℝ) : EReal) := by rw [EReal.coe_strictMono.monotone.map_min]; rfl
    rw [e1, e2, ← EReal.coe_neg r, lg, lg, ← EReal.coe_sub, ← EReal.coe_neg]
    refine congrArg _ ?_
    rcases le_total r 0 with h | h
    · rw [min_eq_left h, abs_of_nonpos h, neg_neg]
      have : 1 + Real.exp (-r) = Real.exp (-r) * (1 + Real.exp r) := by
        rw [mul_add, ← Real.exp_add, neg_add_cancel, Real.exp_zero]; ring
      rw [this, Real.log_mul (Real.exp_pos _).ne' (by have := Real.exp_pos r; linarith), Real.log_exp]
      ring
    · rw [min_eq_right h, abs_of_nonneg h]; ring

/-- The product with a sixteenth is the quotient by sixteen. -/
theorem sixteenth (y : EReal) : y * Ideal.ofBits .f32 0x3D800000#32 = Ideal.div y (Ideal.ofBits .f32 0x41800000#32) := by
  have a : Ideal.ofBits .f32 0x3D800000#32 = (((16 : ℝ)⁻¹ : ℝ) : EReal) := by
    simp [Ideal.ofBits, Ideal.ieee, -EReal.coe_mul]; norm_num
  have b : Ideal.ofBits .f32 0x41800000#32 = ((16 : ℝ) : EReal) := by
    simp [Ideal.ofBits, Ideal.ieee, -EReal.coe_mul]; norm_num
  rw [a, b, Ideal.div, if_neg (by norm_cast), EReal.coe_inv]

end Cert.Project
-- ==== Proof.MixRow.lean ====
module

public import proofs.«01_k».proof.Proof.Gen.MixIdeal.Value
public import proofs.«01_k».proof.Proof.MixNames
public import proofs.«01_k».proof.Proof.LogSigmoid
public import Idealize.ShloMosaic.Lib.Pointwise

@[expose] public section

noncomputable section

namespace Cert.Project

open Idealize.ShloMosaic Idealize.ShloMosaic.TcCoe Idealize.SL.Sem
open Cert.MixIdeal Cert.MixIdeal.Gen

variable [Cert.MixReferenceIdeal.Facts] [Cert.MixIdeal.Facts]
variable (m : (ℓ : Loc Cert.MixReferenceIdeal.nD Cert.MixReferenceIdeal.τ Cert.MixReferenceIdeal.sig) → Buf (Elt Ideal) ℓ)
  (c : Dev Cert.MixReferenceIdeal.nD) (x : Vec Ideal S512x1024 .f32) (r : Fin 512) (R : Fin 16384)

/-- The reference's argument 1. -/
abbrev a1 := m ((c.tc : Thread _ _).loc Cert.MixReferenceIdeal.main_arg1)

/-- The reference's argument 2. -/
abbrev a2 := m ((c.tc : Thread _ _).loc Cert.MixReferenceIdeal.main_arg2)

/-- The reference's argument 3. -/
abbrev a3 := m ((c.tc : Thread _ _).loc Cert.MixReferenceIdeal.main_arg3)

/-- The reference's argument 4. -/
abbrev a4 := m ((c.tc : Thread _ _).loc Cert.MixReferenceIdeal.main_arg4)

/-- The reference's argument 5. -/
abbrev a5 := m ((c.tc : Thread _ _).loc Cert.MixReferenceIdeal.main_arg5)

/-- The reference's argument 6. -/
abbrev a6 := m ((c.tc : Thread _ _).loc Cert.MixReferenceIdeal.main_arg6)

/-- The reference's argument 10. -/
abbrev a10 := m ((c.tc : Thread _ _).loc Cert.MixReferenceIdeal.main_arg10)

/-- The reference's argument 11. -/
abbrev a11 := m ((c.tc : Thread _ _).loc Cert.MixReferenceIdeal.main_arg11)

set_option maxHeartbeats 4000000 in
/-- A block's normalised and modulated row is the reference's, when its row of `x` is. -/
theorem normed_row (hx : ∀ k : Fin 1024, x (ix2 r k) = m ((c.tc : Thread _ _).loc Cert.MixReferenceIdeal.main_arg0) (ix2 R k)) (k : Fin 1024) :
    k0_pay2 (View.ld x r0_0) (View.ld (a2 m c) r0_1) (View.ld (a1 m c) r0_2) (View.ld (a1 m c) r0_3) (ix2 r k) = normed m c (ix2 R k) := by
  pointwise [k0_pay2, normed, r0_0, r0_1, r0_2, r0_3]
  simp only [hx]

set_option maxHeartbeats 4000000 in
/-- The linear attention's queries: a block's row is the reference's, when its row of `x` is. -/
theorem query_row (hx : ∀ k : Fin 1024, x (ix2 r k) = m ((c.tc : Thread _ _).loc Cert.MixReferenceIdeal.main_arg0) (ix2 R k)) (l : Fin 256) :
    k0_pay4 (View.ld x r0_0) (View.ld (a2 m c) r0_1) (View.ld (a1 m c) r0_2) (View.ld (a1 m c) r0_3) (View.ld (a3 m c) r0_4) (ix2 r l) = query m c (ix2 R l) := by
  pointwise [k0_pay4, k0_pay3, query, r0_4, r0_7, r0_8, r0_9, r0_12]
  simp only [normed_row m c x r R hx]

set_option maxHeartbeats 4000000 in
/-- The linear attention's keys: a block's row is the reference's, when its row of `x` is. -/
theorem key_row (hx : ∀ k : Fin 1024, x (ix2 r k) = m ((c.tc : Thread _ _).loc Cert.MixReferenceIdeal.main_arg0) (ix2 R k)) (l : Fin 256) :
    k0_pay5 (View.ld x r0_0) (View.ld (a2 m c) r0_1) (View.ld (a1 m c) r0_2) (View.ld (a1 m c) r0_3) (View.ld (a3 m c) r0_4) (ix2 r l) = key m c (ix2 R l) := by
  pointwise [k0_pay5, k0_pay3, key, r0_4, r0_7, r0_8, r0_9, r0_12]
  simp only [normed_row m c x r R hx]

set_option maxHeartbeats 4000000 in
/-- The linear attention's values: a block's row is the reference's, when its row of `x` is. -/
theorem value_row (hx : ∀ k : Fin 1024, x (ix2 r k) = m ((c.tc : Thread _ _).loc Cert.MixReferenceIdeal.main_arg0) (ix2 R k)) (l : Fin 512) :
    k0_pay6 (View.ld x r0_0) (View.ld (a2 m c) r0_1) (View.ld (a1 m c) r0_2) (View.ld (a1 m c) r0_3) (View.ld (a3 m c) r0_4) (ix2 r l) = value m c (ix2 R l) := by
  pointwise [k0_pay6, k0_pay3, value, r0_4, r0_7, r0_8, r0_9, r0_12]
  simp only [normed_row m c x r R hx]

set_option maxHeartbeats 4000000 in
/-- The linear attention's output gates: a block's row is the reference's, when its row of `x` is. -/
theorem gate_row (hx : ∀ k : Fin 1024, x (ix2 r k) = m ((c.tc : Thread _ _).loc Cert.MixReferenceIdeal.main_arg0) (ix2 R k)) (l : Fin 512) :
    k0_pay7 (View.ld x r0_0) (View.ld (a2 m c) r0_1) (View.ld (a1 m c) r0_2) (View.ld (a1 m c) r0_3) (View.ld (a3 m c) r0_4) (ix2 r l) = gate m c (ix2 R l) := by
  pointwise [k0_pay7, k0_pay3, gate, r0_4, r0_7, r0_8, r0_9, r0_12]
  simp only [normed_row m c x r R hx]

set_option maxHeartbeats 4000000 in
/-- The logarithms of the linear attention's decays: a block's row is the reference's, when its row of `x` is. -/
theorem decay_row (hx : ∀ k : Fin 1024, x (ix2 r k) = m ((c.tc : Thread _ _).loc Cert.MixReferenceIdeal.main_arg0) (ix2 R k)) (l : Fin 256) :
    k0_pay8 (k0_pay2 (View.ld x r0_0) (View.ld (a2 m c) r0_1) (View.ld (a1 m c) r0_2) (View.ld (a1 m c) r0_3)) (View.ld (a4 m c) r0_7) (View.ld (a5 m c) r0_8) (View.ld (a6 m c) r0_9) (ix2 r l) = decay m c (ix2 R l) := by
  pointwise [k0_pay8, decay, r0_4, r0_7, r0_8, r0_9, r0_12]
  simp only [normed_row m c x r R hx]
  rw [Ideal.absf_def, log_logistic, sixteenth]

set_option maxHeartbeats 4000000 in
/-- The sparse attention's values: a block's row is the reference's, when its row of `x` is. -/
theorem sparseValue_row (hx : ∀ k : Fin 1024, x (ix2 r k) = m ((c.tc : Thread _ _).loc Cert.MixReferenceIdeal.main_arg0) (ix2 R k)) (l : Fin 512) :
    k0_pay16 (k0_pay2 (View.ld x r0_0) (View.ld (a2 m c) r0_1) (View.ld (a1 m c) r0_2) (View.ld (a1 m c) r0_3)) (View.ld (a10 m c) r0_12) (ix2 r l) = sparseValue m c (ix2 R l) := by
  pointwise [k0_pay16, k0_pay13, sparseValue, r0_4, r0_7, r0_8, r0_9, r0_12]
  simp only [normed_row m c x r R hx]

set_option maxHeartbeats 4000000 in
/-- The index heads' weights: a block's row is the reference's, when its row of `x` is. -/
theorem weight_row (hx : ∀ k : Fin 1024, x (ix2 r k) = m ((c.tc : Thread _ _).loc Cert.MixReferenceIdeal.main_arg0) (ix2 R k)) (l : Fin 128) :
    k0_pay1 (k0_pay19 (k0_pay2 (View.ld x r0_0) (View.ld (a2 m c) r0_1) (View.ld (a1 m c) r0_2) (View.ld (a1 m c) r0_3)) (View.ld (a11 m c) r0_7)) (ix2 r l) = weight m c (ix2 R l) := by
  pointwise [k0_pay1, k0_pay19, weight, r0_4, r0_7, r0_8, r0_9, r0_12]
  simp only [normed_row m c x r R hx]

end Cert.Project
-- ==== Proof.MixValue.lean ====
module

public import proofs.«01_k».proof.Proof.MixRow

@[expose] public section

noncomputable section

/-! From one block row to whole arrays: what each grid point of the projection call writes back is its block of rows of the
    reference's result, and the blocks of all points cover the result. -/

namespace Cert.Project

open Idealize.ShloMosaic Idealize.ShloMosaic.TcCoe Idealize.SL.Sem
open Cert.MixIdeal Cert.MixIdeal.Gen Cert.MixIdeal.Value
open Idealize.ShloMosaic.Pipeline (Dat)

variable [Cert.MixReferenceIdeal.Facts]

variable (m : (ℓ : Loc nD τ sig) → Buf (Elt Ideal) ℓ) (m' : (ℓ : Loc Cert.MixReferenceIdeal.nD Cert.MixReferenceIdeal.τ Cert.MixReferenceIdeal.sig) → Buf (Elt Ideal) ℓ) (c : Dev nD)

/-- The two programs are given the same arrays. -/
abbrev Same : Prop :=
  m' ((c.tc : Thread Cert.MixReferenceIdeal.nD Cert.MixReferenceIdeal.τ).loc Cert.MixReferenceIdeal.main_arg0) = m ((c.tc : Thread nD τ).loc main_arg0) ∧ m' ((c.tc : Thread Cert.MixReferenceIdeal.nD Cert.MixReferenceIdeal.τ).loc Cert.MixReferenceIdeal.main_arg1) = m ((c.tc : Thread nD τ).loc main_arg1) ∧ m' ((c.tc : Thread Cert.MixReferenceIdeal.nD Cert.MixReferenceIdeal.τ).loc Cert.MixReferenceIdeal.main_arg2) = m ((c.tc : Thread nD τ).loc main_arg2) ∧ m' ((c.tc : Thread Cert.MixReferenceIdeal.nD Cert.MixReferenceIdeal.τ).loc Cert.MixReferenceIdeal.main_arg3) = m ((c.tc : Thread nD τ).loc main_arg3) ∧ m' ((c.tc : Thread Cert.MixReferenceIdeal.nD Cert.MixReferenceIdeal.τ).loc Cert.MixReferenceIdeal.main_arg4) = m ((c.tc : Thread nD τ).loc main_arg4) ∧ m' ((c.tc : Thread Cert.MixReferenceIdeal.nD Cert.MixReferenceIdeal.τ).loc Cert.MixReferenceIdeal.main_arg5) = m ((c.tc : Thread nD τ).loc main_arg5) ∧ m' ((c.tc : Thread Cert.MixReferenceIdeal.nD Cert.MixReferenceIdeal.τ).loc Cert.MixReferenceIdeal.main_arg6) = m ((c.tc : Thread nD τ).loc main_arg6) ∧ m' ((c.tc : Thread Cert.MixReferenceIdeal.nD Cert.MixReferenceIdeal.τ).loc Cert.MixReferenceIdeal.main_arg7) = m ((c.tc : Thread nD τ).loc main_arg7) ∧ m' ((c.tc : Thread Cert.MixReferenceIdeal.nD Cert.MixReferenceIdeal.τ).loc Cert.MixReferenceIdeal.main_arg8) = m ((c.tc : Thread nD τ).loc main_arg8) ∧ m' ((c.tc : Thread Cert.MixReferenceIdeal.nD Cert.MixReferenceIdeal.τ).loc Cert.MixReferenceIdeal.main_arg9) = m ((c.tc : Thread nD τ).loc main_arg9) ∧ m' ((c.tc : Thread Cert.MixReferenceIdeal.nD Cert.MixReferenceIdeal.τ).loc Cert.MixReferenceIdeal.main_arg10) = m ((c.tc : Thread nD τ).loc main_arg10) ∧ m' ((c.tc : Thread Cert.MixReferenceIdeal.nD Cert.MixReferenceIdeal.τ).loc Cert.MixReferenceIdeal.main_arg11) = m ((c.tc : Thread nD τ).loc main_arg11) ∧ m' ((c.tc : Thread Cert.MixReferenceIdeal.nD Cert.MixReferenceIdeal.τ).loc Cert.MixReferenceIdeal.main_arg12) = m ((c.tc : Thread nD τ).loc main_arg12)

section Blocks

variable (t : Fin cfg0.N)

/-- Window 1 holds the whole of its array at every point. -/
theorem whole1 : iblk m c 1 t = m ((c.tc : Thread nD τ).loc main_arg1) := by
  funext y
  show m ((c.tc : Thread nD τ).loc main_arg1) (((cfg0.win 1).blk t).view.emb y) = m ((c.tc : Thread nD τ).loc main_arg1) y
  refine congrArg _ (funext fun a => Fin.ext ?_)
  match a with
  | ⟨0, _⟩ => show 0 * 6 + 1 * (y 0).val = (y 0).val; omega
  | ⟨1, _⟩ => show 0 * 1024 + 1 * (y 1).val = (y 1).val; omega

/-- Window 2 holds the whole of its array at every point. -/
theorem whole2 : iblk m c 2 t = m ((c.tc : Thread nD τ).loc main_arg2) := by
  funext y
  show m ((c.tc : Thread nD τ).loc main_arg2) (((cfg0.win 2).blk t).view.emb y) = m ((c.tc : Thread nD τ).loc main_arg2) y
  refine congrArg _ (funext fun a => Fin.ext ?_)
  match a with
  | ⟨0, _⟩ => show 0 * 1 + 1 * (y 0).val = (y 0).val; omega
  | ⟨1, _⟩ => show 0 * 1024 + 1 * (y 1).val = (y 1).val; omega

/-- Window 3 holds the whole of its array at every point. -/
theorem whole3 : iblk m c 3 t = m ((c.tc : Thread nD τ).loc main_arg3) := by
  funext y
  show m ((c.tc : Thread nD τ).loc main_arg3) (((cfg0.win 3).blk t).view.emb y) = m ((c.tc : Thread nD τ).loc main_arg3) y
  refine congrArg _ (funext fun a => Fin.ext ?_)
  match a with
  | ⟨0, _⟩ => show 0 * 1024 + 1 * (y 0).val = (y 0).val; omega
  | ⟨1, _⟩ => show 0 * 1536 + 1 * (y 1).val = (y 1).val; omega

/-- Window 4 holds the whole of its array at every point. -/
theorem whole4 : iblk m c 4 t = m ((c.tc : Thread nD τ).loc main_arg4) := by
  funext y
  show m ((c.tc : Thread nD τ).loc main_arg4) (((cfg0.win 4).blk t).view.emb y) = m ((c.tc : Thread nD τ).loc main_arg4) y
  refine congrArg _ (funext fun a => Fin.ext ?_)
  match a with
  | ⟨0, _⟩ => show 0 * 1024 + 1 * (y 0).val = (y 0).val; omega
  | ⟨1, _⟩ => show 0 * 128 + 1 * (y 1).val = (y 1).val; omega

/-- Window 5 holds the whole of its array at every point. -/
theorem whole5 : iblk m c 5 t = m ((c.tc : Thread nD τ).loc main_arg5) := by
  funext y
  show m ((c.tc : Thread nD τ).loc main_arg5) (((cfg0.win 5).blk t).view.emb y) = m ((c.tc : Thread nD τ).loc main_arg5) y
  refine congrArg _ (funext fun a => Fin.ext ?_)
  match a with
  | ⟨0, _⟩ => show 0 * 128 + 1 * (y 0).val = (y 0).val; omega
  | ⟨1, _⟩ => show 0 * 256 + 1 * (y 1).val = (y 1).val; omega

/-- Window 6 holds the whole of its array at every point. -/
theorem whole6 : iblk m c 6 t = m ((c.tc : Thread nD τ).loc main_arg6) := by
  funext y
  show m ((c.tc : Thread nD τ).loc main_arg6) (((cfg0.win 6).blk t).view.emb y) = m ((c.tc : Thread nD τ).loc main_arg6) y
  refine congrArg _ (funext fun a => Fin.ext ?_)
  match a with
  | ⟨0, _⟩ => show 0 * 1 + 1 * (y 0).val = (y 0).val; omega
  | ⟨1, _⟩ => show 0 * 256 + 1 * (y 1).val = (y 1).val; omega

/-- Window 10 holds the whole of its array at every point. -/
theorem whole10 : iblk m c 10 t = m ((c.tc : Thread nD τ).loc main_arg10) := by
  funext y
  show m ((c.tc : Thread nD τ).loc main_arg10) (((cfg0.win 10).blk t).view.emb y) = m ((c.tc : Thread nD τ).loc main_arg10) y
  refine congrArg _ (funext fun a => Fin.ext ?_)
  match a with
  | ⟨0, _⟩ => show 0 * 1024 + 1 * (y 0).val = (y 0).val; omega
  | ⟨1, _⟩ => show 0 * 2048 + 1 * (y 1).val = (y 1).val; omega

/-- Window 11 holds the whole of its array at every point. -/
theorem whole11 : iblk m c 11 t = m ((c.tc : Thread nD τ).loc main_arg11) := by
  funext y
  show m ((c.tc : Thread nD τ).loc main_arg11) (((cfg0.win 11).blk t).view.emb y) = m ((c.tc : Thread nD τ).loc main_arg11) y
  refine congrArg _ (funext fun a => Fin.ext ?_)
  match a with
  | ⟨0, _⟩ => show 0 * 1024 + 1 * (y 0).val = (y 0).val; omega
  | ⟨1, _⟩ => show 0 * 128 + 1 * (y 1).val = (y 1).val; omega

/-- The windows that hold whole arrays hold the reference's arguments. -/
theorem arguments (h : Same m m' c) : iblk m c 1 t = a1 m' c ∧ iblk m c 2 t = a2 m' c ∧ iblk m c 3 t = a3 m' c ∧ iblk m c 4 t = a4 m' c ∧ iblk m c 5 t = a5 m' c ∧ iblk m c 6 t = a6 m' c ∧ iblk m c 10 t = a10 m' c ∧ iblk m c 11 t = a11 m' c := by
  obtain ⟨h0, h1, h2, h3, h4, h5, h6, h7, h8, h9, h10, h11, h12⟩ := h
  exact ⟨(whole1 m c t).trans h1.symm, (whole2 m c t).trans h2.symm, (whole3 m c t).trans h3.symm, (whole4 m c t).trans h4.symm, (whole5 m c t).trans h5.symm, (whole6 m c t).trans h6.symm, (whole10 m c t).trans h10.symm, (whole11 m c t).trans h11.symm⟩

/-- The windows that move with the grid are at the block row of the point's number, in block column nought. -/
theorem moves : ∀ t : Fin cfg0.N, (win0_0.index t 0 = t.val ∧ win0_0.index t 1 = 0) ∧ (win0_13.index t 0 = t.val ∧ win0_13.index t 1 = 0) ∧ (win0_14.index t 0 = t.val ∧ win0_14.index t 1 = 0) ∧ (win0_15.index t 0 = t.val ∧ win0_15.index t 1 = 0) ∧ (win0_16.index t 0 = t.val ∧ win0_16.index t 1 = 0) ∧ (win0_17.index t 0 = t.val ∧ win0_17.index t 1 = 0) ∧ (win0_20.index t 0 = t.val ∧ win0_20.index t 1 = 0) ∧ (win0_23.index t 0 = t.val ∧ win0_23.index t 1 = 0) :=
  (by decide +kernel : ∀ t : Fin grid0.N, _)

/-- The array row that row `r` of the point's block is cut from. -/
def rowOf (r : Fin 512) : Fin 16384 := ⟨t.val * 512 + r.val, by have h : t.val < grid0.N := t.isLt; rw [N_0] at h; omega⟩

/-- The point whose block an array row falls to. -/
def pointOf (r : Fin 16384) : Fin cfg0.N := ⟨r.val / 512, by show r.val / 512 < grid0.N; rw [N_0]; omega⟩

/-- An index of a matrix is the pair of its coordinates. -/
theorem pair {a b : Nat} (i : (Shape.mk 2 ![a, b]).Idx) (r : Fin a) (k : Fin b) (h0 : (i 0).val = r.val) (h1 : (i 1).val = k.val) :
    i = ix2 r k := by
  funext d
  match d with
  | ⟨0, _⟩ => exact Fin.ext h0
  | ⟨1, _⟩ => exact Fin.ext h1

/-- Window 0's block is the point's rows of its array. -/
theorem part0 (h : Same m m' c) (r : Fin 512) (k : Fin 1024) : iblk m c 0 t (ix2 r k) = m' ((c.tc : Thread Cert.MixReferenceIdeal.nD Cert.MixReferenceIdeal.τ).loc Cert.MixReferenceIdeal.main_arg0) (ix2 (rowOf t r) k) := by
  rw [h.1]
  show m ((c.tc : Thread nD τ).loc main_arg0) (((cfg0.win 0).blk t).view.emb (ix2 r k)) = _
  refine congrArg _ (pair _ _ _ ?_ ?_)
  · show win0_0.index t 0 * 512 + 1 * r.val = t.val * 512 + r.val; rw [(moves t).1.1]; omega
  · show win0_0.index t 1 * 1024 + 1 * k.val = k.val; rw [(moves t).1.2]; omega

/-- The place of a row in its point's block: the arithmetic that every covering below needs. -/
theorem placed (r : Fin 16384) : (pointOf r).val * 512 ≤ r.val ∧ r.val < (pointOf r).val * 512 + 512 := by
  show r.val / 512 * 512 ≤ r.val ∧ r.val < r.val / 512 * 512 + 512
  omega

end Blocks

/-- Contents of result 0: the reference's query. -/
def queryArray : Buf (Elt Ideal) ((c.tc : Thread nD τ).loc main_v0_0) := fun i => query (F := Ideal) m' c i

/-- What a point writes back through window 13. -/
theorem query_writes (h : Same m m' c) (t : Fin cfg0.N) :
    (dats m 0 c).flushed 13 t = ((cfg0.win 13).blk t).view.read (Elt Ideal) (queryArray m' c) := by
  obtain ⟨e1, e2, e3, e4, e5, e6, e10, e11⟩ := arguments m m' c t h
  rw [flushed13, e1, e2, e3, e4, e5, e6, e10, e11]
  funext y
  show out0_13 _ _ _ _ _ _ _ _ _ _ _ _ _ ((cfg0.win 13).xinj (grid0.coords t) y) = query m' c (((cfg0.win 13).blk t).view.emb y)
  have q : r0_5.emb (ix2 (y 0) (y 1)) = (cfg0.win 13).xinj (grid0.coords t) y :=
    (pair _ (y 0) (y 1) (by show 0 + 1 * (y 0).val = (y 0).val; omega) (by show 0 + 1 * (y 1).val = (y 1).val; omega)).trans
      (pair _ (y 0) (y 1) rfl rfl).symm
  have p : ((cfg0.win 13).blk t).view.emb y = ix2 (rowOf t (y 0)) (y 1) := pair _ _ _
    (by show win0_13.index t 0 * 512 + 1 * (y 0).val = t.val * 512 + (y 0).val; rw [(moves t).2.1.1]; omega)
    (by show win0_13.index t 1 * 256 + 1 * (y 1).val = (y 1).val; rw [(moves t).2.1.2]; omega)
  rw [← q, p]
  unfold out0_13
  rw [View.canon_cons_emb]
  exact query_row m' c _ (y 0) (rowOf t (y 0)) (part0 m m' c t h (y 0)) (y 1)

/-- Window 13's blocks cover its result. -/
theorem query_covers (i : S16384x256.Idx) : ∃ t : Fin cfg0.N, (cfg0.win 13).flush t = true ∧ i ∈ ((cfg0.win 13).blk t).view.set := by
  have h1 : (i 1).val < 256 := (i 1).isLt
  refine ⟨pointOf (i 0), flush0_13 _, ?_⟩
  show i ∈ ((View.whole main_v0_0).slice (win0_13.rect (pointOf (i 0)))).set
  rw [View.set_slice_whole, Rect.mem_set_unit]
  have e := (moves (pointOf (i 0))).2.1
  intro a
  match a with
  | ⟨0, _⟩ =>
    show win0_13.index (pointOf (i 0)) 0 * 512 ≤ (i 0).val ∧ (i 0).val < win0_13.index (pointOf (i 0)) 0 * 512 + 512
    rw [e.1]; exact placed (i 0)
  | ⟨1, _⟩ =>
    show win0_13.index (pointOf (i 0)) 1 * 256 ≤ (i 1).val ∧ (i 1).val < win0_13.index (pointOf (i 0)) 1 * 256 + 256
    rw [e.2]; omega

/-- The call's result 0 after the run is the reference's query. -/
theorem query_result (h : Same m m' c) : (dats m 0 c).arrAt 13 cfg0.N = queryArray m' c :=
  (dats m 0 c).arrAt_eq_of_cover 13 _ (fun t _ => query_writes m m' c h t) query_covers

/-- Contents of result 1: the reference's key. -/
def keyArray : Buf (Elt Ideal) ((c.tc : Thread nD τ).loc main_v0_1) := fun i => key (F := Ideal) m' c i

/-- What a point writes back through window 14. -/
theorem key_writes (h : Same m m' c) (t : Fin cfg0.N) :
    (dats m 0 c).flushed 14 t = ((cfg0.win 14).blk t).view.read (Elt Ideal) (keyArray m' c) := by
  obtain ⟨e1, e2, e3, e4, e5, e6, e10, e11⟩ := arguments m m' c t h
  rw [flushed14, e1, e2, e3, e4, e5, e6, e10, e11]
  funext y
  show out0_14 _ _ _ _ _ _ _ _ _ _ _ _ _ ((cfg0.win 14).xinj (grid0.coords t) y) = key m' c (((cfg0.win 14).blk t).view.emb y)
  have q : r0_5.emb (ix2 (y 0) (y 1)) = (cfg0.win 14).xinj (grid0.coords t) y :=
    (pair _ (y 0) (y 1) (by show 0 + 1 * (y 0).val = (y 0).val; omega) (by show 0 + 1 * (y 1).val = (y 1).val; omega)).trans
      (pair _ (y 0) (y 1) rfl rfl).symm
  have p : ((cfg0.win 14).blk t).view.emb y = ix2 (rowOf t (y 0)) (y 1) := pair _ _ _
    (by show win0_14.index t 0 * 512 + 1 * (y 0).val = t.val * 512 + (y 0).val; rw [(moves t).2.2.1.1]; omega)
    (by show win0_14.index t 1 * 256 + 1 * (y 1).val = (y 1).val; rw [(moves t).2.2.1.2]; omega)
  rw [← q, p]
  unfold out0_14
  rw [View.canon_cons_emb]
  exact key_row m' c _ (y 0) (rowOf t (y 0)) (part0 m m' c t h (y 0)) (y 1)

/-- Window 14's blocks cover its result. -/
theorem key_covers (i : S16384x256.Idx) : ∃ t : Fin cfg0.N, (cfg0.win 14).flush t = true ∧ i ∈ ((cfg0.win 14).blk t).view.set := by
  have h1 : (i 1).val < 256 := (i 1).isLt
  refine ⟨pointOf (i 0), flush0_14 _, ?_⟩
  show i ∈ ((View.whole main_v0_1).slice (win0_14.rect (pointOf (i 0)))).set
  rw [View.set_slice_whole, Rect.mem_set_unit]
  have e := (moves (pointOf (i 0))).2.2.1
  intro a
  match a with
  | ⟨0, _⟩ =>
    show win0_14.index (pointOf (i 0)) 0 * 512 ≤ (i 0).val ∧ (i 0).val < win0_14.index (pointOf (i 0)) 0 * 512 + 512
    rw [e.1]; exact placed (i 0)
  | ⟨1, _⟩ =>
    show win0_14.index (pointOf (i 0)) 1 * 256 ≤ (i 1).val ∧ (i 1).val < win0_14.index (pointOf (i 0)) 1 * 256 + 256
    rw [e.2]; omega

/-- The call's result 1 after the run is the reference's key. -/
theorem key_result (h : Same m m' c) : (dats m 0 c).arrAt 14 cfg0.N = keyArray m' c :=
  (dats m 0 c).arrAt_eq_of_cover 14 _ (fun t _ => key_writes m m' c h t) key_covers

/-- Contents of result 2: the reference's value. -/
def valueArray : Buf (Elt Ideal) ((c.tc : Thread nD τ).loc main_v0_2) := fun i => value (F := Ideal) m' c i

/-- What a point writes back through window 15. -/
theorem value_writes (h : Same m m' c) (t : Fin cfg0.N) :
    (dats m 0 c).flushed 15 t = ((cfg0.win 15).blk t).view.read (Elt Ideal) (valueArray m' c) := by
  obtain ⟨e1, e2, e3, e4, e5, e6, e10, e11⟩ := arguments m m' c t h
  rw [flushed15, e1, e2, e3, e4, e5, e6, e10, e11]
  funext y
  show out0_15 _ _ _ _ _ _ _ _ _ _ _ _ _ ((cfg0.win 15).xinj (grid0.coords t) y) = value m' c (((cfg0.win 15).blk t).view.emb y)
  have q : r0_6.emb (ix2 (y 0) (y 1)) = (cfg0.win 15).xinj (grid0.coords t) y :=
    (pair _ (y 0) (y 1) (by show 0 + 1 * (y 0).val = (y 0).val; omega) (by show 0 + 1 * (y 1).val = (y 1).val; omega)).trans
      (pair _ (y 0) (y 1) rfl rfl).symm
  have p : ((cfg0.win 15).blk t).view.emb y = ix2 (rowOf t (y 0)) (y 1) := pair _ _ _
    (by show win0_15.index t 0 * 512 + 1 * (y 0).val = t.val * 512 + (y 0).val; rw [(moves t).2.2.2.1.1]; omega)
    (by show win0_15.index t 1 * 512 + 1 * (y 1).val = (y 1).val; rw [(moves t).2.2.2.1.2]; omega)
  rw [← q, p]
  unfold out0_15
  rw [View.canon_cons_emb]
  exact value_row m' c _ (y 0) (rowOf t (y 0)) (part0 m m' c t h (y 0)) (y 1)

/-- Window 15's blocks cover its result. -/
theorem value_covers (i : S16384x512.Idx) : ∃ t : Fin cfg0.N, (cfg0.win 15).flush t = true ∧ i ∈ ((cfg0.win 15).blk t).view.set := by
  have h1 : (i 1).val < 512 := (i 1).isLt
  refine ⟨pointOf (i 0), flush0_15 _, ?_⟩
  show i ∈ ((View.whole main_v0_2).slice (win0_15.rect (pointOf (i 0)))).set
  rw [View.set_slice_whole, Rect.mem_set_unit]
  have e := (moves (pointOf (i 0))).2.2.2.1
  intro a
  match a with
  | ⟨0, _⟩ =>
    show win0_15.index (pointOf (i 0)) 0 * 512 ≤ (i 0).val ∧ (i 0).val < win0_15.index (pointOf (i 0)) 0 * 512 + 512
    rw [e.1]; exact placed (i 0)
  | ⟨1, _⟩ =>
    show win0_15.index (pointOf (i 0)) 1 * 512 ≤ (i 1).val ∧ (i 1).val < win0_15.index (pointOf (i 0)) 1 * 512 + 512
    rw [e.2]; omega

/-- The call's result 2 after the run is the reference's value. -/
theorem value_result (h : Same m m' c) : (dats m 0 c).arrAt 15 cfg0.N = valueArray m' c :=
  (dats m 0 c).arrAt_eq_of_cover 15 _ (fun t _ => value_writes m m' c h t) value_covers

/-- Contents of result 3: the reference's gate. -/
def gateArray : Buf (Elt Ideal) ((c.tc : Thread nD τ).loc main_v0_3) := fun i => gate (F := Ideal) m' c i

/-- What a point writes back through window 16. -/
theorem gate_writes (h : Same m m' c) (t : Fin cfg0.N) :
    (dats m 0 c).flushed 16 t = ((cfg0.win 16).blk t).view.read (Elt Ideal) (gateArray m' c) := by
  obtain ⟨e1, e2, e3, e4, e5, e6, e10, e11⟩ := arguments m m' c t h
  rw [flushed16, e1, e2, e3, e4, e5, e6, e10, e11]
  funext y
  show out0_16 _ _ _ _ _ _ _ _ _ _ _ _ _ ((cfg0.win 16).xinj (grid0.coords t) y) = gate m' c (((cfg0.win 16).blk t).view.emb y)
  have q : r0_6.emb (ix2 (y 0) (y 1)) = (cfg0.win 16).xinj (grid0.coords t) y :=
    (pair _ (y 0) (y 1) (by show 0 + 1 * (y 0).val = (y 0).val; omega) (by show 0 + 1 * (y 1).val = (y 1).val; omega)).trans
      (pair _ (y 0) (y 1) rfl rfl).symm
  have p : ((cfg0.win 16).blk t).view.emb y = ix2 (rowOf t (y 0)) (y 1) := pair _ _ _
    (by show win0_16.index t 0 * 512 + 1 * (y 0).val = t.val * 512 + (y 0).val; rw [(moves t).2.2.2.2.1.1]; omega)
    (by show win0_16.index t 1 * 512 + 1 * (y 1).val = (y 1).val; rw [(moves t).2.2.2.2.1.2]; omega)
  rw [← q, p]
  unfold out0_16
  rw [View.canon_cons_emb]
  exact gate_row m' c _ (y 0) (rowOf t (y 0)) (part0 m m' c t h (y 0)) (y 1)

/-- Window 16's blocks cover its result. -/
theorem gate_covers (i : S16384x512.Idx) : ∃ t : Fin cfg0.N, (cfg0.win 16).flush t = true ∧ i ∈ ((cfg0.win 16).blk t).view.set := by
  have h1 : (i 1).val < 512 := (i 1).isLt
  refine ⟨pointOf (i 0), flush0_16 _, ?_⟩
  show i ∈ ((View.whole main_v0_3).slice (win0_16.rect (pointOf (i 0)))).set
  rw [View.set_slice_whole, Rect.mem_set_unit]
  have e := (moves (pointOf (i 0))).2.2.2.2.1
  intro a
  match a with
  | ⟨0, _⟩ =>
    show win0_16.index (pointOf (i 0)) 0 * 512 ≤ (i 0).val ∧ (i 0).val < win0_16.index (pointOf (i 0)) 0 * 512 + 512
    rw [e.1]; exact placed (i 0)
  | ⟨1, _⟩ =>
    show win0_16.index (pointOf (i 0)) 1 * 512 ≤ (i 1).val ∧ (i 1).val < win0_16.index (pointOf (i 0)) 1 * 512 + 512
    rw [e.2]; omega

/-- The call's result 3 after the run is the reference's gate. -/
theorem gate_result (h : Same m m' c) : (dats m 0 c).arrAt 16 cfg0.N = gateArray m' c :=
  (dats m 0 c).arrAt_eq_of_cover 16 _ (fun t _ => gate_writes m m' c h t) gate_covers

/-- Contents of result 4: the reference's decay. -/
def decayArray : Buf (Elt Ideal) ((c.tc : Thread nD τ).loc main_v0_4) := fun i => decay (F := Ideal) m' c i

/-- What a point writes back through window 17. -/
theorem decay_writes (h : Same m m' c) (t : Fin cfg0.N) :
    (dats m 0 c).flushed 17 t = ((cfg0.win 17).blk t).view.read (Elt Ideal) (decayArray m' c) := by
  obtain ⟨e1, e2, e3, e4, e5, e6, e10, e11⟩ := arguments m m' c t h
  rw [flushed17, e1, e2, e3, e4, e5, e6, e10, e11]
  funext y
  show out0_17 _ _ _ _ _ _ _ _ _ _ _ _ _ ((cfg0.win 17).xinj (grid0.coords t) y) = decay m' c (((cfg0.win 17).blk t).view.emb y)
  have q : r0_5.emb (ix2 (y 0) (y 1)) = (cfg0.win 17).xinj (grid0.coords t) y :=
    (pair _ (y 0) (y 1) (by show 0 + 1 * (y 0).val = (y 0).val; omega) (by show 0 + 1 * (y 1).val = (y 1).val; omega)).trans
      (pair _ (y 0) (y 1) rfl rfl).symm
  have p : ((cfg0.win 17).blk t).view.emb y = ix2 (rowOf t (y 0)) (y 1) := pair _ _ _
    (by show win0_17.index t 0 * 512 + 1 * (y 0).val = t.val * 512 + (y 0).val; rw [(moves t).2.2.2.2.2.1.1]; omega)
    (by show win0_17.index t 1 * 256 + 1 * (y 1).val = (y 1).val; rw [(moves t).2.2.2.2.2.1.2]; omega)
  rw [← q, p]
  unfold out0_17 k0_pay21
  rw [View.canon_cons_emb]
  exact decay_row m' c _ (y 0) (rowOf t (y 0)) (part0 m m' c t h (y 0)) (y 1)

/-- Window 17's blocks cover its result. -/
theorem decay_covers (i : S16384x256.Idx) : ∃ t : Fin cfg0.N, (cfg0.win 17).flush t = true ∧ i ∈ ((cfg0.win 17).blk t).view.set := by
  have h1 : (i 1).val < 256 := (i 1).isLt
  refine ⟨pointOf (i 0), flush0_17 _, ?_⟩
  show i ∈ ((View.whole main_v0_4).slice (win0_17.rect (pointOf (i 0)))).set
  rw [View.set_slice_whole, Rect.mem_set_unit]
  have e := (moves (pointOf (i 0))).2.2.2.2.2.1
  intro a
  match a with
  | ⟨0, _⟩ =>
    show win0_17.index (pointOf (i 0)) 0 * 512 ≤ (i 0).val ∧ (i 0).val < win0_17.index (pointOf (i 0)) 0 * 512 + 512
    rw [e.1]; exact placed (i 0)
  | ⟨1, _⟩ =>
    show win0_17.index (pointOf (i 0)) 1 * 256 ≤ (i 1).val ∧ (i 1).val < win0_17.index (pointOf (i 0)) 1 * 256 + 256
    rw [e.2]; omega

/-- The call's result 4 after the run is the reference's decay. -/
theorem decay_result (h : Same m m' c) : (dats m 0 c).arrAt 17 cfg0.N = decayArray m' c :=
  (dats m 0 c).arrAt_eq_of_cover 17 _ (fun t _ => decay_writes m m' c h t) decay_covers

/-- Contents of result 7: the reference's sparseValue. -/
def sparseValueArray : Buf (Elt Ideal) ((c.tc : Thread nD τ).loc main_v0_7) := fun i => sparseValue (F := Ideal) m' c i

/-- What a point writes back through window 20. -/
theorem sparseValue_writes (h : Same m m' c) (t : Fin cfg0.N) :
    (dats m 0 c).flushed 20 t = ((cfg0.win 20).blk t).view.read (Elt Ideal) (sparseValueArray m' c) := by
  obtain ⟨e1, e2, e3, e4, e5, e6, e10, e11⟩ := arguments m m' c t h
  rw [flushed20, e1, e2, e3, e4, e5, e6, e10, e11]
  funext y
  show out0_20 _ _ _ _ _ _ _ _ _ _ _ _ _ ((cfg0.win 20).xinj (grid0.coords t) y) = sparseValue m' c (((cfg0.win 20).blk t).view.emb y)
  have q : r0_6.emb (ix2 (y 0) (y 1)) = (cfg0.win 20).xinj (grid0.coords t) y :=
    (pair _ (y 0) (y 1) (by show 0 + 1 * (y 0).val = (y 0).val; omega) (by show 0 + 1 * (y 1).val = (y 1).val; omega)).trans
      (pair _ (y 0) (y 1) rfl rfl).symm
  have p : ((cfg0.win 20).blk t).view.emb y = ix2 (rowOf t (y 0)) (y 1) := pair _ _ _
    (by show win0_20.index t 0 * 512 + 1 * (y 0).val = t.val * 512 + (y 0).val; rw [(moves t).2.2.2.2.2.2.1.1]; omega)
    (by show win0_20.index t 1 * 512 + 1 * (y 1).val = (y 1).val; rw [(moves t).2.2.2.2.2.2.1.2]; omega)
  rw [← q, p]
  unfold out0_20 k0_pay21
  rw [View.canon_cons_emb]
  exact sparseValue_row m' c _ (y 0) (rowOf t (y 0)) (part0 m m' c t h (y 0)) (y 1)

/-- Window 20's blocks cover its result. -/
theorem sparseValue_covers (i : S16384x512.Idx) : ∃ t : Fin cfg0.N, (cfg0.win 20).flush t = true ∧ i ∈ ((cfg0.win 20).blk t).view.set := by
  have h1 : (i 1).val < 512 := (i 1).isLt
  refine ⟨pointOf (i 0), flush0_20 _, ?_⟩
  show i ∈ ((View.whole main_v0_7).slice (win0_20.rect (pointOf (i 0)))).set
  rw [View.set_slice_whole, Rect.mem_set_unit]
  have e := (moves (pointOf (i 0))).2.2.2.2.2.2.1
  intro a
  match a with
  | ⟨0, _⟩ =>
    show win0_20.index (pointOf (i 0)) 0 * 512 ≤ (i 0).val ∧ (i 0).val < win0_20.index (pointOf (i 0)) 0 * 512 + 512
    rw [e.1]; exact placed (i 0)
  | ⟨1, _⟩ =>
    show win0_20.index (pointOf (i 0)) 1 * 512 ≤ (i 1).val ∧ (i 1).val < win0_20.index (pointOf (i 0)) 1 * 512 + 512
    rw [e.2]; omega

/-- The call's result 7 after the run is the reference's sparseValue. -/
theorem sparseValue_result (h : Same m m' c) : (dats m 0 c).arrAt 20 cfg0.N = sparseValueArray m' c :=
  (dats m 0 c).arrAt_eq_of_cover 20 _ (fun t _ => sparseValue_writes m m' c h t) sparseValue_covers

/-- Contents of result 10: the reference's weight. -/
def weightArray : Buf (Elt Ideal) ((c.tc : Thread nD τ).loc main_v0_10) := fun i => weight (F := Ideal) m' c i

/-- What a point writes back through window 23. -/
theorem weight_writes (h : Same m m' c) (t : Fin cfg0.N) :
    (dats m 0 c).flushed 23 t = ((cfg0.win 23).blk t).view.read (Elt Ideal) (weightArray m' c) := by
  obtain ⟨e1, e2, e3, e4, e5, e6, e10, e11⟩ := arguments m m' c t h
  rw [flushed23, e1, e2, e3, e4, e5, e6, e10, e11]
  funext y
  show out0_23 _ _ _ _ _ _ _ _ _ _ _ _ _ ((cfg0.win 23).xinj (grid0.coords t) y) = weight m' c (((cfg0.win 23).blk t).view.emb y)
  have q : r0_14.emb (ix2 (y 0) (y 1)) = (cfg0.win 23).xinj (grid0.coords t) y :=
    (pair _ (y 0) (y 1) (by show 0 + 1 * (y 0).val = (y 0).val; omega) (by show 0 + 1 * (y 1).val = (y 1).val; omega)).trans
      (pair _ (y 0) (y 1) rfl rfl).symm
  have p : ((cfg0.win 23).blk t).view.emb y = ix2 (rowOf t (y 0)) (y 1) := pair _ _ _
    (by show win0_23.index t 0 * 512 + 1 * (y 0).val = t.val * 512 + (y 0).val; rw [(moves t).2.2.2.2.2.2.2.1]; omega)
    (by show win0_23.index t 1 * 128 + 1 * (y 1).val = (y 1).val; rw [(moves t).2.2.2.2.2.2.2.2]; omega)
  rw [← q, p]
  unfold out0_23 k0_pay21
  rw [View.canon_cons_emb]
  exact weight_row m' c _ (y 0) (rowOf t (y 0)) (part0 m m' c t h (y 0)) (y 1)

/-- Window 23's blocks cover its result. -/
theorem weight_covers (i : S16384x128.Idx) : ∃ t : Fin cfg0.N, (cfg0.win 23).flush t = true ∧ i ∈ ((cfg0.win 23).blk t).view.set := by
  have h1 : (i 1).val < 128 := (i 1).isLt
  refine ⟨pointOf (i 0), flush0_23 _, ?_⟩
  show i ∈ ((View.whole main_v0_10).slice (win0_23.rect (pointOf (i 0)))).set
  rw [View.set_slice_whole, Rect.mem_set_unit]
  have e := (moves (pointOf (i 0))).2.2.2.2.2.2.2
  intro a
  match a with
  | ⟨0, _⟩ =>
    show win0_23.index (pointOf (i 0)) 0 * 512 ≤ (i 0).val ∧ (i 0).val < win0_23.index (pointOf (i 0)) 0 * 512 + 512
    rw [e.1]; exact placed (i 0)
  | ⟨1, _⟩ =>
    show win0_23.index (pointOf (i 0)) 1 * 128 ≤ (i 1).val ∧ (i 1).val < win0_23.index (pointOf (i 0)) 1 * 128 + 128
    rw [e.2]; omega

/-- The call's result 10 after the run is the reference's weight. -/
theorem weight_result (h : Same m m' c) : (dats m 0 c).arrAt 23 cfg0.N = weightArray m' c :=
  (dats m 0 c).arrAt_eq_of_cover 23 _ (fun t _ => weight_writes m m' c h t) weight_covers

end Cert.Project
-- ==== Proof.MixClaims.lean ====
module

public import proofs.«01_k».proof.Defs
public import proofs.«01_k».proof.Proof.Gen.Mix.Frame
public import proofs.«01_k».proof.Proof.MixValue

@[expose] public section

noncomputable section

namespace Cert.Project

open Idealize.ShloMosaic Idealize.ShloMosaic.TcCoe Idealize.SL.Sem

/-- The idealized call's frame: it ends, faults nowhere, leaves its arguments alone and every counter at nought. -/
theorem frame_ideal : Cert.quiescent_MixIdeal := fun m ρ _ => Cert.MixIdeal.Gen.frame (F := Ideal) m ρ

/-- The printed call's frame. -/
theorem frame_printed : Cert.quiescent_Mix := fun m ρ _ => Cert.Mix.Gen.frame (F := Bits) m ρ

/-- The reference's frame: it leaves its arguments alone, and it has no counters. -/
theorem frame_reference : Cert.quiescent_MixReferenceIdeal := fun m ρ _ =>
  (θ_run Cert.MixReferenceIdeal.defs _ _).mono
    (fun r q => ⟨fun c => (q c).2.2.2.2.2.2.2, sem_eq_zero_of_no_sems (by decide) r.2⟩)
    (Cert.MixReferenceIdeal.Value.run (F := Ideal) m ρ)

/-- From arrays that agree, the call and its reference end with the same seven results. -/
theorem algebraic : Cert.algebraic_MixIdeal_MixReferenceIdeal := fun m g m' g' _ h =>
  ⟨fun c => queryArray m' c, fun c => keyArray m' c, fun c => valueArray m' c, fun c => gateArray m' c, fun c => decayArray m' c, fun c => sparseValueArray m' c, fun c => weightArray m' c,
    (θ_run Cert.MixIdeal.defs _ _).mono (fun _ q c => by
      obtain ⟨q0, q1, q2, q3, q4, _, _, q7, _, _, q10, kept⟩ := q c
      exact ⟨q0.trans (query_result m m' c (h c)), q1.trans (key_result m m' c (h c)), q2.trans (value_result m m' c (h c)), q3.trans (gate_result m m' c (h c)), q4.trans (decay_result m m' c (h c)), q7.trans (sparseValue_result m m' c (h c)), q10.trans (weight_result m m' c (h c)), kept⟩)
      (Cert.MixIdeal.Value.run_blocks m g),
    (θ_run Cert.MixReferenceIdeal.defs _ _).mono (fun _ q c => q c) (Cert.MixReferenceIdeal.Value.run m' g')⟩

end Cert.Project
-- ==== Proof.Router.lean ====
module

public import Idealize.ShloMosaic.Lib.Pointwise
public import Idealize.ShloMosaic.Lib.IdealHost

@[expose] public section

noncomputable section

namespace Cert.Experts

open Idealize.ShloMosaic

/-- One place comes ahead of another: it holds the larger value, or the same value further left. -/
def Ahead {n : ℕ} (f : Fin n → EReal) (j i : Fin n) : Prop := f i < f j ∨ (f i = f j ∧ j < i)

/-- The first place of a set: it comes ahead of every other one of the set. -/
def First {n : ℕ} (P : Fin n → Prop) (f : Fin n → EReal) (a : Fin n) : Prop :=
  P a ∧ ∀ k, P k → k ≠ a → Ahead f a k

/-- A set that is not empty has a first place. -/
theorem exists_first {n : ℕ} (P : Fin n → Prop) (f : Fin n → EReal) (h : ∃ k, P k) : ∃ a, First P f a := by
  classical
  obtain ⟨k, hk⟩ := h
  obtain ⟨b, hb, top⟩ := Finset.exists_max_image (Finset.univ.filter P) f ⟨k, by simpa using hk⟩
  have ne : (Finset.univ.filter fun j => P j ∧ f j = f b).Nonempty := ⟨b, by simpa using hb⟩
  obtain ⟨a, ha, low⟩ := Finset.exists_min_image _ (fun j => j) ne
  simp only [Finset.mem_filter, Finset.mem_univ, true_and] at ha hb top low
  refine ⟨a, ha.1, fun j hj hne => ?_⟩
  rcases lt_or_eq_of_le (top j hj) with hlt | heq
  · exact .inl (ha.2 ▸ hlt)
  · exact .inr ⟨heq.trans ha.2.symm, lt_of_le_of_ne (low j ⟨hj, heq⟩) (Ne.symm hne)⟩

/-- Nothing is ahead of a place that is ahead of it. -/
theorem Ahead.not {n : ℕ} {f : Fin n → EReal} {j i : Fin n} (h : Ahead f j i) : ¬ Ahead f i j := by
  rintro (h' | h')
  · rcases h with h | h
    · exact lt_asymm h h'
    · exact absurd h.1 (ne_of_gt h')
  · rcases h with h | h
    · exact absurd h'.1 (ne_of_gt h)
    · exact lt_asymm h.2 h'.2

/-- Nothing is ahead of itself. -/
theorem ahead_self {n : ℕ} (f : Fin n → EReal) (i : Fin n) : ¬ Ahead f i i := by
  rintro (h | h)
  · exact lt_irrefl _ h
  · exact lt_irrefl _ h.2

/-- A mask's bit is nought or one. -/
theorem mask_bit (b : BitVec 1) : b = 0#1 ∨ b = 1#1 := by revert b; decide

/-- The largest value of a masked row is the value at its first place. -/
theorem max_first {n : ℕ} {P : Fin n → Prop} {f : Fin n → EReal} {a : Fin n} (h : First P f a) (m : Fin n → BitVec 1)
    (hm : ∀ k, m k = 1#1 ↔ P k) :
    Finset.fold max (⊥ : EReal) (fun k => Scalar.select (m k) (f k) (⊥ : EReal)) Finset.univ = f a := by
  apply le_antisymm
  · rw [Finset.fold_max_le]
    refine ⟨bot_le, fun k _ => ?_⟩
    rw [Scalar.select]
    split
    · rename_i hk
      by_cases e : k = a
      · rw [e]
      · rcases h.2 k ((hm k).1 (by simpa using hk)) e with h' | h'
        · exact h'.le
        · exact h'.1.le
    · exact bot_le
  · rw [Finset.le_fold_max]
    refine .inr ⟨a, Finset.mem_univ _, ?_⟩
    rw [Scalar.select, (hm a).2 h.1]
    simp

/-- The smallest place of a masked row that holds its largest value is its first place. -/
theorem min_first {n : ℕ} {P : Fin n → Prop} {f : Fin n → EReal} {a : Fin n} (h : First P f a) (m : Fin n → BitVec 1)
    (hm : ∀ k, m k = 1#1 ↔ P k) (c : Fin n → EReal) (hc : ∀ k, c k = ((k.val : ℝ) : EReal)) (big : EReal)
    (hbig : ((n : ℝ) : EReal) ≤ big) :
    Finset.fold min (⊤ : EReal) (fun k => Scalar.select (IntOp.andi (m k) (BitVec.ofBool (decide (f k = f a)))) (c k) big)
      Finset.univ = ((a.val : ℝ) : EReal) := by
  apply le_antisymm
  · rw [Finset.fold_min_le]
    refine .inr ⟨a, Finset.mem_univ _, ?_⟩
    rw [(hm a).2 h.1, hc]
    simp [Scalar.select, IntOp.andi]
  · rw [Finset.le_fold_min]
    refine ⟨le_top, fun k _ => ?_⟩
    rw [hc, Scalar.select]
    split
    · rename_i hk
      have hk' : P k ∧ f k = f a := by
        rcases mask_bit (m k) with hz | hz
        · exfalso
          rw [hz] at hk
          revert hk
          simp [IntOp.andi]
        · refine ⟨(hm k).1 hz, ?_⟩
          by_contra hne
          rw [hz] at hk
          revert hk
          simp [IntOp.andi, hne]
      by_cases e : k = a
      · rw [e]
      · rcases h.2 k hk'.1 e with h' | h'
        · exact absurd hk'.2 (ne_of_lt h')
        · exact EReal.coe_le_coe_iff.2 (by exact_mod_cast h'.2.le)
    · exact le_trans (EReal.coe_le_coe_iff.2 (by exact_mod_cast a.2.le)) hbig

/-- How many places come ahead of a place, as the sum of ones the count is written as. -/
theorem count_ahead {n : ℕ} (f : Fin n → EReal) (i : Fin n) [DecidablePred fun j => Ahead f j i] :
    (∑ j, if Ahead f j i then (1 : EReal) else 0) =
      (((Finset.univ.filter fun j => Ahead f j i).card : ℝ) : EReal) := by
  rw [Finset.sum_ite, Finset.sum_const_zero, add_zero, Finset.sum_const, EReal.nsmul_eq_mul, mul_one]
  rfl

/-- Fewer than one place comes ahead of the first place only. -/
theorem rank_one {n : ℕ} (f : Fin n → EReal) {a : Fin n} (h : First (fun _ => True) f a) (i : Fin n)
    [DecidablePred fun j => Ahead f j i] :
    (∑ j, if Ahead f j i then (1 : EReal) else 0) < 1 ↔ i = a := by
  rw [count_ahead, ← EReal.coe_one, EReal.coe_lt_coe_iff, ← Nat.cast_one, Nat.cast_lt, Nat.lt_one_iff,
    Finset.card_eq_zero, Finset.filter_eq_empty_iff]
  constructor
  · intro e
    by_contra hne
    exact e (Finset.mem_univ a) (h.2 i trivial hne)
  · rintro rfl j -
    by_cases e : j = i
    · rw [e]; exact ahead_self f i
    · exact (h.2 j trivial e).not

/-- Fewer than two places come ahead of the first and the second place only. -/
theorem rank_two {n : ℕ} (f : Fin n → EReal) {a b : Fin n} (h : First (fun _ => True) f a)
    (h' : First (fun k => k ≠ a) f b) (i : Fin n) [DecidablePred fun j => Ahead f j i] :
    (∑ j, if Ahead f j i then (1 : EReal) else 0) < 2 ↔ i = a ∨ i = b := by
  have two : (2 : EReal) = (((2 : ℕ) : ℝ) : EReal) := by norm_num; rfl
  rw [count_ahead, two, EReal.coe_lt_coe_iff, Nat.cast_lt]
  constructor
  · intro e
    by_contra hne
    rw [not_or] at hne
    have sub : ({a, b} : Finset (Fin n)) ⊆ Finset.univ.filter fun j => Ahead f j i := by
      intro j hj
      simp only [Finset.mem_insert, Finset.mem_singleton] at hj
      simp only [Finset.mem_filter, Finset.mem_univ, true_and]
      rcases hj with rfl | rfl
      · exact h.2 i trivial hne.1
      · exact h'.2 i hne.1 hne.2
    have := Finset.card_le_card sub
    rw [Finset.card_pair (Ne.symm h'.1)] at this
    omega
  · intro hi
    have sub : (Finset.univ.filter fun j => Ahead f j i) ⊆ {a} := by
      intro j hj
      simp only [Finset.mem_filter, Finset.mem_univ, true_and] at hj
      rw [Finset.mem_singleton]
      by_contra hne
      rcases hi with rfl | rfl
      · exact (h.2 j trivial hne).not hj
      · by_cases e : j = i
        · rw [e] at hj; exact ahead_self f i hj
        · exact (h'.2 j hne e).not hj
    have := Finset.card_le_card sub
    rw [Finset.card_singleton] at this
    omega

end Cert.Experts
-- ==== Proof.RouterRow.lean ====
module

public import proofs.«01_k».proof.Proof.Gen.MoeIdeal.Skeleton
public import proofs.«01_k».proof.Proof.Router

@[expose] public section

noncomputable section

/-! The router of the expert call, one row of a block: what it computes by masked maxima and minima over lanes, in terms of
    the row's first group, and the first and second expert of that group. -/

namespace Cert.Experts

open Idealize.ShloMosaic Idealize.ShloMosaic.TcCoe Idealize.SL.Sem
open Cert.MoeIdeal Cert.MoeIdeal.Gen

variable [Cert.MoeIdeal.Facts]

/-- The pattern of the least value. -/
theorem least : Ideal.ofBits .f32 4286578688#32 = ⊥ := by
  simp [Ideal.ofBits, Ideal.ieee]

/-- The pattern of the greatest value. -/
theorem greatest : Ideal.ofBits .f32 2139095040#32 = ⊤ := by
  simp [Ideal.ofBits, Ideal.ieee]

/-- The pattern of four. -/
theorem four : Ideal.ofBits .f32 1082130432#32 = ((4 : ℝ) : EReal) := by
  simp [Ideal.ofBits, Ideal.ieee, -EReal.coe_mul]; norm_num

/-- The pattern of eight. -/
theorem eight : Ideal.ofBits .f32 1090519040#32 = ((8 : ℝ) : EReal) := by
  simp [Ideal.ofBits, Ideal.ieee, -EReal.coe_mul]; norm_num

/-- The value a lane that is not chosen counts as is beyond the lanes. -/
theorem beyond : (((128 : ℕ) : ℝ) : EReal) ≤ Ideal.ofBits .f32 1315859240#32 := by
  have h : Ideal.ofBits .f32 1315859240#32 = ((1000000000 : ℝ) : EReal) := by
    simp [Ideal.ofBits, Ideal.ieee, -EReal.coe_mul]; norm_num
  rw [h, EReal.coe_le_coe_iff]
  norm_num

/-- A lane's number. -/
theorem lane_number (r : Fin 512) (k : Fin 128) : (k0_pay6 (F := Ideal)) (ix2 r k) = ((k.val : ℝ) : EReal) := by
  have h : ∀ k : Fin 128, (BitVec.ofNat 32 k.val).toInt = k.val := by decide
  pointwise [k0_pay6]
  show (((BitVec.ofNat 32 k.val).toInt : ℝ) : EReal) = _
  rw [h k]
  norm_cast

/-- The lanes of the groups. -/
theorem group_lane (r : Fin 512) (k : Fin 128) : k0_pay7 (ix2 r k) = 1#1 ↔ k.val < 4 := by
  pointwise [k0_pay7]
  revert k
  decide

/-- The lanes of a group's experts. -/
def Within (g k : Fin 128) : Prop := 4 + 8 * g.val ≤ k.val ∧ k.val < 12 + 8 * g.val

/-- The groups' exponentials together, each taken over that of the largest. -/
def groups (f : Fin 128 → EReal) (g : Fin 128) : EReal := ∑ k : Fin 128, if k.val < 4 then Ideal.exp (f k - f g) else 0

variable (v m : FVec Ideal S512x128 .f32) (r : Fin 512)

variable (hm : ∀ k : Fin 128, m (ix2 r k) = Scalar.select (k0_pay7 (ix2 r k)) (v (ix2 r k)) (⊥ : EReal))

variable {g a b : Fin 128} (hg : First (fun k => k.val < 4) (fun k => v (ix2 r k)) g)
  (ha : First (Within g) (fun k => v (ix2 r k)) a)
  (hb : First (fun k => Within g k ∧ k ≠ a) (fun k => v (ix2 r k)) b)

include hm hg in
/-- The largest group logit. -/
theorem group_top : k0_pay9 m (ix2 r 0) = v (ix2 r g) := by
  pointwise [k0_pay9]
  simp only [hm, least]
  exact max_first hg (fun k => k0_pay7 (ix2 r k)) (group_lane r)

include hm hg in
/-- The chosen group's probability. -/
theorem group_share : k0_pay10 v k0_pay7 m (ix2 r 0) = Ideal.div 1 (groups (fun k => v (ix2 r k)) g) := by
  pointwise [k0_pay10]
  rw [group_top v m r hm hg]
  refine congrArg (Ideal.div 1) (Finset.sum_congr rfl fun k _ => ?_)
  rw [Scalar.select]
  by_cases h : k.val < 4
  · rw [if_pos h, if_pos (by simpa using (group_lane r k).2 h)]
  · rw [if_neg h, if_neg (by simpa using fun e => h ((group_lane r k).1 e))]

include hm hg in
/-- The lanes the chosen group's experts are read from. -/
theorem expert_lane (k : Fin 128) : k0_pay11 v k0_pay6 k0_pay7 m (ix2 r k) = 1#1 ↔ Within g k := by
  pointwise [k0_pay11]
  simp only [group_top v m r hm hg, lane_number, greatest]
  rw [min_first hg (fun k => k0_pay7 (ix2 r k)) (group_lane r) _ (fun k => rfl) _ beyond, four, eight, Within]
  simp only [← EReal.coe_mul, ← EReal.coe_add, EReal.coe_le_coe_iff, EReal.coe_lt_coe_iff]
  have e1 : ((4 : ℝ) + 8 * (g.val : ℝ) ≤ (k.val : ℝ)) ↔ 4 + 8 * g.val ≤ k.val := by exact_mod_cast Iff.rfl
  have e2 : ((k.val : ℝ) < (4 : ℝ) + 8 * (g.val : ℝ) + 8) ↔ k.val < 12 + 8 * g.val := by
    have : (4 : ℝ) + 8 * (g.val : ℝ) + 8 = ((12 + 8 * g.val : ℕ) : ℝ) := by push_cast; ring
    rw [this, Nat.cast_lt]
  simp only [e1, e2]
  by_cases h1 : 4 + 8 * g.val ≤ k.val <;> by_cases h2 : k.val < 12 + 8 * g.val <;> simp [h1, h2, IntOp.andi]

include hm hg ha in
/-- The largest expert logit of the group. -/
theorem expert_top : k0_pay12 v k0_pay6 k0_pay7 m (ix2 r 0) = v (ix2 r a) := by
  pointwise [k0_pay12]
  simp only [least]
  exact max_first ha (fun k => k0_pay11 v k0_pay6 k0_pay7 m (ix2 r k)) (expert_lane v m r hm hg)

include hm hg ha in
/-- The lane of the group's first expert. -/
theorem expert_first : k0_pay13 v k0_pay6 k0_pay7 m (ix2 r 0) = ((a.val : ℝ) : EReal) := by
  pointwise [k0_pay13]
  simp only [expert_top v m r hm hg ha, greatest]
  exact min_first ha (fun k => k0_pay11 v k0_pay6 k0_pay7 m (ix2 r k)) (expert_lane v m r hm hg) _ (lane_number r) _ beyond

/-- Two lanes have the same number only if they are one. -/
theorem lane_eq (i j : Fin 128) : (((i.val : ℝ) : EReal) = ((j.val : ℝ) : EReal)) ↔ i = j := by
  rw [EReal.coe_eq_coe_iff, Nat.cast_inj, Fin.ext_iff]

include hm hg ha in
/-- The lanes the second expert is read from. -/
theorem second_lane (k : Fin 128) : k0_pay14 v k0_pay6 k0_pay7 m (ix2 r k) = 1#1 ↔ Within g k ∧ k ≠ a := by
  pointwise [k0_pay14]
  rw [expert_first v m r hm hg ha, lane_number, ← expert_lane v m r hm hg k]
  simp only [ne_eq, lane_eq]
  rcases mask_bit (k0_pay11 v k0_pay6 k0_pay7 m (ix2 r k)) with h | h <;> rw [h] <;> by_cases e : k = a <;>
    simp [e, IntOp.andi]

include hm hg ha hb in
/-- The second largest expert logit of the group. -/
theorem second_top : k0_pay15 v k0_pay6 k0_pay7 m (ix1 r) = v (ix2 r b) := by
  pointwise [k0_pay15]
  simp only [least]
  exact max_first hb (fun k => k0_pay14 v k0_pay6 k0_pay7 m (ix2 r k)) (second_lane v m r hm hg ha)

include hm hg ha hb in
/-- What the router writes to a lane: the first and the second expert of the chosen group take their shares, and no other
    lane takes any. -/
theorem combine_row (k : Fin 128) :
    k0_pay16 v k0_pay6 (k0_pay10 v k0_pay7 m) (k0_pay12 v k0_pay6 k0_pay7 m) (k0_pay13 v k0_pay6 k0_pay7 m)
      (k0_pay14 v k0_pay6 k0_pay7 m) (k0_pay15 v k0_pay6 k0_pay7 m) (ix2 r k) =
    (if k = a then Ideal.div 1 (groups (fun k => v (ix2 r k)) g) *
        Ideal.div 1 (1 + Ideal.exp (v (ix2 r b) - v (ix2 r a))) else 0) +
      (if k = b then Ideal.div 1 (groups (fun k => v (ix2 r k)) g) *
        (Ideal.exp (v (ix2 r b) - v (ix2 r a)) * Ideal.div 1 (1 + Ideal.exp (v (ix2 r b) - v (ix2 r a)))) else 0) := by
  have e : Finset.fold min (⊤ : EReal) (fun x => Scalar.select (IntOp.andi (k0_pay14 v k0_pay6 k0_pay7 m (ix2 r x))
      (BitVec.ofBool (decide (v (ix2 r x) = v (ix2 r b))))) ((x.val : ℝ) : EReal) (Ideal.ofBits .f32 1315859240#32)) Finset.univ =
      ((b.val : ℝ) : EReal) :=
    min_first hb (fun k => k0_pay14 v k0_pay6 k0_pay7 m (ix2 r k)) (second_lane v m r hm hg ha) _ (fun _ => rfl) _ beyond
  pointwise [k0_pay16]
  simp only [group_share v m r hm hg, expert_top v m r hm hg ha, expert_first v m r hm hg ha, second_top v m r hm hg ha hb, greatest, e, lane_number, lane_eq]

end Cert.Experts
-- ==== Proof.Weights.lean ====
module

public import proofs.«01_k».proof.Proof.RouterRow

@[expose] public section

noncomputable section

/-! The router's two accounts of an expert's weight are one: shares of the first group, and of the first two experts in it,
    taken over the largest exponentials; and quotients of exponentials, kept where few enough places come ahead. -/

namespace Cert.Experts

open Idealize.ShloMosaic

/-- The lane of a group's logit. -/
def groupLane (g : Fin 4) : Fin 128 := ⟨g.val, by omega⟩

/-- The lane of an expert's logit. -/
def expertLane (g : Fin 4) (e : Fin 8) : Fin 128 := ⟨4 + (g.val * 8 + e.val), by omega⟩

/-- A first place stays first when its row is laid into a longer one. -/
theorem First.map {n : ℕ} {φ : Fin n → Fin 128} (up : ∀ i j, i < j → φ i < φ j) {f : Fin 128 → EReal} {P : Fin n → Prop}
    {Q : Fin 128 → Prop} {a : Fin n} (h : First P (fun j => f (φ j)) a) (hq : ∀ k, Q k ↔ ∃ j, P j ∧ φ j = k) :
    First Q f (φ a) := by
  refine ⟨(hq _).2 ⟨a, h.1, rfl⟩, fun k hk hne => ?_⟩
  obtain ⟨j, hj, rfl⟩ := (hq k).1 hk
  rcases h.2 j hj (fun e => hne (by rw [e])) with h' | h'
  · exact .inl h'
  · exact .inr ⟨h'.1, up _ _ h'.2⟩

open Classical in
/-- An expert's probability in its group, kept for the first two of the group. -/
def top (f : Fin 128 → EReal) (base : Fin 4 → EReal) (g : Fin 4) (e : Fin 8) : EReal :=
  if (∑ j : Fin 8, if Ahead (fun j => f (expertLane g j)) j e then (1 : EReal) else 0) < 2 then
    Ideal.div (Ideal.exp (f (expertLane g e) - base g)) (∑ x : Fin 8, Ideal.exp (f (expertLane g x) - base g)) else 0

open Classical in
/-- A group's probability, kept for the first group. -/
def head (f : Fin 128 → EReal) (base : EReal) (g : Fin 4) : EReal :=
  if (∑ j : Fin 4, if Ahead (fun j => f (groupLane j)) j g then (1 : EReal) else 0) < 1 then
    Ideal.div (Ideal.exp (f (groupLane g) - base)) (∑ x : Fin 4, Ideal.exp (f (groupLane x) - base)) else 0

/-- The weight of an expert: the two kept probabilities of its group made to sum to that of the group. -/
def weight (f : Fin 128 → EReal) (base : EReal) (bases : Fin 4 → EReal) (g : Fin 4) (e : Fin 8) : EReal :=
  Ideal.div (head f base g * top f bases g e) (∑ x : Fin 8, top f bases g x)

/-- What the kernel's router writes to a lane, given the lanes it chose. -/
def share (f : Fin 128 → EReal) (g a b k : Fin 128) : EReal :=
  (if k = a then Ideal.div 1 (groups f g) * Ideal.div 1 (1 + Ideal.exp (f b - f a)) else 0) +
    (if k = b then Ideal.div 1 (groups f g) * (Ideal.exp (f b - f a) * Ideal.div 1 (1 + Ideal.exp (f b - f a))) else 0)

/-- The quotient of two real numbers, the second not nought. -/
theorem div_real (x y : ℝ) (h : y ≠ 0) : Ideal.div (x : EReal) (y : EReal) = ((x / y : ℝ) : EReal) := by
  rw [Ideal.div, if_neg (by exact_mod_cast h), div_eq_mul_inv, EReal.coe_mul, EReal.coe_inv]

/-- The exponential of a difference of real numbers. -/
theorem exp_real (x y : ℝ) : Ideal.exp ((x : EReal) - (y : EReal)) = ((Real.exp (x - y) : ℝ) : EReal) := by
  rw [← EReal.coe_sub]
  rfl

/-- A sum of real numbers. -/
theorem sum_real {n : ℕ} (x : Fin n → ℝ) : (∑ k, ((x k : ℝ) : EReal)) = ((∑ k, x k : ℝ) : EReal) := by
  induction n with
  | zero => simp
  | succ n ih => rw [Fin.sum_univ_succ, Fin.sum_univ_succ, ih, EReal.coe_add]

variable (l : Fin 128 → ℝ)

/-- The sum over the lanes of the groups is the sum over the groups. -/
theorem groups_real (g : Fin 128) :
    groups (fun k => (l k : EReal)) g = ((∑ x : Fin 4, Real.exp (l (groupLane x) - l g) : ℝ) : EReal) := by
  have h : (∑ k : Fin 128, if k.val < 4 then ((Real.exp (l k - l g) : ℝ) : EReal) else 0) =
      ∑ x : Fin 4, ((Real.exp (l (groupLane x) - l g) : ℝ) : EReal) := by
    rw [← Finset.sum_filter]
    refine (Finset.sum_nbij groupLane (fun x _ => ?_) (fun x _ y _ e => ?_) (fun k hk => ?_) (fun x _ => rfl)).symm
    · exact Finset.mem_filter.2 ⟨Finset.mem_univ _, x.2⟩
    · exact Fin.ext (Fin.mk.inj_iff.1 e)
    · have hk' : k.val < 4 := by simpa using hk
      exact ⟨⟨k.val, hk'⟩, by simp, rfl⟩
  rw [groups, ← sum_real, ← h]
  simp only [exp_real]

/-- The first group's share is its probability. -/
theorem share_head (base : ℝ) (g : Fin 4) :
    Ideal.div 1 (groups (fun k => (l k : EReal)) (groupLane g)) =
      Ideal.div (Ideal.exp ((l (groupLane g) : EReal) - base)) (∑ x : Fin 4, Ideal.exp ((l (groupLane x) : EReal) - base)) := by
  have pos : ∀ c : ℝ, 0 < ∑ x : Fin 4, Real.exp (l (groupLane x) - c) := fun c =>
    Finset.sum_pos (fun x _ => Real.exp_pos _) ⟨0, Finset.mem_univ _⟩
  simp only [exp_real]
  rw [groups_real, sum_real, ← EReal.coe_one, div_real _ _ (pos _).ne', div_real _ _ (pos _).ne', EReal.coe_eq_coe_iff,
    div_eq_div_iff (pos _).ne' (pos _).ne', one_mul, Finset.mul_sum]
  refine Finset.sum_congr rfl fun x _ => ?_
  rw [← Real.exp_add]
  congr 1
  ring

open Classical in
/-- The kept probabilities of a group, where its first two experts are known. -/
theorem top_real (bases : Fin 4 → ℝ) (g : Fin 4) {a b : Fin 8}
    (ha : First (fun _ => True) (fun j => (l (expertLane g j) : EReal)) a)
    (hb : First (fun k => k ≠ a) (fun j => (l (expertLane g j) : EReal)) b) (e : Fin 8) :
    top (fun k => (l k : EReal)) (fun g => bases g) g e =
      ((if e = a ∨ e = b then Real.exp (l (expertLane g e) - bases g) / (∑ x : Fin 8, Real.exp (l (expertLane g x) - bases g))
        else 0 : ℝ) : EReal) := by
  have pos : 0 < ∑ x : Fin 8, Real.exp (l (expertLane g x) - bases g) :=
    Finset.sum_pos (fun x _ => Real.exp_pos _) ⟨0, Finset.mem_univ _⟩
  rw [top]
  simp only [exp_real]
  rw [sum_real, div_real _ _ pos.ne']
  by_cases h : e = a ∨ e = b
  · rw [if_pos ((rank_two _ ha hb e).2 h), if_pos h]
  · rw [if_neg (fun h' => h ((rank_two _ ha hb e).1 h')), if_neg h, EReal.coe_zero]

/-- A choice between two places, summed over the places. -/
theorem sum_two {n : ℕ} (x : Fin n → ℝ) {a b : Fin n} (h : b ≠ a) :
    (∑ e, if e = a ∨ e = b then x e else 0) = x a + x b := by
  rw [← Finset.sum_filter]
  have : (Finset.univ.filter fun e => e = a ∨ e = b) = {a, b} := by
    ext e; simp
  rw [this, Finset.sum_pair h.symm]

open Classical in
/-- The two accounts of the weights agree: there are lanes the kernel's router chooses, and what it writes, given them, is
    each expert's weight. -/
theorem share_weight (base : ℝ) (bases : Fin 4 → ℝ) :
    ∃ g a b, First (fun k => k.val < 4) (fun k => (l k : EReal)) g ∧ First (Within g) (fun k => (l k : EReal)) a ∧
      First (fun k => Within g k ∧ k ≠ a) (fun k => (l k : EReal)) b ∧
      ∀ g' e', share (fun k => (l k : EReal)) g a b (expertLane g' e') =
        weight (fun k => (l k : EReal)) base (fun g => bases g) g' e' := by
  obtain ⟨g, hg⟩ := exists_first (fun _ : Fin 4 => True) (fun j => (l (groupLane j) : EReal)) ⟨0, trivial⟩
  have hA : ∀ g' : Fin 4, ∃ a : Fin 8, First (fun _ => True) (fun j => (l (expertLane g' j) : EReal)) a := fun g' =>
    exists_first _ _ ⟨0, trivial⟩
  choose A hA using hA
  have hB : ∀ g' : Fin 4, ∃ b : Fin 8, First (fun k => k ≠ A g') (fun j => (l (expertLane g' j) : EReal)) b := fun g' =>
    exists_first _ _ (exists_ne (A g'))
  choose B hB using hB
  have up4 : ∀ i j : Fin 4, i < j → groupLane i < groupLane j := fun i j h => h
  have up8 : ∀ i j : Fin 8, i < j → expertLane g i < expertLane g j := fun i j h => by
    show 4 + (g.val * 8 + i.val) < 4 + (g.val * 8 + j.val)
    have : i.val < j.val := h
    omega
  have inj : ∀ (g1 g2 : Fin 4) (i j : Fin 8), expertLane g1 i = expertLane g2 j → g1 = g2 ∧ i = j := fun g1 g2 i j h => by
    have : 4 + (g1.val * 8 + i.val) = 4 + (g2.val * 8 + j.val) := Fin.mk.inj_iff.1 h
    exact ⟨Fin.ext (by omega), Fin.ext (by omega)⟩
  have within : ∀ k, Within (groupLane g) k ↔ ∃ j, True ∧ expertLane g j = k := by
    intro k
    constructor
    · rintro ⟨h1, h2⟩
      have h1' : 4 + 8 * g.val ≤ k.val := h1
      have h2' : k.val < 12 + 8 * g.val := h2
      refine ⟨⟨k.val - (4 + 8 * g.val), by omega⟩, trivial, Fin.ext ?_⟩
      show 4 + (g.val * 8 + (k.val - (4 + 8 * g.val))) = k.val
      omega
    · rintro ⟨j, -, rfl⟩
      show 4 + 8 * g.val ≤ 4 + (g.val * 8 + j.val) ∧ 4 + (g.val * 8 + j.val) < 12 + 8 * g.val
      omega
  refine ⟨groupLane g, expertLane g (A g), expertLane g (B g), First.map (f := fun k => (l k : EReal)) up4 hg ?_,
    First.map (f := fun k => (l k : EReal)) up8 (hA g) within, First.map (f := fun k => (l k : EReal)) up8 (hB g) ?_, ?_⟩
  · intro k
    exact ⟨fun h => ⟨⟨k.val, h⟩, trivial, rfl⟩, fun ⟨j, _, e⟩ => e ▸ j.2⟩
  · intro k
    constructor
    · rintro ⟨h, hne⟩
      obtain ⟨j, -, rfl⟩ := (within k).1 h
      exact ⟨j, fun e => hne (by rw [e]), rfl⟩
    · rintro ⟨j, hj, rfl⟩
      exact ⟨(within _).2 ⟨j, trivial, rfl⟩, fun e => hj (inj _ _ _ _ e).2⟩
  · intro g' e'
    have S : 0 < ∑ x : Fin 8, Real.exp (l (expertLane g' x) - bases g') :=
      Finset.sum_pos (fun x _ => Real.exp_pos _) ⟨0, Finset.mem_univ _⟩
    have T : (∑ x, top (fun k => (l k : EReal)) (fun g => bases g) g' x) =
        ((Real.exp (l (expertLane g' (A g')) - bases g') / (∑ x : Fin 8, Real.exp (l (expertLane g' x) - bases g')) +
          Real.exp (l (expertLane g' (B g')) - bases g') / (∑ x : Fin 8, Real.exp (l (expertLane g' x) - bases g')) : ℝ) : EReal) := by
      simp only [top_real l bases g' (hA g') (hB g')]
      rw [sum_real, sum_two (fun e => Real.exp (l (expertLane g' e) - bases g') / (∑ x : Fin 8, Real.exp (l (expertLane g' x) - bases g'))) (hB g').1]
    have pT : Real.exp (l (expertLane g' (A g')) - bases g') / (∑ x : Fin 8, Real.exp (l (expertLane g' x) - bases g')) +
          Real.exp (l (expertLane g' (B g')) - bases g') / (∑ x : Fin 8, Real.exp (l (expertLane g' x) - bases g')) ≠ 0 :=
      (add_pos (div_pos (Real.exp_pos _) S) (div_pos (Real.exp_pos _) S)).ne'
    have sAB : ∀ i, expertLane g' e' = expertLane g i ↔ g' = g ∧ e' = i := fun i =>
      ⟨inj _ _ _ _, fun ⟨h1, h2⟩ => by rw [h1, h2]⟩
    rw [share, weight, T]
    simp only [sAB]
    by_cases hgg : g' = g
    · subst hgg
      have hh : head (fun k => (l k : EReal)) base g' = Ideal.div 1 (groups (fun k => (l k : EReal)) (groupLane g')) := by
        rw [share_head l base g', head, if_pos ((rank_one _ hg g').2 rfl)]
      have P : 0 < ∑ x : Fin 4, Real.exp (l (groupLane x) - l (groupLane g')) :=
        Finset.sum_pos (fun x _ => Real.exp_pos _) ⟨0, Finset.mem_univ _⟩
      have Q : (1 : ℝ) + Real.exp (l (expertLane g' (B g')) - l (expertLane g' (A g'))) ≠ 0 :=
        (add_pos one_pos (Real.exp_pos _)).ne'
      have ab : Real.exp (l (expertLane g' (B g')) - bases g') =
          Real.exp (l (expertLane g' (A g')) - bases g') * Real.exp (l (expertLane g' (B g')) - l (expertLane g' (A g'))) := by
        rw [← Real.exp_add]; congr 1; ring
      rw [hh, groups_real, top_real l bases g' (hA g') (hB g'), exp_real, ← EReal.coe_one, div_real _ _ P.ne', ← EReal.coe_add,
        div_real _ _ Q, ← EReal.coe_mul, ← EReal.coe_mul, ← EReal.coe_mul, ← EReal.coe_mul, div_real _ _ pT]
      have xp := Real.exp_pos (l (expertLane g' (A g')) - bases g')
      have yp := Real.exp_pos (l (expertLane g' (B g')) - l (expertLane g' (A g')))
      simp only [true_and]
      by_cases e1 : e' = A g'
      · have e2 : e' ≠ B g' := fun h => (hB g').1 (h ▸ e1)
        rw [if_pos e1, if_neg e2, if_pos (.inl e1), add_zero, EReal.coe_eq_coe_iff, e1, ab]
        field_simp
      · by_cases e2 : e' = B g'
        · rw [if_neg e1, if_pos e2, if_pos (.inr e2), zero_add, EReal.coe_eq_coe_iff, e2, ab]
          field_simp
        · rw [if_neg e1, if_neg e2, if_neg (not_or.2 ⟨e1, e2⟩), add_zero, mul_zero, zero_div, EReal.coe_zero]
    · have hh : head (fun k => (l k : EReal)) base g' = 0 := by
        rw [head, if_neg (fun h => hgg ((rank_one _ hg g').1 h))]
      rw [if_neg (fun h => hgg h.1), if_neg (fun h => hgg h.1), hh, zero_mul, ← EReal.coe_zero, div_real _ _ pT, zero_div,
        ← EReal.coe_add, add_zero]

end Cert.Experts
-- ==== Proof.MoeReal.lean ====
module

public import proofs.«01_k».proof.Proof.Weights

@[expose] public section

noncomputable section

/-! The extended numbers that are real, and what keeps them so: sums, products, and the root-mean-square quotient. -/

namespace Cert.Experts

open Idealize.ShloMosaic

/-- A number that is not infinite. -/
def Plain (x : EReal) : Prop := ∃ r : ℝ, x = r

/-- A sum of two real numbers is real. -/
theorem Plain.add {x y : EReal} : Plain x → Plain y → Plain (x + y) := by
  rintro ⟨a, rfl⟩ ⟨b, rfl⟩
  exact ⟨a + b, (EReal.coe_add a b).symm⟩

/-- A product of two real numbers is real. -/
theorem Plain.mul {x y : EReal} : Plain x → Plain y → Plain (x * y) := by
  rintro ⟨a, rfl⟩ ⟨b, rfl⟩
  exact ⟨a * b, (EReal.coe_mul a b).symm⟩

/-- A sum of real numbers is real. -/
theorem Plain.sum {n : ℕ} {f : Fin n → EReal} (h : ∀ i, Plain (f i)) : Plain (∑ i, f i) :=
  Finset.sum_induction f Plain (fun _ _ => Plain.add) ⟨0, EReal.coe_zero.symm⟩ fun i _ => h i

/-- A sum of squares is real and not negative. -/
theorem squares {n : ℕ} {f : Fin n → EReal} (h : ∀ i, Plain (f i)) : ∃ r : ℝ, 0 ≤ r ∧ ∑ i, f i * f i = r := by
  refine Finset.sum_induction (fun i => f i * f i) (fun x : EReal => ∃ r : ℝ, 0 ≤ r ∧ x = r) ?_ ⟨0, le_rfl, EReal.coe_zero.symm⟩ ?_
  · rintro _ _ ⟨a, ha, rfl⟩ ⟨b, hb, rfl⟩
    exact ⟨a + b, add_nonneg ha hb, (EReal.coe_add a b).symm⟩
  · intro i _
    obtain ⟨a, ha⟩ := h i
    exact ⟨a * a, mul_self_nonneg a, by rw [ha, EReal.coe_mul]⟩

/-- The row's length, as printed. -/
theorem width : Ideal.ofBits .f32 1149239296#32 = ((1024 : ℝ) : EReal) := by
  simp [Ideal.ofBits, Ideal.ieee, -EReal.coe_mul]
  norm_num

/-- The number under the root that keeps it from nought is positive. -/
theorem guard : ∃ r : ℝ, 0 < r ∧ Ideal.ofBits .f32 897988541#32 = (r : EReal) :=
  ⟨(8796093 : ℝ) / 2 ^ 43, by positivity, by
    simp [Ideal.ofBits, Ideal.ieee, -EReal.coe_mul]
    norm_num⟩

/-- The reciprocal root of a row's mean square is real. -/
theorem Plain.root {n : ℕ} {f : Fin n → EReal} (h : ∀ i, Plain (f i)) :
    Plain (Ideal.rsqrt (Ideal.div (∑ i, f i * f i) (Ideal.ofBits .f32 1149239296#32) + Ideal.ofBits .f32 897988541#32)) := by
  obtain ⟨s, hs, e⟩ := squares h
  obtain ⟨q, hq, e'⟩ := guard
  rw [e, e', width, div_real _ _ (by norm_num), ← EReal.coe_add]
  have : 0 < s / 1024 + q := by positivity
  refine ⟨(Real.sqrt (s / 1024 + q))⁻¹, ?_⟩
  show (if s / 1024 + q < 0 then ⊥ else if s / 1024 + q = 0 then ⊤ else (((Real.sqrt (s / 1024 + q))⁻¹ : ℝ) : EReal)) = _
  rw [if_neg (by linarith), if_neg (by linarith)]

/-- The largest of real numbers, over a set that is not empty, is real. -/
theorem Plain.largest {ι : Type} {s : Finset ι} {f : ι → EReal} (i : ι) (hi : i ∈ s) (h : ∀ i, Plain (f i)) :
    Plain (max (Ideal.ofBits .f32 4286578688#32) (Finset.fold max (Ideal.ofBits .f32 4286578688#32) f s)) := by
  rw [least, max_eq_right bot_le]
  refine ⟨(Finset.fold max ⊥ f s).toReal, (EReal.coe_toReal (ne_of_lt ?_) (ne_of_gt ?_)).symm⟩
  · refine (Finset.fold_max_lt _).2 ⟨bot_lt_top, fun x _ => ?_⟩
    obtain ⟨r, hr⟩ := h x
    rw [hr]
    exact EReal.coe_lt_top r
  · refine (Finset.lt_fold_max _).2 (Or.inr ⟨i, hi, ?_⟩)
    obtain ⟨r, hr⟩ := h i
    rw [hr]
    exact EReal.bot_lt_coe r

/-- A number whose magnitude is less than infinity is real. -/
theorem Plain.of_abs {x : EReal} (h : max x (-x) < ⊤) : Plain x := by
  refine ⟨x.toReal, (EReal.coe_toReal (ne_of_lt (lt_of_le_of_lt (le_max_left _ _) h)) ?_).symm⟩
  rintro rfl
  exact absurd (lt_of_le_of_lt (le_max_right _ _) h) (by simp)

end Cert.Experts
-- ==== Proof.MoeFinite.lean ====
module

public import Idealize.ShloMosaic.Lib.ReduceAll
public import proofs.«01_k».proof.Defs
public import proofs.«01_k».proof.Proof.MoeReal

@[expose] public section

noncomputable section

/-! What the precondition says: the arrays the router reads hold real numbers. -/

namespace Cert.Experts

open Idealize.ShloMosaic Idealize.ShloMosaic.TcCoe Idealize.SL.Sem
open Cert.MoeIdeal

/-- Infinity, as printed. -/
theorem infinity : Ideal.ofBits .f32 2139095040#32 = ⊤ := by
  simp [Ideal.ofBits, Ideal.ieee]

/-- Where all magnitudes are found below infinity, all entries are real. -/
theorem plain_of_below {S T U : Shape} [Subsingleton T.Idx] {axes : List (Fin S.rank)} {φ : FTy} (a t : FVec Ideal S φ)
    (ht : ∀ i, t i = (⊤ : EReal)) (one : IVec U 1) (d : S.ReducesTo axes T) (u : 0 < U.numel) (j : T.Idx)
    (e : Host.reduce IntOp.andi (cmpf .olt (Host.absf a) t) one d u j = 1#1) (i : S.Idx) : Plain (a i) := by
  have q : BitVec.ofBool (decide ((max (a i) (-(a i)) : EReal) < t i)) = 1#1 := Host.reduce_andi_all _ _ _ _ j e i
  rw [ht i] at q
  refine Plain.of_abs ?_
  by_contra h
  rw [decide_eq_false h] at q
  exact absurd q (by decide)

/-- The precondition's shapes fit. -/
theorem finite_facts : Cert.Pre_finite.Facts := by
  constructor <;> decide

variable [Cert.Pre_finite.Facts]

set_option maxHeartbeats 4000000 in
/-- The precondition, read entry by entry. -/
theorem finite_entries (a0 : FVec Ideal S16384x1024 .f32) (a1 : FVec Ideal S6x1024 .f32) (a2 a3 : FVec Ideal S1x1024 .f32) (a4 : FVec Ideal S1024x128 .bf16) (a5 : FVec Ideal S1x128 .f32) (a6 a7 : FVec Ideal S1024x8192 .bf16) (a8 : FVec Ideal S8192x1024 .bf16)
    (h : Cert.Pre_finite.fn (F := Ideal) a0 a1 a2 a3 a4 a5 a6 a7 a8 = fun _ => 1#1) :
    (∀ i, Plain (a0 i)) ∧ (∀ i, Plain (a1 i)) ∧ (∀ i, Plain (a2 i)) ∧ (∀ i, Plain (a4 i)) ∧ ∀ i, Plain (a5 i) := by
  have q := congrFun h ix0
  unfold Cert.Pre_finite.fn Cert.Pre_finite.fn_part1 at q
  dsimp only at q
  obtain ⟨q, q5⟩ := IntOp.andi_eq_one.1 q
  obtain ⟨q, q4⟩ := IntOp.andi_eq_one.1 q
  obtain ⟨q, q2⟩ := IntOp.andi_eq_one.1 q
  obtain ⟨q0, q1⟩ := IntOp.andi_eq_one.1 q
  exact ⟨plain_of_below _ _ (fun _ => infinity) _ _ _ _ q0, plain_of_below _ _ (fun _ => infinity) _ _ _ _ q1,
    plain_of_below _ _ (fun _ => infinity) _ _ _ _ q2, plain_of_below _ _ (fun _ => infinity) _ _ _ _ q4,
    plain_of_below _ _ (fun _ => infinity) _ _ _ _ q5⟩

end Cert.Experts
-- ==== Proof.MoeTurn.lean ====
module

public import proofs.«01_k».proof.Proof.Gen.MoeIdeal.Value
public import proofs.«01_k».proof.Proof.Weights

@[expose] public section

noncomputable section

/-! What each grid point of the experts' call leaves: the first of a block's four points normalises the rows, weighs the experts
    and takes a first turn from nought; the others take one turn each; the last one also writes the block back. -/

namespace Cert.Experts

open Idealize.ShloMosaic Idealize.ShloMosaic.TcCoe Idealize.SL.Sem
open Cert.MoeIdeal Cert.MoeIdeal.Gen Cert.MoeIdeal.Value
open Idealize.ShloMosaic.Pipeline (Dat)

variable (m : (ℓ : Loc nD τ sig) → Buf (Elt Ideal) ℓ) (c : Dev nD)

/-- Offsets of nought. -/
theorem offsets : (![0, 0] : Fin 2 → Nat) = fun _ => 0 := funext fun a => by fin_cases a <;> rfl

/-- The modulation's scale. -/
def scaleOf (x1 : Vec Ideal S6x1024 .f32) : Vec Ideal S1x1024 .f32 := View.ld x1 (Rect.unit ![4, 0] ![1, 1024] inb_S6x1024_S1x1024_4_0)

/-- The modulation's shift. -/
def shiftOf (x1 : Vec Ideal S6x1024 .f32) : Vec Ideal S1x1024 .f32 := View.ld x1 (Rect.unit ![3, 0] ![1, 1024] inb_S6x1024_S1x1024_3_0)

/-- The modulation's gate. -/
def gateOf (x1 : Vec Ideal S6x1024 .f32) : Vec Ideal S1x1024 .f32 := View.ld x1 (Rect.unit ![5, 0] ![1, 1024] inb_S6x1024_S1x1024_5_0)

/-- The block's rows, normalised and modulated. -/
def rowsOf (x0 : Vec Ideal S512x1024 .f32) (x1 : Vec Ideal S6x1024 .f32) (x2 : Vec Ideal S1x1024 .f32) : Vec Ideal S512x1024 .bf16 :=
  k0_pay4 x0 x2 (scaleOf x1) (shiftOf x1)

/-- The router's logits of the block's rows. -/
def logitsOf (x0 : Vec Ideal S512x1024 .f32) (x1 : Vec Ideal S6x1024 .f32) (x2 : Vec Ideal S1x1024 .f32) (x4 : Vec Ideal S1024x128 .bf16) (x5 : Vec Ideal S1x128 .f32) : Vec Ideal S512x128 .f32 :=
  k0_pay5 x0 x2 (scaleOf x1) (shiftOf x1) x4 x5

/-- The experts' weights that follow from logits and from their masked copy. -/
def combineOf (v w : FVec Ideal S512x128 .f32) : Vec Ideal S512x128 .f32 :=
  k0_pay16 (F := Ideal) v k0_pay6 (k0_pay10 v k0_pay7 w) (k0_pay12 v k0_pay6 k0_pay7 w) (k0_pay13 v k0_pay6 k0_pay7 w) (k0_pay14 (F := Ideal) v k0_pay6 k0_pay7 w) (k0_pay15 v k0_pay6 k0_pay7 w)

/-- The experts' weights of the block's rows. -/
def weightsOf (x0 : Vec Ideal S512x1024 .f32) (x1 : Vec Ideal S6x1024 .f32) (x2 : Vec Ideal S1x1024 .f32) (x4 : Vec Ideal S1024x128 .bf16) (x5 : Vec Ideal S1x128 .f32) : Vec Ideal S512x128 .f32 :=
  combineOf (logitsOf x0 x1 x2 x4 x5) (k0_pay8 x0 x2 (scaleOf x1) (shiftOf x1) x4 x5)

/-- The numbers of the lanes. -/
abbrev lanes : IVec S512x128 32 := iota .tc S512x128 32 [1] iota_S512x128_d1_w32

/-- One turn: what the eight experts of the point's group add. -/
def turn (i : grid0.Coords) (h : Vec Ideal S512x1024 .bf16) (w : Vec Ideal S512x128 .f32) (x6 x7 : Vec Ideal S1024x2048 .bf16) (x8 : Vec Ideal S2048x1024 .bf16) (a : Vec Ideal S512x1024 .f32) : Vec Ideal S512x1024 .f32 :=
  k0_pay1 (k0_pay19 i h x6 x7 w) (k0_pay20 (k0_pay18 h x6 x7) w lanes (Scalar.addi 4#32 (Scalar.muli (BitVec.ofNat 32 (i 1).val) 8#32)) 1#32)
    (k0_pay21 (BitVec.ofNat 32 (i 1).val) (k0_pay18 h x6 x7) w lanes) (k0_pay22 (BitVec.ofNat 32 (i 1).val) (k0_pay18 h x6 x7) w lanes)
    (k0_pay24 (k0_pay18 h x6 x7) (k0_pay23 (BitVec.ofNat 32 (i 1).val) w lanes)) (k0_pay25 (BitVec.ofNat 32 (i 1).val) (k0_pay18 h x6 x7) w lanes)
    (k0_pay26 (BitVec.ofNat 32 (i 1).val) (k0_pay18 h x6 x7) w lanes) (k0_pay27 (BitVec.ofNat 32 (i 1).val) (k0_pay18 h x6 x7) w lanes) a x8

/-- What the buffer of the rows holds is what was put there. -/
theorem held0 (x : Vec Ideal S512x1024 .bf16) : View.read (Elt Ideal) (View.whole cc0_scratch0) ((Memref.isWhole_whole cc0_scratch0).unread x) = x :=
  (Memref.isWhole_whole cc0_scratch0).read_unread x

/-- What the buffer of the weights holds is what was put there. -/
theorem held1 (x : Vec Ideal S512x128 .f32) : View.read (Elt Ideal) (View.whole cc0_scratch1) ((Memref.isWhole_whole cc0_scratch1).unread x) = x :=
  (Memref.isWhole_whole cc0_scratch1).read_unread x

/-- What the buffer of the sum holds is what was put there. -/
theorem held2 (x : Vec Ideal S512x1024 .f32) : View.read (Elt Ideal) (View.whole cc0_scratch2) ((Memref.isWhole_whole cc0_scratch2).unread x) = x :=
  (Memref.isWhole_whole cc0_scratch2).read_unread x

variable (t : Fin cfg0.N) (acc : Vec Ideal S512x1024 .f32 × Vec Ideal S512x1024 .bf16 × Vec Ideal S512x128 .f32 × Vec Ideal S512x1024 .f32)

set_option maxHeartbeats 4000000 in
/-- The first point of a block leaves the normalised rows. -/
theorem first_rows (h0 : t.val % 4 = 0) (h1 : ¬t.val % 4 = 3) :
    (stAt0 m c t.val t.isLt acc).2.1 = rowsOf (iblk m c 0 t) (iblk m c 1 t) (iblk m c 2 t) := by
  rw [stAt0_A m c t acc h0 h1]
  dsimp only
  unfold sout0_A_0
  refine (View.read_writes_eq_canon _ _ _ (fun y => scover0_A_0 ..)).trans ?_
  unfold kernelRun0_A
  dsimp only
  sl_unfold_words
  rw [View.canon_unit_zero offsets]
  simp only [View.readAt_eq_ld, Memref.IsWhole.read_unread, View.ld_unit_zero (S := S512x1024) offsets, View.ld_unit_zero (S := S1x1024) offsets]
  rfl

set_option maxHeartbeats 4000000 in
/-- The first point of a block leaves the experts' weights. -/
theorem first_weights (h0 : t.val % 4 = 0) (h1 : ¬t.val % 4 = 3) :
    (stAt0 m c t.val t.isLt acc).2.2.1 = weightsOf (iblk m c 0 t) (iblk m c 1 t) (iblk m c 2 t) (iblk m c 4 t) (iblk m c 5 t) := by
  rw [stAt0_A m c t acc h0 h1]
  dsimp only
  unfold sout0_A_1
  refine (View.read_writes_eq_canon _ _ _ (fun y => scover0_A_1 ..)).trans ?_
  unfold kernelRun0_A
  dsimp only
  sl_unfold_words
  rw [View.canon_unit_zero offsets]
  simp only [View.readAt_eq_ld, Memref.IsWhole.read_unread, View.ld_unit_zero (S := S512x1024) offsets, View.ld_unit_zero (S := S1x1024) offsets, View.ld_unit_zero (S := S1024x128) offsets, View.ld_unit_zero (S := S1x128) offsets]
  rfl

set_option maxHeartbeats 4000000 in
/-- The first point of a block takes its turn from nought. -/
theorem first_turn (h0 : t.val % 4 = 0) (h1 : ¬t.val % 4 = 3) :
    (stAt0 m c t.val t.isLt acc).2.2.2 = turn (grid0.coords t) (rowsOf (iblk m c 0 t) (iblk m c 1 t) (iblk m c 2 t))
      (weightsOf (iblk m c 0 t) (iblk m c 1 t) (iblk m c 2 t) (iblk m c 4 t) (iblk m c 5 t)) (iblk m c 6 t) (iblk m c 7 t) (iblk m c 8 t) (k0_pay17 (F := Ideal)) := by
  rw [stAt0_A m c t acc h0 h1]
  dsimp only
  unfold sout0_A_2
  refine (View.read_writes_eq_canon _ _ _ (fun y => scover0_A_2 ..)).trans ?_
  unfold kernelRun0_A
  dsimp only
  sl_unfold_words
  rw [View.canon_cons_unit_zero offsets]
  simp only [View.readAt_eq_ld, Memref.IsWhole.read_unread, View.ld_unit_zero (S := S512x1024) offsets, View.ld_unit_zero (S := S1x1024) offsets, View.ld_unit_zero (S := S1024x128) offsets, View.ld_unit_zero (S := S1x128) offsets, View.ld_unit_zero (S := S1024x2048) offsets, View.ld_unit_zero (S := S2048x1024) offsets, View.readCov_unit_zero (S := S512x1024) _ offsets, View.readCov_unit_zero (S := S512x128) _ offsets]
  rfl

set_option maxHeartbeats 4000000 in
/-- A middle point keeps rows and weights, and takes its turn from what the point before left. -/
theorem middle_turn (h0 : ¬t.val % 4 = 0) (h1 : ¬t.val % 4 = 3) :
    (stAt0 m c t.val t.isLt acc).2 = (acc.2.1, acc.2.2.1, turn (grid0.coords t) acc.2.1 acc.2.2.1 (iblk m c 6 t) (iblk m c 7 t) (iblk m c 8 t) acc.2.2.2) := by
  rw [stAt0_B m c t acc h0 h1]
  refine congrArg (fun z => (acc.2.1, acc.2.2.1, z)) ?_
  unfold sout0_B_2
  refine (View.read_writes_eq_canon _ _ _ (fun y => scover0_B_2 ..)).trans ?_
  unfold kernelRun0_B
  dsimp only
  sl_unfold_words
  rw [View.canon_cons_unit_zero offsets]
  simp only [View.readAt_eq_ld, Memref.IsWhole.read_unread, View.ld_unit_zero (S := S512x1024) offsets, View.ld_unit_zero (S := S512x128) offsets, View.ld_unit_zero (S := S1024x2048) offsets, View.ld_unit_zero (S := S2048x1024) offsets, held0, held1, held2]
  rfl

set_option maxHeartbeats 4000000 in
/-- The last point of a block writes back the rows with the gated, normalised sum of the turns added. -/
theorem last_turn (h0 : ¬t.val % 4 = 0) (h1 : t.val % 4 = 3) :
    (stAt0 m c t.val t.isLt acc).1 = k0_pay2 (iblk m c 0 t) (gateOf (iblk m c 1 t))
      (turn (grid0.coords t) acc.2.1 acc.2.2.1 (iblk m c 6 t) (iblk m c 7 t) (iblk m c 8 t) acc.2.2.2) (iblk m c 3 t) := by
  rw [stAt0_C m c t acc h0 h1]
  dsimp only
  unfold out0_C_9
  refine (View.read_writes_eq_canon _ _ _ (fun y => cover0_C_9 ..)).trans ?_
  unfold kernelRun0_C
  dsimp only
  sl_unfold_words
  rw [View.canon_cons_unit_zero offsets]
  simp only [View.readAt_eq_ld, Memref.IsWhole.read_unread, View.ld_unit_zero (S := S512x1024) offsets, View.ld_unit_zero (S := S1x1024) offsets, View.ld_unit_zero (S := S512x128) offsets, View.ld_unit_zero (S := S1024x2048) offsets, View.ld_unit_zero (S := S2048x1024) offsets, View.readCov_unit_zero (S := S512x1024) _ offsets, held0, held1, held2]
  rfl

end Cert.Experts
-- ==== Proof.MoeNames.lean ====
module

public import proofs.«01_k».proof.Proof.Gen.MoeReferenceIdeal.Run

@[expose] public section

noncomputable section

/-! The reference's result as a function of the arguments, under the name the proofs use. -/

namespace Cert.Experts

open Idealize.ShloMosaic Idealize.ShloMosaic.TcCoe Idealize.SL.Sem
open Cert.MoeReferenceIdeal Cert.MoeReferenceIdeal.Gen Cert.MoeReferenceIdeal.Value

variable {F : FTy → Type} [FloatOps F] [Cert.MoeReferenceIdeal.Facts]

/-- The layer's output: the input plus the gated, normalised sum of the experts. -/
def outcome (V : Valuation τ sig (Elt F)) : FVec F S16384x1024 .f32 :=
  addf (V (Proc.devRef .tc main_arg0)) (mulf (broadcastInDim S16384x1024 ![0, 1] bcast_S1x1024_S16384x1024_0_1 (broadcastInDim S1x1024 ![1] bcast_S1024_S1x1024_1 (shapeCast _ (extractStridedSlice S1x1024 ![5, 0] (V (Proc.devRef .tc main_arg1)) slices_S6x1024_S1x1024_5_0) shapeCasts_S1x1024_S1024))) (mulf (mulf (res_main_v125 V) (broadcastInDim S16384x1024 ![0, 1] bcast_S16384x1_S16384x1024_0_1 (Host.rsqrt (addf (Host.divf (broadcastInDim S16384x1 ![0] bcast_S16384_S16384x1_0 (Host.reduceAdd (mulf (res_main_v125 V) (res_main_v125 V)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (V (Proc.devRef .tc main_arg3)) shapeCasts_S1x1024_S1024)))))

end Cert.Experts
-- ==== Proof.MoeBlock.lean ====
module

public import proofs.«01_k».proof.Proof.MoeTurn
public import proofs.«01_k».proof.Proof.MoeNames

@[expose] public section

noncomputable section

/-! A block's rows, logits and write-back are the reference's, when its rows of `x` are. -/

namespace Cert.Experts

open Idealize.ShloMosaic Idealize.ShloMosaic.TcCoe Idealize.SL.Sem
open Cert.MoeIdeal Cert.MoeIdeal.Gen Cert.MoeIdeal.Value
open Cert.MoeReferenceIdeal.Value (res_main_v27 res_main_v33 res_main_v125)

variable [Cert.MoeReferenceIdeal.Facts] (V : Valuation Cert.MoeReferenceIdeal.τ Cert.MoeReferenceIdeal.sig (Elt Ideal))

/-- The reference's argument 0. -/
abbrev b0 : FVec Ideal S16384x1024 .f32 := V (Proc.devRef .tc Cert.MoeReferenceIdeal.main_arg0)
/-- The reference's argument 1. -/
abbrev b1 : FVec Ideal S6x1024 .f32 := V (Proc.devRef .tc Cert.MoeReferenceIdeal.main_arg1)
/-- The reference's argument 2. -/
abbrev b2 : FVec Ideal S1x1024 .f32 := V (Proc.devRef .tc Cert.MoeReferenceIdeal.main_arg2)
/-- The reference's argument 3. -/
abbrev b3 : FVec Ideal S1x1024 .f32 := V (Proc.devRef .tc Cert.MoeReferenceIdeal.main_arg3)
/-- The reference's argument 4. -/
abbrev b4 : FVec Ideal S1024x128 .bf16 := V (Proc.devRef .tc Cert.MoeReferenceIdeal.main_arg4)
/-- The reference's argument 5. -/
abbrev b5 : FVec Ideal S1x128 .f32 := V (Proc.devRef .tc Cert.MoeReferenceIdeal.main_arg5)
/-- The reference's argument 6. -/
abbrev b6 : FVec Ideal S1024x8192 .bf16 := V (Proc.devRef .tc Cert.MoeReferenceIdeal.main_arg6)
/-- The reference's argument 7. -/
abbrev b7 : FVec Ideal S1024x8192 .bf16 := V (Proc.devRef .tc Cert.MoeReferenceIdeal.main_arg7)
/-- The reference's argument 8. -/
abbrev b8 : FVec Ideal S8192x1024 .bf16 := V (Proc.devRef .tc Cert.MoeReferenceIdeal.main_arg8)

variable (x : Vec Ideal S512x1024 .f32) (r : Fin 512) (R : Fin 16384)

set_option maxHeartbeats 4000000 in
/-- A block's normalised and modulated row is the reference's. -/
theorem rows_row (hx : ∀ k : Fin 1024, x (ix2 r k) = b0 V (ix2 R k)) (k : Fin 1024) :
    rowsOf x (b1 V) (b2 V) (ix2 r k) = res_main_v27 V (ix2 R k) := by
  pointwise [rowsOf, k0_pay4, k0_pay3, scaleOf, shiftOf, res_main_v27]
  simp only [hx]

set_option maxHeartbeats 4000000 in
/-- A block's row of logits is the reference's. -/
theorem logits_row (hx : ∀ k : Fin 1024, x (ix2 r k) = b0 V (ix2 R k)) (l : Fin 128) :
    logitsOf x (b1 V) (b2 V) (b4 V) (b5 V) (ix2 r l) = res_main_v33 V (ix2 R l) := by
  pointwise [logitsOf, k0_pay5, k0_pay3, scaleOf, shiftOf, res_main_v33, res_main_v27]
  simp only [hx]

set_option maxHeartbeats 4000000 in
/-- The masked logits: those of the groups' lanes, and the least number elsewhere. -/
theorem masked_row (x1 : Vec Ideal S6x1024 .f32) (x2 : Vec Ideal S1x1024 .f32) (x4 : Vec Ideal S1024x128 .bf16) (x5 : Vec Ideal S1x128 .f32) (k : Fin 128) :
    k0_pay8 x x2 (scaleOf x1) (shiftOf x1) x4 x5 (ix2 r k) = Scalar.select (k0_pay7 (ix2 r k)) (logitsOf x x1 x2 x4 x5 (ix2 r k)) ⊥ := by
  pointwise [k0_pay8, logitsOf, k0_pay7]
  simp only [least]

set_option maxHeartbeats 4000000 in
/-- The result's row is the reference's, when the row of the experts' sum is. -/
theorem result_row (hx : ∀ k : Fin 1024, x (ix2 r k) = b0 V (ix2 R k)) (a : Vec Ideal S512x1024 .f32)
    (ha : ∀ k : Fin 1024, a (ix2 r k) = res_main_v125 V (ix2 R k)) (n : Fin 1024) :
    k0_pay2 x (gateOf (b1 V)) a (b3 V) (ix2 r n) = outcome V (ix2 R n) := by
  pointwise [k0_pay2, gateOf, outcome]
  simp only [hx, ha]

end Cert.Experts
-- ==== Proof.MoeReference.lean ====
module

public import proofs.«01_k».proof.Proof.MoeReal
public import proofs.«01_k».proof.Proof.MoeBlock

@[expose] public section

noncomputable section

/-! The reference's experts: each row's sum over all hidden columns, each column weighed by its expert's weight; and the weights
    are made of real logits when the router's arrays are real. -/

namespace Cert.Experts

open Idealize.ShloMosaic Idealize.ShloMosaic.TcCoe Idealize.SL.Sem
open Cert.MoeIdeal Cert.MoeIdeal.Gen
open Cert.MoeReferenceIdeal.Value (res_main_v27 res_main_v33 res_main_v125 res_main_v34 res_main_v36 res_main_v43 res_main_v54 res_main_v82 res_main_v83 res_main_v84 res_main_v59 res_main_v60 res_main_v61 res_main_v104 res_main_v115)

variable [Cert.MoeReferenceIdeal.Facts] (V : Valuation Cert.MoeReferenceIdeal.τ Cert.MoeReferenceIdeal.sig (Elt Ideal))

/-- The arrays the router reads hold real numbers. -/
structure RealArrays : Prop where
  x : ∀ i, Plain (b0 V i)
  modulation : ∀ i, Plain (b1 V i)
  scale : ∀ i, Plain (b2 V i)
  router : ∀ i, Plain (b4 V i)
  bias : ∀ i, Plain (b5 V i)

set_option maxHeartbeats 4000000 in
/-- Every logit is real. -/
theorem logits_real (h : RealArrays V) (R : Fin 16384) (l : Fin 128) : Plain (res_main_v33 V (ix2 R l)) := by
  pointwise [res_main_v33, res_main_v27]
  exact .add (.sum fun k => .mul (.add (.mul (.mul (.mul (h.x _) (.root fun k => h.x _)) (h.scale _)) (.add ⟨1, EReal.coe_one.symm⟩ (h.modulation _))) (h.modulation _)) (h.router _)) (h.bias _)

/-- The logits of row `R`. -/
def logitRow (R : Fin 16384) (k : Fin 128) : EReal := res_main_v33 V (ix2 R k)

/-- What the reference takes from a row's group logits. -/
def base (R : Fin 16384) : EReal :=
  max (Ideal.ofBits .f32 4286578688#32) (Finset.fold max (Ideal.ofBits .f32 4286578688#32)
    (fun x : Cert.MoeReferenceIdeal.S16384x4.Idx => res_main_v33 V (ix2 (x 0) ⟨(x 1).val, by have := (x 1).isLt; change (x 1).val < 4 at this; omega⟩))
    {i | Cert.MoeReferenceIdeal.Gen.reducesTo_S16384x4_S16384_d1.drop i = ix1 R})

/-- What the reference takes from the logits of a row's group of experts. -/
def bases (R : Fin 16384) (g : Fin 4) : EReal :=
  max (Ideal.ofBits .f32 4286578688#32) (Finset.fold max (Ideal.ofBits .f32 4286578688#32)
    (fun x : Cert.MoeReferenceIdeal.S16384x4x8.Idx => res_main_v33 V (ix2 (x 0) ⟨4 + ((x 1).val * 8 + (x 2).val), by
      have := (x 1).isLt; change (x 1).val < 4 at this; have h := (x 2).isLt; change (x 2).val < 8 at h; omega⟩))
    {i | Cert.MoeReferenceIdeal.Gen.reducesTo_S16384x4x8_S16384x4_d2.drop i = ix2 R g})

/-- It is real. -/
theorem base_real (h : RealArrays V) (R : Fin 16384) : Plain (base V R) :=
  .largest (ix2 R (0 : Fin 4)) (Finset.mem_filter.2 ⟨Finset.mem_univ _, funext fun d => match d with | ⟨0, _⟩ => rfl⟩) fun _ => logits_real V h _ _

/-- They are real. -/
theorem bases_real (h : RealArrays V) (R : Fin 16384) (g : Fin 4) : Plain (bases V R g) :=
  .largest (ix3 R g (0 : Fin 8)) (Finset.mem_filter.2 ⟨Finset.mem_univ _, funext fun d => match d with | ⟨0, _⟩ => rfl | ⟨1, _⟩ => rfl⟩) fun _ => logits_real V h _ _

set_option maxHeartbeats 4000000 in
/-- The reference's exponentials of the groups. -/
theorem group_exp (R : Fin 16384) (g : Fin 4) : res_main_v43 V (ix2 R g) = Ideal.exp (logitRow V R (groupLane g) - base V R) := by
  pointwise [res_main_v43, res_main_v34]
  refine congrArg Ideal.exp (congrArg₂ _ rfl ?_)
  unfold base
  refine congrArg₂ max rfl (congrArg (fun z => Finset.fold max _ z _) ?_)
  rfl

set_option maxHeartbeats 4000000 in
/-- The reference's exponentials of the experts. -/
theorem expert_exp (R : Fin 16384) (g : Fin 4) (e : Fin 8) : res_main_v54 V (ix3 R g e) = Ideal.exp (logitRow V R (expertLane g e) - bases V R g) := by
  pointwise [res_main_v54, res_main_v36]
  refine congrArg Ideal.exp (congrArg₂ _ rfl ?_)
  unfold bases
  refine congrArg₂ max rfl (congrArg (fun z => Finset.fold max _ z _) ?_)
  rfl

/-- A bit counted as a number. -/
theorem bit_number (b : Bool) : FloatOps.uitofp (F := Ideal) .f32 (BitVec.ofBool b) = if b then (1 : EReal) else 0 := by
  cases b <;> simp [FloatOps.uitofp]

/-- The reference's test that one place comes ahead of another, as a number. -/
theorem bit_ahead {n : ℕ} (hn : n < 2 ^ 31) (f : Fin n → EReal) (j i : Fin n) {_ : Decidable (f i < f j)} {_ : Decidable (f j = f i)} {_ : Decidable (Ahead f j i)} :
    FloatOps.uitofp (F := Ideal) .f32 (IntOp.ori (BitVec.ofBool (decide (f i < f j))) (IntOp.andi (BitVec.ofBool (decide (f j = f i)))
      (IntOp.cmpi .slt (BitVec.ofNat 32 j.val) (BitVec.ofNat 32 i.val)))) = if Ahead f j i then (1 : EReal) else 0 := by
  have hs : IntOp.cmpi .slt (BitVec.ofNat 32 j.val) (BitVec.ofNat 32 i.val) = BitVec.ofBool (decide (j < i)) := by
    have hj : (BitVec.ofNat 32 j.val).toInt = j.val := by
      have := j.isLt
      simp only [BitVec.toInt_eq_toNat_bmod, BitVec.toNat_ofNat, Int.bmod_def]
      omega
    have hi : (BitVec.ofNat 32 i.val).toInt = i.val := by
      have := i.isLt
      simp only [BitVec.toInt_eq_toNat_bmod, BitVec.toNat_ofNat, Int.bmod_def]
      omega
    simp only [IntOp.cmpi, BitVec.slt, hj, hi]
    exact congrArg BitVec.ofBool (decide_eq_decide.2 (by rw [Fin.lt_def]; exact Int.ofNat_lt))
  have e : IntOp.ori (BitVec.ofBool (decide (f i < f j))) (IntOp.andi (BitVec.ofBool (decide (f j = f i))) (BitVec.ofBool (decide (j < i)))) =
      BitVec.ofBool (decide (f i < f j) || (decide (f j = f i) && decide (j < i))) := by
    cases decide (f i < f j) <;> cases decide (f j = f i) <;> cases decide (j < i) <;> rfl
  rw [hs, e, bit_number]
  refine if_congr ?_ rfl rfl
  simp only [Bool.or_eq_true, Bool.and_eq_true, decide_eq_true_eq]
  exact or_congr Iff.rfl (and_congr eq_comm Iff.rfl)

/-- Two choices between equals on equivalent tests are equal. -/
theorem pick {p q : Prop} {_ : Decidable p} {_ : Decidable q} {a a' b b' : EReal} (h : p ↔ q) (ha : a = a') (hb : b = b') : (if p then a else b) = if q then a' else b' := by
  subst ha hb
  exact if_congr h rfl rfl

/-- Two, as printed. -/
theorem two : Ideal.ofBits .f32 1073741824#32 = 2 := by
  simp [Ideal.ofBits, Ideal.ieee, -EReal.coe_mul]
  norm_num
  rfl

/-- Nought, as printed. -/
theorem nought (i : Cert.MoeReferenceIdeal.S_.Idx) : id (constant (F := Ideal) Cert.MoeReferenceIdeal.S_ .f32 0#32) i = (0 : EReal) := by
  show Ideal.ofBits .f32 0#32 = 0
  simp [Ideal.ofBits, Ideal.ieee]

set_option maxHeartbeats 4000000 in
/-- The reference keeps an expert's share where fewer than two of its group come ahead of it. -/
theorem kept_share (R : Fin 16384) (g : Fin 4) (e : Fin 8) : res_main_v104 V (ix3 R g e) = top (logitRow V R) (bases V R) g e := by
  pointwise [res_main_v104, res_main_v82, res_main_v83, res_main_v84, res_main_v36]
  refine pick ?_ ?_ (nought _)
  · rw [two]
    exact Eq.to_iff (congrArg (· < (2 : EReal)) (Finset.sum_congr rfl fun x _ => bit_ahead (by norm_num) (fun j => logitRow V R (expertLane g j)) x e))
  · simp only [expert_exp]

/-- The group of a hidden column. -/
def groupOf (x : Fin 8192) : Fin 4 := ⟨x.val / 256 / 8, by omega⟩

/-- The expert, within its group, of a hidden column. -/
def memberOf (x : Fin 8192) : Fin 8 := ⟨x.val / 256 % 8, by omega⟩

/-- Row `R`, normalised and modulated. -/
abbrev rowAt (R : Fin 16384) (k : Fin 1024) : EReal := res_main_v27 V (ix2 R k)

/-- A hidden column's entry in the gating array. -/
abbrev gateAt (k : Fin 1024) (x : Fin 8192) : EReal := b6 V (ix2 k x)

/-- A hidden column's entry in the other array. -/
abbrev upAt (k : Fin 1024) (x : Fin 8192) : EReal := b7 V (ix2 k x)

/-- A hidden column's value for row `R`. -/
def hidden (R : Fin 16384) (x : Fin 8192) : EReal :=
  (∑ k : Fin 1024, rowAt V R k * gateAt V k x) * Ideal.div 1 (1 + Ideal.exp (-∑ k : Fin 1024, rowAt V R k * gateAt V k x)) *
    ∑ k : Fin 1024, rowAt V R k * upAt V k x

/-- What a hidden column adds to row `R` at column `n`. -/
def term (R : Fin 16384) (n : Fin 1024) (x : Fin 8192) : EReal :=
  hidden V R x * weight (logitRow V R) (base V R) (bases V R) (groupOf x) (memberOf x) * (b8 V (ix2 x n) : EReal)

set_option maxHeartbeats 4000000 in
/-- The reference's experts together. -/
theorem experts_sum (R : Fin 16384) (n : Fin 1024) : @Eq EReal (res_main_v125 V (ix2 R n)) (∑ x : Fin 8192, term V R n x) := by
  pointwise [res_main_v125, res_main_v59, res_main_v60, res_main_v61, res_main_v34, res_main_v115]
  refine Finset.sum_congr rfl fun x _ => congrArg₂ _ (congrArg₂ _ rfl (congrArg₂ Ideal.div (congrArg₂ _ ?_ (kept_share V R (groupOf x) (memberOf x)))
    (Finset.sum_congr rfl fun y _ => kept_share V R (groupOf x) y))) rfl
  refine pick ?_ ?_ (nought _)
  · exact Eq.to_iff (congrArg (· < (1 : EReal)) (Finset.sum_congr rfl fun y _ => bit_ahead (by norm_num) (fun j => logitRow V R (groupLane j)) y (groupOf x)))
  · simp only [group_exp]
    rfl

end Cert.Experts
-- ==== Proof.MoeRow.lean ====
module

public import proofs.«01_k».proof.Proof.MoeTurn

@[expose] public section

noncomputable section

/-! One turn of the experts, row by row: each of the group's eight experts takes its 256 hidden columns, times its weight. -/

namespace Cert.Experts

open Idealize.ShloMosaic Idealize.ShloMosaic.TcCoe Idealize.SL.Sem
open Cert.MoeIdeal Cert.MoeIdeal.Gen Cert.MoeIdeal.Value

/-- The lane a group's expert is looked up by is that expert's lane. -/
theorem lane_found : ∀ (j : Fin 4) (e : Fin 8) (x : Fin 128),
    IntOp.cmpi .eq (BitVec.ofNat 32 x.val) (Scalar.addi (Scalar.addi 4#32 (Scalar.muli (BitVec.ofNat 32 j.val) 8#32)) (BitVec.ofNat 32 e.val)) =
      if x = expertLane j e then 1#1 else 0#1 := by
  decide +kernel

/-- Summing a row masked to one expert's lane gives that lane. -/
theorem lane_sum (f : Fin 128 → EReal) (j : Fin 4) (e : Fin 8) :
    (∑ x : Fin 128, Scalar.select (IntOp.cmpi .eq (BitVec.ofNat 32 x.val)
      (Scalar.addi (Scalar.addi 4#32 (Scalar.muli (BitVec.ofNat 32 j.val) 8#32)) (BitVec.ofNat 32 e.val))) (f x) 0) = f (expertLane j e) := by
  simp only [lane_found]
  rw [Finset.sum_eq_single (expertLane j e)]
  · simp [Scalar.select]
  · intro x _ hx
    simp [Scalar.select, hx]
  · simp

/-- The expert of a group that a hidden column belongs to. -/
def expertOf (x : Fin 2048) : Fin 8 := ⟨x.val / 256, by omega⟩

/-- A hidden column times its expert's weight. -/
theorem part_column (b : Vec Ideal S512x2048 .f32) (w : Vec Ideal S512x128 .f32) (j : Fin 4) (r : Fin 512) (x y : Fin 2048) (E : BitVec 32)
    (hE : E = BitVec.ofNat 32 (x.val / 256)) (hy : y.val = x.val) :
    b (ix2 r y) * (∑ x : Fin 128, Scalar.select (IntOp.cmpi .eq (BitVec.ofNat 32 x.val)
      (Scalar.addi (Scalar.addi 4#32 (Scalar.muli (BitVec.ofNat 32 j.val) 8#32)) E)) (w (ix2 r x)) 0) =
      b (ix2 r x) * w (ix2 r (expertLane j (expertOf x))) := by
  obtain rfl : y = x := Fin.ext hy
  rw [hE]
  exact congrArg _ (lane_sum (fun k => w (ix2 r k)) j (expertOf y))

set_option maxHeartbeats 4000000 in
/-- What a turn adds to a row. -/
theorem turn_row (i : grid0.Coords) (h : Vec Ideal S512x1024 .bf16) (w : Vec Ideal S512x128 .f32) (x6 x7 : Vec Ideal S1024x2048 .bf16) (x8 : Vec Ideal S2048x1024 .bf16) (a : Vec Ideal S512x1024 .f32)
    (j : Fin 4) (hj : (i 1).val = j.val) (r : Fin 512) (n : Fin 1024) :
    turn i h w x6 x7 x8 a (ix2 r n) = a (ix2 r n) +
      ∑ x : Fin 2048, k0_pay18 (F := Ideal) h x6 x7 (ix2 r x) * w (ix2 r (expertLane j (expertOf x))) * x8 (ix2 x n) := by
  generalize hb : (fun x : Fin 2048 => k0_pay18 (F := Ideal) h x6 x7 (ix2 r x) * w (ix2 r (expertLane j (expertOf x)))) = q
  have hq : ∀ x, q x = k0_pay18 (F := Ideal) h x6 x7 (ix2 r x) * w (ix2 r (expertLane j (expertOf x))) := fun x => by rw [← hb]
  simp only [← hq]
  pointwise [turn, k0_pay1, k0_pay19, k0_pay20, k0_pay21, k0_pay22, k0_pay23, k0_pay24, k0_pay25, k0_pay26, k0_pay27, lanes]
  simp only [hj]
  refine congrArg (fun z => a (ix2 r n) + z) (Finset.sum_congr rfl fun x _ => congrArg (fun z => z * x8 (ix2 x n)) ?_)
  have hx := x.isLt
  rw [hq]
  split_ifs <;> exact part_column _ w j r x _ _ (congrArg (BitVec.ofNat 32) (by omega)) (by first | omega | (dsimp only; omega))

end Cert.Experts
-- ==== Proof.MoeRouted.lean ====
module

public import proofs.«01_k».proof.Proof.MoeReference
public import proofs.«01_k».proof.Proof.MoeRow

@[expose] public section

noncomputable section

/-! A block's weights and turns against the reference: the router's shares are the reference's weights, and each turn adds the
    terms of its quarter of the hidden columns. -/

namespace Cert.Experts

open Idealize.ShloMosaic Idealize.ShloMosaic.TcCoe Idealize.SL.Sem
open Cert.MoeIdeal Cert.MoeIdeal.Gen Cert.MoeIdeal.Value
open Cert.MoeReferenceIdeal.Value (res_main_v27 res_main_v33 res_main_v125)

variable [Cert.MoeReferenceIdeal.Facts] (V : Valuation Cert.MoeReferenceIdeal.τ Cert.MoeReferenceIdeal.sig (Elt Ideal))

/-- A block's row of weights is the reference's. -/
theorem weights_row (h : RealArrays V) (x : Vec Ideal S512x1024 .f32) (r : Fin 512) (R : Fin 16384)
    (hx : ∀ k : Fin 1024, x (ix2 r k) = b0 V (ix2 R k)) (g : Fin 4) (e : Fin 8) :
    weightsOf x (b1 V) (b2 V) (b4 V) (b5 V) (ix2 r (expertLane g e)) = weight (logitRow V R) (base V R) (bases V R) g e := by
  choose l hl using fun k => logits_real V h R k
  obtain ⟨u, hu⟩ := base_real V h R
  choose us hus using bases_real V h R
  obtain ⟨p, a, b, hp, ha, hb, q⟩ := share_weight l u us
  have hv : ∀ k : Fin 128, logitsOf x (b1 V) (b2 V) (b4 V) (b5 V) (ix2 r k) = (l k : EReal) := fun k => (logits_row V x r R hx k).trans (hl k)
  have hf : (fun k : Fin 128 => logitsOf x (b1 V) (b2 V) (b4 V) (b5 V) (ix2 r k)) = fun k => (l k : EReal) := funext hv
  rw [show logitRow V R = fun k => (l k : EReal) from funext hl, hu, show bases V R = fun g => (us g : EReal) from funext hus, ← q g e]
  refine (combine_row _ _ r (fun k => masked_row x r (b1 V) (b2 V) (b4 V) (b5 V) k) (hf ▸ hp) (hf ▸ ha) (hf ▸ hb) (expertLane g e)).trans ?_
  unfold share
  simp only [hv]

/-- A hidden column of quarter `j`. -/
def column (j : Fin 4) (y : Fin 2048) : Fin 8192 := ⟨2048 * j.val + y.val, by omega⟩

/-- Its group is the quarter. -/
theorem group_column (j : Fin 4) (y : Fin 2048) : groupOf (column j y) = j :=
  Fin.ext (by show (2048 * j.val + y.val) / 256 / 8 = j.val; omega)

/-- Its expert is that of its place in the quarter. -/
theorem member_column (j : Fin 4) (y : Fin 2048) : memberOf (column j y) = expertOf y :=
  Fin.ext (by show (2048 * j.val + y.val) / 256 % 8 = y.val / 256; omega)

/-- The sum over all hidden columns, quarter by quarter. -/
theorem columns_sum (f : Fin 8192 → EReal) : ∑ x : Fin 8192, f x =
    0 + ∑ y : Fin 2048, f (column 0 y) + ∑ y : Fin 2048, f (column 1 y) + ∑ y : Fin 2048, f (column 2 y) + ∑ y : Fin 2048, f (column 3 y) := by
  have e : ∑ x : Fin 8192, f x = ∑ p : Fin 4 × Fin 2048, f (column p.1 p.2) :=
    (Fintype.sum_equiv (finProdFinEquiv (m := 4) (n := 2048)) (fun p => f (column p.1 p.2)) f
      (fun p => congrArg f (Fin.ext (by show 2048 * p.1.val + p.2.val = p.2.val + 2048 * p.1.val; omega)))).symm
  rw [e, Fintype.sum_prod_type, Fin.sum_univ_four, zero_add]

section Turn

variable (j : Fin 4) (h : Vec Ideal S512x1024 .bf16) (x6 x7 : Vec Ideal S1024x2048 .bf16) (r : Fin 512) (R : Fin 16384)

set_option maxHeartbeats 4000000 in
/-- A turn's hidden columns are the reference's of that quarter. -/
theorem hidden_row (hh : ∀ k : Fin 1024, h (ix2 r k) = res_main_v27 V (ix2 R k)) (h6 : ∀ (k : Fin 1024) (y : Fin 2048), x6 (ix2 k y) = b6 V (ix2 k (column j y)))
    (h7 : ∀ (k : Fin 1024) (y : Fin 2048), x7 (ix2 k y) = b7 V (ix2 k (column j y))) (y : Fin 2048) :
    k0_pay18 (F := Ideal) h x6 x7 (ix2 r y) = hidden V R (column j y) := by
  pointwise [k0_pay18]
  simp only [hh, h6, h7, zero_sub]
  rfl

/-- A turn adds the terms of its quarter. -/
theorem turn_adds (i : grid0.Coords) (hj : (i 1).val = j.val) (w : Vec Ideal S512x128 .f32) (x8 : Vec Ideal S2048x1024 .bf16) (a : Vec Ideal S512x1024 .f32)
    (hh : ∀ k : Fin 1024, h (ix2 r k) = res_main_v27 V (ix2 R k)) (hw : ∀ g e, w (ix2 r (expertLane g e)) = weight (logitRow V R) (base V R) (bases V R) g e)
    (h6 : ∀ (k : Fin 1024) (y : Fin 2048), x6 (ix2 k y) = b6 V (ix2 k (column j y))) (h7 : ∀ (k : Fin 1024) (y : Fin 2048), x7 (ix2 k y) = b7 V (ix2 k (column j y)))
    (h8 : ∀ (y : Fin 2048) (n : Fin 1024), x8 (ix2 y n) = b8 V (ix2 (column j y) n)) (n : Fin 1024) :
    turn i h w x6 x7 x8 a (ix2 r n) = a (ix2 r n) + (∑ y : Fin 2048, term V R n (column j y) : EReal) := by
  refine (turn_row i h w x6 x7 x8 a j hj r n).trans (congrArg (fun z : EReal => a (ix2 r n) + z) (Finset.sum_congr rfl fun y _ => ?_))
  unfold term
  rw [hidden_row V j h x6 x7 r R hh h6 h7 y, hw, h8, group_column, member_column]

end Turn

end Cert.Experts
-- ==== Proof.MoeValue.lean ====
module

public import proofs.«01_k».proof.Proof.MoeRouted

@[expose] public section

noncomputable section

/-! From one block row to the whole result: over a block's four points the state goes from the first quarter's terms to all of
    them, the last point writes the reference's rows back, and the blocks make up the result. -/

namespace Cert.Experts

open Idealize.ShloMosaic Idealize.ShloMosaic.TcCoe Idealize.SL.Sem
open Cert.MoeIdeal Cert.MoeIdeal.Gen Cert.MoeIdeal.Value
open Cert.MoeReferenceIdeal.Value (res_main_v27 res_main_v33 res_main_v125)
open Idealize.ShloMosaic.Pipeline (Dat)

variable [Cert.MoeReferenceIdeal.Facts]

variable (m : (ℓ : Loc nD τ sig) → Buf (Elt Ideal) ℓ) (m' : (ℓ : Loc Cert.MoeReferenceIdeal.nD Cert.MoeReferenceIdeal.τ Cert.MoeReferenceIdeal.sig) → Buf (Elt Ideal) ℓ) (c : Dev nD)

/-- The two programs are given the same arrays. -/
abbrev Same : Prop :=
  m' ((c.tc : Thread Cert.MoeReferenceIdeal.nD Cert.MoeReferenceIdeal.τ).loc Cert.MoeReferenceIdeal.main_arg0) = m ((c.tc : Thread nD τ).loc main_arg0) ∧ m' ((c.tc : Thread Cert.MoeReferenceIdeal.nD Cert.MoeReferenceIdeal.τ).loc Cert.MoeReferenceIdeal.main_arg1) = m ((c.tc : Thread nD τ).loc main_arg1) ∧ m' ((c.tc : Thread Cert.MoeReferenceIdeal.nD Cert.MoeReferenceIdeal.τ).loc Cert.MoeReferenceIdeal.main_arg2) = m ((c.tc : Thread nD τ).loc main_arg2) ∧ m' ((c.tc : Thread Cert.MoeReferenceIdeal.nD Cert.MoeReferenceIdeal.τ).loc Cert.MoeReferenceIdeal.main_arg3) = m ((c.tc : Thread nD τ).loc main_arg3) ∧ m' ((c.tc : Thread Cert.MoeReferenceIdeal.nD Cert.MoeReferenceIdeal.τ).loc Cert.MoeReferenceIdeal.main_arg4) = m ((c.tc : Thread nD τ).loc main_arg4) ∧ m' ((c.tc : Thread Cert.MoeReferenceIdeal.nD Cert.MoeReferenceIdeal.τ).loc Cert.MoeReferenceIdeal.main_arg5) = m ((c.tc : Thread nD τ).loc main_arg5) ∧ m' ((c.tc : Thread Cert.MoeReferenceIdeal.nD Cert.MoeReferenceIdeal.τ).loc Cert.MoeReferenceIdeal.main_arg6) = m ((c.tc : Thread nD τ).loc main_arg6) ∧ m' ((c.tc : Thread Cert.MoeReferenceIdeal.nD Cert.MoeReferenceIdeal.τ).loc Cert.MoeReferenceIdeal.main_arg7) = m ((c.tc : Thread nD τ).loc main_arg7) ∧ m' ((c.tc : Thread Cert.MoeReferenceIdeal.nD Cert.MoeReferenceIdeal.τ).loc Cert.MoeReferenceIdeal.main_arg8) = m ((c.tc : Thread nD τ).loc main_arg8)

/-- The arrays the reference is given. -/
abbrev given : Valuation Cert.MoeReferenceIdeal.τ Cert.MoeReferenceIdeal.sig (Elt Ideal) := StableHlo.launchContents m' c

/-- A place in a table is the pair of its coordinates. -/
theorem pair {a b : Nat} (i : (Shape.mk 2 ![a, b]).Idx) (r : Fin a) (k : Fin b) (h0 : (i 0).val = r.val) (h1 : (i 1).val = k.val) :
    i = ix2 r k := by
  funext d
  match d with
  | ⟨0, _⟩ => exact Fin.ext h0
  | ⟨1, _⟩ => exact Fin.ext h1

section Windows

variable (t : Fin cfg0.N)

/-- The modulation, whole at every point. -/
theorem whole1 (h : Same m m' c) : iblk m c 1 t = b1 (given m' c) := by
  refine Eq.trans ?_ (h.2.1).symm
  funext y
  show m ((c.tc : Thread nD τ).loc main_arg1) (((cfg0.win 1).blk t).view.emb y) = m ((c.tc : Thread nD τ).loc main_arg1) y
  exact congrArg _ ((pair _ (y 0) (y 1) (by show 0 * 6 + 1 * (y 0).val = (y 0).val; omega) (by show 0 * 1024 + 1 * (y 1).val = (y 1).val; omega)).trans (pair _ _ _ rfl rfl).symm)

/-- The first scale, whole at every point. -/
theorem whole2 (h : Same m m' c) : iblk m c 2 t = b2 (given m' c) := by
  refine Eq.trans ?_ (h.2.2.1).symm
  funext y
  show m ((c.tc : Thread nD τ).loc main_arg2) (((cfg0.win 2).blk t).view.emb y) = m ((c.tc : Thread nD τ).loc main_arg2) y
  exact congrArg _ ((pair _ (y 0) (y 1) (by show 0 * 1 + 1 * (y 0).val = (y 0).val; omega) (by show 0 * 1024 + 1 * (y 1).val = (y 1).val; omega)).trans (pair _ _ _ rfl rfl).symm)

/-- The second scale, whole at every point. -/
theorem whole3 (h : Same m m' c) : iblk m c 3 t = b3 (given m' c) := by
  refine Eq.trans ?_ (h.2.2.2.1).symm
  funext y
  show m ((c.tc : Thread nD τ).loc main_arg3) (((cfg0.win 3).blk t).view.emb y) = m ((c.tc : Thread nD τ).loc main_arg3) y
  exact congrArg _ ((pair _ (y 0) (y 1) (by show 0 * 1 + 1 * (y 0).val = (y 0).val; omega) (by show 0 * 1024 + 1 * (y 1).val = (y 1).val; omega)).trans (pair _ _ _ rfl rfl).symm)

/-- The router's array, whole at every point. -/
theorem whole4 (h : Same m m' c) : iblk m c 4 t = b4 (given m' c) := by
  refine Eq.trans ?_ (h.2.2.2.2.1).symm
  funext y
  show m ((c.tc : Thread nD τ).loc main_arg4) (((cfg0.win 4).blk t).view.emb y) = m ((c.tc : Thread nD τ).loc main_arg4) y
  exact congrArg _ ((pair _ (y 0) (y 1) (by show 0 * 1024 + 1 * (y 0).val = (y 0).val; omega) (by show 0 * 128 + 1 * (y 1).val = (y 1).val; omega)).trans (pair _ _ _ rfl rfl).symm)

/-- The router's offsets, whole at every point. -/
theorem whole5 (h : Same m m' c) : iblk m c 5 t = b5 (given m' c) := by
  refine Eq.trans ?_ (h.2.2.2.2.2.1).symm
  funext y
  show m ((c.tc : Thread nD τ).loc main_arg5) (((cfg0.win 5).blk t).view.emb y) = m ((c.tc : Thread nD τ).loc main_arg5) y
  exact congrArg _ ((pair _ (y 0) (y 1) (by show 0 * 1 + 1 * (y 0).val = (y 0).val; omega) (by show 0 * 128 + 1 * (y 1).val = (y 1).val; omega)).trans (pair _ _ _ rfl rfl).symm)

/-- Where each window lies at each grid point, and the point's second coordinate. -/
theorem moves : ∀ t : Fin cfg0.N, (win0_0.index t 0 = t.val / 4 ∧ win0_0.index t 1 = 0) ∧ (win0_6.index t 0 = 0 ∧ win0_6.index t 1 = t.val % 4) ∧
    (win0_7.index t 0 = 0 ∧ win0_7.index t 1 = t.val % 4) ∧ (win0_8.index t 0 = t.val % 4 ∧ win0_8.index t 1 = 0) ∧ (grid0.coords t 1).val = t.val % 4 :=
  (by decide +kernel : ∀ t : Fin grid0.N, _)

variable (h : Same m m' c)
include h

/-- A block's rows of the first argument. -/
theorem rows_window (r : Fin 512) (R : Fin 16384) (hR : R.val = t.val / 4 * 512 + r.val) (k : Fin 1024) :
    iblk m c 0 t (ix2 r k) = b0 (given m' c) (ix2 R k) := by
  show m ((c.tc : Thread nD τ).loc main_arg0) (((cfg0.win 0).blk t).view.emb (ix2 r k)) = m' ((c.tc : Thread Cert.MoeReferenceIdeal.nD Cert.MoeReferenceIdeal.τ).loc Cert.MoeReferenceIdeal.main_arg0) (ix2 R k)
  rw [h.1]
  refine congrArg _ (pair _ _ _ ?_ ?_)
  · show win0_0.index t 0 * 512 + 1 * r.val = R.val; rw [(moves t).1.1]; omega
  · show win0_0.index t 1 * 1024 + 1 * k.val = k.val; rw [(moves t).1.2]; omega

variable (j : Fin 4) (hj : t.val % 4 = j.val)
include hj

/-- A quarter of the gating array. -/
theorem gate_window (k : Fin 1024) (y : Fin 2048) : iblk m c 6 t (ix2 k y) = b6 (given m' c) (ix2 k (column j y)) := by
  show m ((c.tc : Thread nD τ).loc main_arg6) (((cfg0.win 6).blk t).view.emb (ix2 k y)) = m' ((c.tc : Thread Cert.MoeReferenceIdeal.nD Cert.MoeReferenceIdeal.τ).loc Cert.MoeReferenceIdeal.main_arg6) (ix2 k (column j y))
  rw [h.2.2.2.2.2.2.1]
  refine congrArg _ (pair _ _ _ ?_ ?_)
  · show win0_6.index t 0 * 1024 + 1 * k.val = k.val; rw [(moves t).2.1.1]; omega
  · show win0_6.index t 1 * 2048 + 1 * y.val = 2048 * j.val + y.val; rw [(moves t).2.1.2]; omega

/-- A quarter of the other array. -/
theorem up_window (k : Fin 1024) (y : Fin 2048) : iblk m c 7 t (ix2 k y) = b7 (given m' c) (ix2 k (column j y)) := by
  show m ((c.tc : Thread nD τ).loc main_arg7) (((cfg0.win 7).blk t).view.emb (ix2 k y)) = m' ((c.tc : Thread Cert.MoeReferenceIdeal.nD Cert.MoeReferenceIdeal.τ).loc Cert.MoeReferenceIdeal.main_arg7) (ix2 k (column j y))
  rw [h.2.2.2.2.2.2.2.1]
  refine congrArg _ (pair _ _ _ ?_ ?_)
  · show win0_7.index t 0 * 1024 + 1 * k.val = k.val; rw [(moves t).2.2.1.1]; omega
  · show win0_7.index t 1 * 2048 + 1 * y.val = 2048 * j.val + y.val; rw [(moves t).2.2.1.2]; omega

/-- A quarter of the array that leads back. -/
theorem down_window (y : Fin 2048) (n : Fin 1024) : iblk m c 8 t (ix2 y n) = b8 (given m' c) (ix2 (column j y) n) := by
  show m ((c.tc : Thread nD τ).loc main_arg8) (((cfg0.win 8).blk t).view.emb (ix2 y n)) = m' ((c.tc : Thread Cert.MoeReferenceIdeal.nD Cert.MoeReferenceIdeal.τ).loc Cert.MoeReferenceIdeal.main_arg8) (ix2 (column j y) n)
  rw [h.2.2.2.2.2.2.2.2]
  refine congrArg _ (pair _ _ _ ?_ ?_)
  · show win0_8.index t 0 * 2048 + 1 * y.val = 2048 * j.val + y.val; rw [(moves t).2.2.2.1.1]; omega
  · show win0_8.index t 1 * 1024 + 1 * n.val = n.val; rw [(moves t).2.2.2.1.2]; omega

end Windows

/-- The state between two points of a block, at row `r` of the block and `R` of the whole: the row is normalised, the experts are
    weighed, and the sum so far is `p`. -/
structure Underway (V : Valuation Cert.MoeReferenceIdeal.τ Cert.MoeReferenceIdeal.sig (Elt Ideal)) (r : Fin 512) (R : Fin 16384)
    (s : Vec Ideal S512x1024 .f32 × Vec Ideal S512x1024 .bf16 × Vec Ideal S512x128 .f32 × Vec Ideal S512x1024 .f32) (p : Fin 1024 → EReal) : Prop where
  rows : ∀ k : Fin 1024, s.2.1 (ix2 r k) = res_main_v27 V (ix2 R k)
  weights : ∀ g e, s.2.2.1 (ix2 r (expertLane g e)) = weight (logitRow V R) (base V R) (bases V R) g e
  sum : ∀ n : Fin 1024, s.2.2.2 (ix2 r n) = p n

section Points

variable (h : Same m m' c) (t : Fin cfg0.N) (r : Fin 512) (R : Fin 16384) (hR : R.val = t.val / 4 * 512 + r.val)
  (s : Vec Ideal S512x1024 .f32 × Vec Ideal S512x1024 .bf16 × Vec Ideal S512x128 .f32 × Vec Ideal S512x1024 .f32) (p : Fin 1024 → EReal)
include h hR

set_option maxHeartbeats 4000000 in
/-- A block's first point. -/
theorem first_point (hf : RealArrays (given m' c)) (ht : t.val % 4 = 0) :
    Underway (given m' c) r R (stAt0 m c t.val t.isLt s) fun n => 0 + ∑ y : Fin 2048, term (given m' c) R n (column 0 y) := by
  have h1 : ¬t.val % 4 = 3 := by omega
  have er : ∀ k : Fin 1024, rowsOf (iblk m c 0 t) (iblk m c 1 t) (iblk m c 2 t) (ix2 r k) = res_main_v27 (given m' c) (ix2 R k) := by
    rw [whole1 m m' c t h, whole2 m m' c t h]
    exact rows_row (given m' c) _ r R (rows_window m m' c t h r R hR)
  have ew : ∀ g e, weightsOf (iblk m c 0 t) (iblk m c 1 t) (iblk m c 2 t) (iblk m c 4 t) (iblk m c 5 t) (ix2 r (expertLane g e)) =
      weight (logitRow (given m' c) R) (base (given m' c) R) (bases (given m' c) R) g e := by
    rw [whole1 m m' c t h, whole2 m m' c t h, whole4 m m' c t h, whole5 m m' c t h]
    exact weights_row (given m' c) hf _ r R (rows_window m m' c t h r R hR)
  refine ⟨fun k => ?_, fun g e => ?_, fun n => ?_⟩
  · rw [first_rows m c t s ht h1]; exact er k
  · rw [first_weights m c t s ht h1]; exact ew g e
  · rw [first_turn m c t s ht h1]
    refine (turn_adds (given m' c) 0 _ _ _ r R _ ((moves t).2.2.2.2.trans ht) _ _ _ er ew (gate_window m m' c t h 0 ht) (up_window m m' c t h 0 ht) (down_window m m' c t h 0 ht) n).trans ?_
    refine congrArg (fun z : EReal => z + _) ?_
    pointwise [k0_pay17]

/-- A block's second or third point. -/
theorem middle_point (j : Fin 4) (hj : t.val % 4 = j.val) (h0 : j ≠ 0) (h3 : j ≠ 3) (u : Underway (given m' c) r R s p) :
    Underway (given m' c) r R (stAt0 m c t.val t.isLt s) fun n => p n + ∑ y : Fin 2048, term (given m' c) R n (column j y) := by
  have e := middle_turn m c t s (fun e => h0 (Fin.ext (hj.symm.trans e))) (fun e => h3 (Fin.ext (hj.symm.trans e)))
  refine ⟨fun k => ?_, fun g k => ?_, fun n => ?_⟩
  · rw [e]; exact u.rows k
  · rw [e]; exact u.weights g k
  · rw [e]
    refine (turn_adds (given m' c) j _ _ _ r R _ ((moves t).2.2.2.2.trans hj) _ _ _ u.rows u.weights (gate_window m m' c t h j hj) (up_window m m' c t h j hj) (down_window m m' c t h j hj) n).trans ?_
    rw [u.sum n]

/-- A block's last point writes the reference's row. -/
theorem last_point (hj : t.val % 4 = 3) (u : Underway (given m' c) r R s p)
    (hp : ∀ n, ∑ x : Fin 8192, term (given m' c) R n x = p n + ∑ y : Fin 2048, term (given m' c) R n (column 3 y)) (n : Fin 1024) :
    (stAt0 m c t.val t.isLt s).1 (ix2 r n) = outcome (given m' c) (ix2 R n) := by
  rw [last_turn m c t s (by omega) hj, whole1 m m' c t h, whole3 m m' c t h]
  refine result_row (given m' c) _ r R (rows_window m m' c t h r R hR) _ (fun k => ?_) n
  refine (turn_adds (given m' c) 3 _ _ _ r R _ ((moves t).2.2.2.2.trans hj) _ _ _ u.rows u.weights (gate_window m m' c t h 3 hj) (up_window m m' c t h 3 hj) (down_window m m' c t h 3 hj) k).trans ?_
  rw [u.sum k]
  exact (hp k).symm.trans (experts_sum (given m' c) R k).symm

end Points

/-- Every point's state is a step from some state. -/
theorem some_step (n : ℕ) (hn : n < cfg0.N) : ∃ s, outsAt0 m c n hn = stAt0 m c n hn s := by
  cases n with
  | zero => exact ⟨_, outsAt0_zero m c hn⟩
  | succ n => exact ⟨_, outsAt0_succ m c n hn⟩

/-- What a block's last point leaves is the reference's block. -/
theorem block (h : Same m m' c) (hf : RealArrays (given m' c)) (b : ℕ) (hb : 4 * b + 3 < cfg0.N) (r : Fin 512) (R : Fin 16384) (hR : R.val = b * 512 + r.val) (n : Fin 1024) :
    (outsAt0 m c (4 * b + 3) hb).1 (ix2 r n) = outcome (given m' c) (ix2 R n) := by
  obtain ⟨s, e0⟩ := some_step m c (4 * b) (by omega)
  have u0 := first_point m m' c h ⟨4 * b, by omega⟩ r R (by dsimp only; omega) s hf (by dsimp only; omega)
  rw [← e0] at u0
  have u1 := middle_point m m' c h ⟨4 * b + 1, by omega⟩ r R (by dsimp only; omega) _ _ 1 (by show (4 * b + 1) % 4 = 1; omega) (by decide) (by decide) u0
  have u2 := middle_point m m' c h ⟨4 * b + 2, by omega⟩ r R (by dsimp only; omega) _ _ 2 (by show (4 * b + 2) % 4 = 2; omega) (by decide) (by decide) u1
  have e1 := outsAt0_succ m c (4 * b) (by omega)
  have e2 := outsAt0_succ m c (4 * b + 1) (by omega)
  have e3 := outsAt0_succ m c (4 * b + 2) hb
  rw [e2, e1] at e3
  have q := last_point m m' c h ⟨4 * b + 3, hb⟩ r R (by dsimp only; omega) _ _ (by dsimp only; omega) u2 (fun n => columns_sum (term (given m' c) R n)) n
  exact (congrArg (fun s => s.1 (ix2 r n)) e3).trans q

/-- The call's result is the reference's. -/
theorem result (h : Same m m' c) (hf : RealArrays (given m' c)) : G9 m c = outcome (given m' c) := by
  funext i
  have i0 : (i 0).val < 16384 := (i 0).isLt
  have i1 : (i 1).val < 1024 := (i 1).isLt
  have hp : pt9Of i < cfg0.N := lt_of_lt_of_eq (by show 4 * (1 * ((i 0).val / 512 - 0) + 1 * ((i 1).val / 1024 - 0)) + 3 < 128; omega) N_0.symm
  unfold G9
  rw [dif_pos hp, ← outsAt0_sweep m c (pt9Of i) hp]
  have e : loc9Of i = ix2 (⟨(i 0).val % 512, by omega⟩ : Fin 512) (⟨(i 1).val, i1⟩ : Fin 1024) :=
    pair _ _ _ rfl (by show (i 1).val % 1024 = (i 1).val; omega)
  have d : i = ix2 (⟨(i 0).val, i0⟩ : Fin 16384) (⟨(i 1).val, i1⟩ : Fin 1024) := pair _ _ _ rfl rfl
  rw [e]
  refine (block m m' c h hf (run9Of i) hp _ ⟨(i 0).val, i0⟩ ?_ _).trans (congrArg _ d.symm)
  show (i 0).val = (1 * ((i 0).val / 512 - 0) + 1 * ((i 1).val / 1024 - 0)) * 512 + (i 0).val % 512
  omega

end Cert.Experts
-- ==== Proof.MoeClaims.lean ====
module

public import proofs.«01_k».proof.Defs
public import proofs.«01_k».proof.Proof.Gen.Moe.Frame
public import proofs.«01_k».proof.Proof.Gen.MoeIdeal.Frame
public import proofs.«01_k».proof.Proof.MoeFinite
public import proofs.«01_k».proof.Proof.MoeValue

@[expose] public section

noncomputable section

/-! The claims about the experts' call. -/

namespace Cert.Experts

open Idealize.ShloMosaic Idealize.ShloMosaic.TcCoe Idealize.SL.Sem

variable [Cert.Pre_finite.Facts]

/-- The printed call's frame: it ends, faults nowhere, leaves its arguments alone and every counter at nought. -/
theorem frame_printed : Cert.quiescent_Moe := fun m ρ _ => Cert.Moe.Gen.frame (F := Bits) m ρ

/-- The idealized call's frame, from any arrays. -/
theorem frame_ideal_any : Cert.quiescent_MoeIdeal_pre_none := fun m ρ _ => Cert.MoeIdeal.Gen.frame (F := Ideal) m ρ

/-- The idealized call's frame, from finite arrays. -/
theorem frame_ideal : Cert.quiescent_MoeIdeal := fun m ρ _ => Cert.MoeIdeal.Gen.frame (F := Ideal) m ρ

/-- The reference's frame, from any arrays: it leaves its arguments alone, and it has no counters. -/
theorem frame_reference : Cert.quiescent_MoeReferenceIdeal := fun m ρ _ =>
  (θ_run Cert.MoeReferenceIdeal.defs _ _).mono (fun r q => ⟨fun c => (q c).2, sem_eq_zero_of_no_sems (by decide) r.2⟩)
    (Cert.MoeReferenceIdeal.Value.run (F := Ideal) m ρ)

/-- The reference's frame, from finite arrays. -/
theorem frame_reference_finite : Cert.quiescent_MoeReferenceIdeal_pre_finite := fun m ρ _ => frame_reference m ρ trivial

/-- The precondition makes the arrays that the router reads real. -/
theorem real_arrays (m : (ℓ : Loc Cert.MoeIdeal.nD Cert.MoeIdeal.τ Cert.MoeIdeal.sig) → Buf (Elt Ideal) ℓ)
    (m' : (ℓ : Loc Cert.MoeReferenceIdeal.nD Cert.MoeReferenceIdeal.τ Cert.MoeReferenceIdeal.sig) → Buf (Elt Ideal) ℓ) (c : Dev Cert.MoeIdeal.nD)
    (p : Cert.Pre_MoeIdeal m) (h : Same m m' c) : RealArrays (given m' c) := by
  obtain ⟨e0, e1, e2, e4, e5⟩ := finite_entries _ _ _ _ _ _ _ _ _ (p c)
  obtain ⟨h0, h1, h2, _, h4, h5, _⟩ := h
  exact ⟨fun i => (congrArg Plain (congrFun h0 i)).mpr (e0 i),
    fun i => (congrArg Plain (congrFun h1 i)).mpr (e1 i),
    fun i => (congrArg Plain (congrFun h2 i)).mpr (e2 i),
    fun i => (congrArg Plain (congrFun h4 i)).mpr (e4 i),
    fun i => (congrArg Plain (congrFun h5 i)).mpr (e5 i)⟩

/-- From arrays that agree, and that are finite where the router reads them, the call and its reference end with the same result. -/
theorem algebraic : Cert.algebraic_MoeIdeal_MoeReferenceIdeal := fun m g m' g' p h =>
  ⟨fun c => outcome (given m' c),
    (θ_run Cert.MoeIdeal.defs _ _).mono (fun _ q c => ⟨(q c).1.trans (result m m' c (h c) (real_arrays m m' c p (h c))), (q c).2⟩)
      (Cert.MoeIdeal.Value.run m g),
    (θ_run Cert.MoeReferenceIdeal.defs _ _).mono (fun _ q c => q c) (Cert.MoeReferenceIdeal.Value.run m' g')⟩

end Cert.Experts
-- ==== Proof.lean ====
module

public import proofs.«01_k».proof.Defs
public import proofs.«01_k».proof.Proof.Gen.Kernel
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixReferenceIdeal.Run
public import proofs.«01_k».proof.Proof.Gen.Moe.Frame
public import proofs.«01_k».proof.Proof.Gen.MoeIdeal.Frame
public import proofs.«01_k».proof.Proof.Gen.MoeIdeal.Value
public import proofs.«01_k».proof.Proof.Gen.MoeReferenceIdeal.Run
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Whole
public import proofs.«01_k».proof.Proof.MergeClaims
public import proofs.«01_k».proof.Proof.MixClaims
public import proofs.«01_k».proof.Proof.MoeClaims
public import Idealize.ShloMosaic.Adequacy
public import Idealize.ShloMosaic.Init

@[expose] public section

/-- Every claim that was asked for. -/
theorem Cert.Proof.claim : Cert.Claim := by
  have pre := Cert.Experts.finite_facts
  exact ⟨Cert.Kernel.Gen.facts, Cert.Merge.Gen.facts, Cert.MergeIdeal.Gen.facts, Cert.MergeReferenceIdeal.Gen.facts, Cert.Mix.Gen.facts,
    Cert.MixIdeal.Gen.facts, Cert.MixReferenceIdeal.Gen.facts, Cert.Moe.Gen.facts, Cert.MoeIdeal.Gen.facts, Cert.MoeReferenceIdeal.Gen.facts, pre,
    fun m ρ _ => Cert.Kernel.Hand.quiet m ρ, Cert.Blend.frame_printed, Cert.Blend.frame_ideal, Cert.Blend.frame_reference,
    Cert.Project.frame_printed, Cert.Project.frame_ideal, Cert.Project.frame_reference, Cert.Experts.frame_printed, Cert.Experts.frame_ideal,
    Cert.Experts.frame_ideal_any, Cert.Experts.frame_reference, Cert.Experts.frame_reference_finite, trivial, Cert.Blend.algebraic, trivial,
    Cert.Project.algebraic, trivial, Cert.Experts.algebraic⟩
